-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v123) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v38)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts.lean ====
abbrev S40960x2048 : Shape := ⟨2, ![40960, 2048]⟩
abbrev S8x2048x14336 : Shape := ⟨3, ![8, 2048, 14336]⟩
abbrev S8x7168x2048 : Shape := ⟨3, ![8, 7168, 2048]⟩
abbrev S40 : Shape := ⟨1, ![40]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S40960x2048 .f32) (main_arg1 : FVec F S8x2048x14336 .f32) (main_arg2 : FVec F S8x7168x2048 .f32) (main_arg3 : IVec S40 32) (main_arg4 : IVec S40 32) : IVec S_ 1 :=
  let main_c : IVec S_ 32 := constantI S_ 32 0#32
  let main_v0 : IVec S40 32 := broadcastInDim S40 ![] bcast_S_S40 main_c
  let main_v1 : IVec S40 1 := cmpi .sge main_arg3 main_v0
  let main_c_0 : IVec S_ 32 := constantI S_ 32 8#32
  let main_v2 : IVec S40 32 := broadcastInDim S40 ![] bcast_S_S40 main_c_0
  let main_v3 : IVec S40 1 := cmpi .slt main_arg3 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S4x4096x8x64 : Shape := ⟨4, ![4, 4096, 8, 64]⟩
abbrev S4x256x8x64 : Shape := ⟨4, ![4, 256, 8, 64]⟩
abbrev S2x8 : Shape := ⟨2, ![2, 8]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x256x8x64 : S_.BroadcastsInDim S4x256x8x64 (![] : Fin 0 → Fin S4x256x8x64.rank)
  reducesTo_S4x256x8x64_S_d0_1_2_3 : S4x256x8x64.ReducesTo [0, 1, 2, 3] S_

variable [Facts]

def fn_part1 {F : FTy → Type} [FloatOps F] (main_arg4 : FVec F S4x256x8x64 .f32) (main_arg5 : FVec F S4x256x8x64 .f32) (main_v13 : IVec S_ 1) (main_v16 : IVec S4x256x8x64 1) : IVec S_ 1 :=
  let main_c_5 : IVec S_ 1 := constantI S_ 1 1#1
  let main_v17 : IVec S_ 1 := (fun x v => Host.reduce IntOp.andi x v reducesTo_S4x256x8x64_S_d0_1_2_3 h_S_) main_v16 main_c_5
  let main_v18 : IVec S_ 1 := andi main_v13 main_v17
  let main_v19 : FVec F S4x256x8x64 .f32 := Host.absf main_arg4
  let main_cst_6 : FVec F S_ .f32 := constant S_ .f32 0x7F800000#32
  let main_v20 : FVec F S4x256x8x64 .f32 := broadcastInDim S4x256x8x64 ![] bcast_S_S4x256x8x64 main_cst_6
  let main_v21 : IVec S4x256x8x64 1 := cmpf .olt main_v19 main_v20
  let main_c_7 : IVec S_ 1 := constantI S_ 1 1#1
  let main_v22 : IVec S_ 1 := (fun x v => Host.reduce IntOp.andi x v reducesTo_S4x256x8x64_S_d0_1_2_3 h_S_) main_v21 main_c_7
  let main_v23 : IVec S_ 1 := andi main_v18 main_v22
  let main_v24 : FVec F S4x256x8x64 .f32 := Host.absf main_arg5
  let main_cst_8 : FVec F S_ .f32 := constant S_ .f32 0x7F800000#32
  let main_v25 : FVec F S4x256x8x64 .f32 := broadcastInDim S4x256x8x64 ![] bcast_S_S4x256x8x64 main_cst_8
  let main_v26 : IVec S4x256x8x64 1 := cmpf .olt main_v24 main_v25
  let main_c_9 : IVec S_ 1 := constantI S_ 1 1#1
  let main_v27 : IVec S_ 1 := (fun x v => Host.reduce IntOp.andi x v reducesTo_S4x256x8x64_S_d0_1_2_3 h_S_) main_v26 main_c_9
  let main_v28 : IVec S_ 1 := andi main_v23 main_v27
  main_v28

def fn {F : FTy → Type} [FloatOps F] (main_arg0 : FVec F S4x4096x8x64 .f32) (main_arg1 : FVec F S4x4096x8x64 .f32) (main_arg2 : FVec F S4x4096x8x64 .f32) (main_arg3 : FVec F S4x256x8x64 .f32) (main_arg4 : FVec F S4x256x8x64 .f32) (main_arg5 : FVec F S4x256x8x64 .f32) (main_arg6 : FVec F S2x8 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x4096x8x64 .f32 := Host.absf main_arg2
  let main_cst_2 : FVec F S_ .f32 := constant S_ .f32 0x7F800000#32
  let main_v10 : FVec F S4x4096x8x64 .f32 := broadcastInDim S4x4096x8x64 ![] bcast_S_S4x4096x8x64 main_cst_2
  let main_v11 : IVec S4x4096x8x64 1 := cmpf .olt main_v9 main_v10
  let main_c_3 : IVec S_ 1 := constantI S_ 1 1#1
  let main_v12 : IVec S_ 1 := (fun x v => Host.reduce IntOp.andi x v reducesTo_S4x4096x8x64_S_d0_1_2_3 h_S_) main_v11 main_c_3
  let main_v13 : IVec S_ 1 := andi main_v8 main_v12
  let main_v14 : FVec F S4x256x8x64 .f32 := Host.absf main_arg3
  let main_cst_4 : FVec F S_ .f32 := constant S_ .f32 0x7F800000#32
  let main_v15 : FVec F S4x256x8x64 .f32 := broadcastInDim S4x256x8x64 ![] bcast_S_S4x256x8x64 main_cst_4
  let main_v16 : IVec S4x256x8x64 1 := cmpf .olt main_v14 main_v15
  fn_part1 (F := F) main_arg4 main_arg5 main_v13 main_v16
-- ==== Kernel.lean ====
abbrev S4x4096x8x64 : Shape := ⟨4, ![4, 4096, 8, 64]⟩
abbrev S4x256x8x64 : Shape := ⟨4, ![4, 256, 8, 64]⟩
abbrev S2x8 : Shape := ⟨2, ![2, 8]⟩
abbrev S_ : Shape := ⟨0, ![]⟩
abbrev S17408x512 : Shape := ⟨2, ![17408, 512]⟩
abbrev S17408x1280 : Shape := ⟨2, ![17408, 1280]⟩
abbrev S16384x512 : Shape := ⟨2, ![16384, 512]⟩
abbrev S1024x512 : Shape := ⟨2, ![1024, 512]⟩
abbrev S17408x2816 : Shape := ⟨2, ![17408, 2816]⟩
abbrev S17408x3072 : Shape := ⟨2, ![17408, 3072]⟩
abbrev S17408x1792 : Shape := ⟨2, ![17408, 1792]⟩
abbrev S17408x5376 : Shape := ⟨2, ![17408, 5376]⟩
abbrev S2x8x1 : Shape := ⟨3, ![2, 8, 1]⟩
abbrev S2x8x128 : Shape := ⟨3, ![2, 8, 128]⟩
abbrev S256x512 : Shape := ⟨2, ![256, 512]⟩
abbrev S2x4x128x128 : Shape := ⟨4, ![2, 4, 128, 128]⟩
abbrev S2x4x512x256 : Shape := ⟨4, ![2, 4, 512, 256]⟩
abbrev S2x4x256x128 : Shape := ⟨4, ![2, 4, 256, 128]⟩
abbrev S256x128 : Shape := ⟨2, ![256, 128]⟩
abbrev S128x128 : Shape := ⟨2, ![128, 128]⟩
abbrev S256x256 : Shape := ⟨2, ![256, 256]⟩
abbrev S1x1x128 : Shape := ⟨3, ![1, 1, 128]⟩
abbrev S1x128 : Shape := ⟨2, ![1, 128]⟩
abbrev S1x256 : Shape := ⟨2, ![1, 256]⟩
abbrev S1x1x256x256 : Shape := ⟨4, ![1, 1, 256, 256]⟩
abbrev S1x1x256x128 : Shape := ⟨4, ![1, 1, 256, 128]⟩
abbrev S1x1x128x128 : Shape := ⟨4, ![1, 1, 128, 128]⟩
abbrev S512x128 : Shape := ⟨2, ![512, 128]⟩
abbrev S512x256 : Shape := ⟨2, ![512, 256]⟩
abbrev S1x1x512x256 : Shape := ⟨4, ![1, 1, 512, 256]⟩

abbrev nBuf : Space → Nat
  | .hbm => 36
  | .vmem => 22
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x256x8x64, .f32⟩
  | .hbm, ⟨4, _⟩ => ⟨S4x256x8x64, .f32⟩
  | .hbm, ⟨5, _⟩ => ⟨S4x256x8x64, .f32⟩
  | .hbm, ⟨6, _⟩ => ⟨S2x8, .f32⟩
  | .hbm, ⟨7, _⟩ => ⟨S_, .bf16⟩
  | .hbm, ⟨8, _⟩ => ⟨S17408x512, .bf16⟩
  | .hbm, ⟨9, _⟩ => ⟨S_, .bf16⟩
  | .hbm, ⟨10, _⟩ => ⟨S17408x1280, .bf16⟩
  | .hbm, ⟨11, _⟩ => ⟨S16384x512, .f32⟩
  | .hbm, ⟨12, _⟩ => ⟨S1024x512, .f32⟩
  | .hbm, ⟨13, _⟩ => ⟨S17408x512, .f32⟩
  | .hbm, ⟨14, _⟩ => ⟨S_, .f32⟩
  | .hbm, ⟨15, _⟩ => ⟨S17408x512, .f32⟩
  | .hbm, ⟨16, _⟩ => ⟨S17408x512, .f32⟩
  | .hbm, ⟨17, _⟩ => ⟨S17408x512, .bf16⟩
  | .hbm, ⟨18, _⟩ => ⟨S16384x512, .f32⟩
  | .hbm, ⟨19, _⟩ => ⟨S1024x512, .f32⟩
  | .hbm, ⟨20, _⟩ => ⟨S17408x512, .f32⟩
  | .hbm, ⟨21, _⟩ => ⟨S17408x512, .bf16⟩
  | .hbm, ⟨22, _⟩ => ⟨S17408x2816, .bf16⟩
  | .hbm, ⟨23, _⟩ => ⟨S_, .bf16⟩
  | .hbm, ⟨24, _⟩ => ⟨S17408x3072, .bf16⟩
  | .hbm, ⟨25, _⟩ => ⟨S_, .bf16⟩
  | .hbm, ⟨26, _⟩ => ⟨S17408x1792, .bf16⟩
  | .hbm, ⟨27, _⟩ => ⟨S16384x512, .f32⟩
  | .hbm, ⟨28, _⟩ => ⟨S1024x512, .f32⟩
  | .hbm, ⟨29, _⟩ => ⟨S17408x512, .f32⟩
  | .hbm, ⟨30, _⟩ => ⟨S17408x512, .bf16⟩
  | .hbm, ⟨31, _⟩ => ⟨S17408x5376, .bf16⟩
  | .hbm, ⟨32, _⟩ => ⟨S2x8x1, .f32⟩
  | .hbm, ⟨33, _⟩ => ⟨S2x8x128, .f32⟩
  | .hbm, ⟨34, _⟩ => ⟨S17408x512, .bf16⟩
  | .hbm, ⟨35, _⟩ => ⟨S17408x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S2x8x128, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S2x4x128x128, .f32⟩
  | .local _ .vmem, ⟨18, _⟩ => ⟨S2x4x512x256, .f32⟩
  | .local _ .vmem, ⟨19, _⟩ => ⟨S2x4x256x128, .f32⟩
  | .local _ .vmem, ⟨20, _⟩ => ⟨S2x4x256x128, .f32⟩
  | .local _ .vmem, ⟨21, _⟩ => ⟨S2x4x128x128, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_true : BitVec 1 := 1#1
  let v1 : BitVec 32 := Scalar.select v_true arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let true_1 : BitVec 1 := 1#1
  let v5 : BitVec 32 := Scalar.select true_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c1_i32_4 : BitVec 32 := 1#32
  let c0_i32_5 : BitVec 32 := 0#32
  ![v12.toNat, c1_i32_4.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_true : BitVec 1 := 1#1
  let v1 : BitVec 32 := Scalar.select v_true arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let true_1 : BitVec 1 := 1#1
  let v5 : BitVec 32 := Scalar.select true_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c2_i32 : BitVec 32 := 2#32
  let c0_i32_4 : BitVec 32 := 0#32
  ![v12.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_true : BitVec 1 := 1#1
  let v1 : BitVec 32 := Scalar.select v_true arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let true_1 : BitVec 1 := 1#1
  let v5 : BitVec 32 := Scalar.select true_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c6_i32 : BitVec 32 := 6#32
  let c0_i32_4 : BitVec 32 := 0#32
  ![v12.toNat, c6_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_false : BitVec 1 := 0#1
  let v1 : BitVec 32 := Scalar.select v_false arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let false_1 : BitVec 1 := 0#1
  let v5 : BitVec 32 := Scalar.select false_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c1_i32_4 : BitVec 32 := 1#32
  let c0_i32_5 : BitVec 32 := 0#32
  ![v12.toNat, c1_i32_4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_false : BitVec 1 := 0#1
  let v1 : BitVec 32 := Scalar.select v_false arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let false_1 : BitVec 1 := 0#1
  let v5 : BitVec 32 := Scalar.select false_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c2_i32 : BitVec 32 := 2#32
  let c0_i32_4 : BitVec 32 := 0#32
  ![v12.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_false : BitVec 1 := 0#1
  let v1 : BitVec 32 := Scalar.select v_false arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let false_1 : BitVec 1 := 0#1
  let v5 : BitVec 32 := Scalar.select false_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c6_i32 : BitVec 32 := 6#32
  let c0_i32_4 : BitVec 32 := 0#32
  ![v12.toNat, c6_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_true : BitVec 1 := 1#1
  let v1 : BitVec 32 := Scalar.select v_true arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let true_1 : BitVec 1 := 1#1
  let v5 : BitVec 32 := Scalar.select true_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c0_i32_4 : BitVec 32 := 0#32
  let c0_i32_5 : BitVec 32 := 0#32
  ![v12.toNat, c0_i32_4.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let v_false : BitVec 1 := 0#1
  let v1 : BitVec 32 := Scalar.select v_false arg1 v0
  let c1_i32 : BitVec 32 := 1#32
  let v2 : BitVec 32 := Scalar.subi arg1 c1_i32
  let c1_i32_0 : BitVec 32 := 1#32
  let v3 : BitVec 32 := Scalar.subi arg1 c1_i32_0
  let c15_i32 : BitVec 32 := 15#32
  let v4 : BitVec 32 := Scalar.subi c15_i32 v3
  let false_1 : BitVec 1 := 0#1
  let v5 : BitVec 32 := Scalar.select false_1 v2 v4
  let c1_i32_2 : BitVec 32 := 1#32
  let v6 : BitVec 1 := Scalar.cmpi .slt arg1 c1_i32_2
  let c1_i32_3 : BitVec 32 := 1#32
  let v7 : BitVec 32 := Scalar.muli arg0 c1_i32_3
  let c64_i32 : BitVec 32 := 64#32
  let v8 : BitVec 32 := Scalar.addi c64_i32 v7
  let v9 : BitVec 32 := Scalar.addi v8 v1
  let c16_i32 : BitVec 32 := 16#32
  let v10 : BitVec 32 := Scalar.muli arg0 c16_i32
  let v11 : BitVec 32 := Scalar.addi v10 v5
  let v12 : BitVec 32 := Scalar.select v6 v9 v11
  let c0_i32_4 : BitVec 32 := 0#32
  let c0_i32_5 : BitVec 32 := 0#32
  ![v12.toNat, c0_i32_4.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4x4096x8x64 : Shape := ⟨4, ![4, 4096, 8, 64]⟩
abbrev S4x256x8x64 : Shape := ⟨4, ![4, 256, 8, 64]⟩
abbrev S2x8 : Shape := ⟨2, ![2, 8]⟩
abbrev S_ : Shape := ⟨0, ![]⟩
abbrev S4x4352x8x64 : Shape := ⟨4, ![4, 4352, 8, 64]⟩
abbrev S1x8 : Shape := ⟨2, ![1, 8]⟩
abbrev S8 : Shape := ⟨1, ![8]⟩
abbrev S8x1x1 : Shape := ⟨3, ![8, 1, 1]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S1x4352x4352 : Shape := ⟨3, ![1, 4352, 4352]⟩
abbrev S8x4352x4352 : Shape := ⟨3, ![8, 4352, 4352]⟩
abbrev S4x8x4352x4352 : Shape := ⟨4, ![4, 8, 4352, 4352]⟩
abbrev S1x8x4352x4352 : Shape := ⟨4, ![1, 8, 4352, 4352]⟩
abbrev S4x8x64x4352 : Shape := ⟨4, ![4, 8, 64, 4352]⟩
abbrev S16384x512 : Shape := ⟨2, ![16384, 512]⟩
abbrev S1024x512 : Shape := ⟨2, ![1024, 512]⟩
abbrev S17408x512 : Shape := ⟨2, ![17408, 512]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x256x8x64, .f32⟩
  | .hbm, ⟨4, _⟩ => ⟨S4x256x8x64, .f32⟩
  | .hbm, ⟨5, _⟩ => ⟨S4x256x8x64, .f32⟩
  | .hbm, ⟨6, _⟩ => ⟨S2x8, .f32⟩
  | .hbm, ⟨7, _⟩ => ⟨S_, .f32⟩
  | .hbm, ⟨8, _⟩ => ⟨S4x4096x8x64, .f32⟩
  | .hbm, ⟨9, _⟩ => ⟨S4x4096x8x64, .f32⟩
  | .hbm, ⟨10, _⟩ => ⟨S_, .f32⟩
  | .hbm, ⟨11, _⟩ => ⟨S4x256x8x64, .f32⟩
  | .hbm, ⟨12, _⟩ => ⟨S4x256x8x64, .f32⟩
  | .hbm, ⟨13, _⟩ => ⟨S2x8, .f32⟩
  | .hbm, ⟨14, _⟩ => ⟨S2x8, .f32⟩
  | .hbm, ⟨15, _⟩ => ⟨S4x4352x8x64, .f32⟩
  | .hbm, ⟨16, _⟩ => ⟨S4x4352x8x64, .f32⟩
  | .hbm, ⟨17, _⟩ => ⟨S4x4352x8x64, .f32⟩
  | .hbm, ⟨18, _⟩ => ⟨S1x8, .f32⟩
  | .hbm, ⟨19, _⟩ => ⟨S8, .f32⟩
  | .hbm, ⟨20, _⟩ => ⟨S8x1x1, .f32⟩
  | .hbm, ⟨21, _⟩ => ⟨S4352, .i32⟩
  | .hbm, ⟨22, _⟩ => ⟨S4352, .f32⟩
  | .hbm, ⟨23, _⟩ => ⟨S4352x1, .f32⟩
  | .hbm, ⟨24, _⟩ => ⟨S1x4352, .f32⟩
  | .hbm, ⟨25, _⟩ => ⟨S4352x4352, .f32⟩
  | .hbm, ⟨26, _⟩ => ⟨S4352x4352, .f32⟩
  | .hbm, ⟨27, _⟩ => ⟨S4352x4352, .f32⟩
  | .hbm, ⟨28, _⟩ => ⟨S_, .f32⟩
  | .hbm, ⟨29, _⟩ => ⟨S4352x4352, .f32⟩
  | .hbm, ⟨30, _⟩ => ⟨S4352x4352, .i1⟩
  | .hbm, ⟨31, _⟩ => ⟨S_, .f32⟩
  | .hbm, ⟨32, _⟩ => ⟨S4352x4352, .f32⟩
  | .hbm, ⟨33, _⟩ => ⟨S4352x4352, .f32⟩
  | .hbm, ⟨34, _⟩ => ⟨S1x4352x4352, .f32⟩
  | .hbm, ⟨35, _⟩ => ⟨S8x4352x4352, .f32⟩
  | .hbm, ⟨36, _⟩ => ⟨S8x4352x4352, .f32⟩
  | .hbm, ⟨37, _⟩ => ⟨S8x4352x4352, .f32⟩
  | .hbm, ⟨38, _⟩ => ⟨S8x4352x4352, .f32⟩
  | .hbm, ⟨39, _⟩ => ⟨S_, .f32⟩
  | .hbm, ⟨40, _⟩ => ⟨S_, .f32⟩
  | .hbm, ⟨41, _⟩ => ⟨S8x4352x4352, .i1⟩
  | .hbm, ⟨42, _⟩ => ⟨S8x4352x4352, .f32⟩
  | .hbm, ⟨43, _⟩ => ⟨S8x4352x4352, .f32⟩
  | .hbm, ⟨44, _⟩ => ⟨S4x8x4352x4352, .f32⟩
  | .hbm, ⟨45, _⟩ => ⟨S1x8x4352x4352, .f32⟩
  | .hbm, ⟨46, _⟩ => ⟨S4x8x4352x4352, .f32⟩
  | .hbm, ⟨47, _⟩ => ⟨S4x8x4352x4352, .f32⟩
  | .hbm, ⟨48, _⟩ => ⟨S4x8x64x4352, .f32⟩
  | .hbm, ⟨49, _⟩ => ⟨S4x4352x8x64, .f32⟩
  | .hbm, ⟨50, _⟩ => ⟨S4x256x8x64, .f32⟩
  | .hbm, ⟨51, _⟩ => ⟨S4x4096x8x64, .f32⟩
  | .hbm, ⟨52, _⟩ => ⟨S16384x512, .f32⟩
  | .hbm, ⟨53, _⟩ => ⟨S1024x512, .f32⟩
  | .hbm, ⟨54, _⟩ => ⟨S17408x512, .f32⟩
  | .hbm, ⟨55, _⟩ => ⟨S17408x512, .bf16⟩
  | .hbm, ⟨56, _⟩ => ⟨S4x256x8x64, .f32⟩
  | .hbm, ⟨57, _⟩ => ⟨S4x4096x8x64, .f32⟩
  | .hbm, ⟨58, _⟩ => ⟨S4x4352x8x64, .f32⟩
  | .hbm, ⟨59, _⟩ => ⟨S4x256x8x64, .f32⟩
  | .hbm, ⟨60, _⟩ => ⟨S4x4096x8x64, .f32⟩
  | .hbm, ⟨61, _⟩ => ⟨S4x4352x8x64, .f32⟩
  | .hbm, ⟨62, _⟩ => ⟨S4x256x8x64, .f32⟩
  | .hbm, ⟨63, _⟩ => ⟨S4x4096x8x64, .f32⟩
  | .hbm, ⟨64, _⟩ => ⟨S4x4352x8x64, .f32⟩
  | .hbm, ⟨65, _⟩ => ⟨S1x8, .f32⟩
  | .hbm, ⟨66, _⟩ => ⟨S8, .f32⟩
  | .hbm, ⟨67, _⟩ => ⟨S8x1x1, .f32⟩
  | .hbm, ⟨68, _⟩ => ⟨S4352, .i32⟩
  | .hbm, ⟨69, _⟩ => ⟨S4352, .f32⟩
  | .hbm, ⟨70, _⟩ => ⟨S4352x1, .f32⟩
  | .hbm, ⟨71, _⟩ => ⟨S1x4352, .f32⟩
  | .hbm, ⟨72, _⟩ => ⟨S4352x4352, .f32⟩
  | .hbm, ⟨73, _⟩ => ⟨S4352x4352, .f32⟩
  | .hbm, ⟨74, _⟩ => ⟨S4352x4352, .f32⟩
  | .hbm, ⟨75, _⟩ => ⟨S_, .f32⟩
  | .hbm, ⟨76, _⟩ => ⟨S4352x4352, .f32⟩
  | .hbm, ⟨77, _⟩ => ⟨S4352x4352, .i1⟩
  | .hbm, ⟨78, _⟩ => ⟨S_, .f32⟩
  | .hbm, ⟨79, _⟩ => ⟨S4352x4352, .f32⟩
  | .hbm, ⟨80, _⟩ => ⟨S4352x4352, .f32⟩
  | .hbm, ⟨81, _⟩ => ⟨S1x4352x4352, .f32⟩
  | .hbm, ⟨82, _⟩ => ⟨S8x4352x4352, .f32⟩
  | .hbm, ⟨83, _⟩ => ⟨S8x4352x4352, .f32⟩
  | .hbm, ⟨84, _⟩ => ⟨S8x4352x4352, .f32⟩
  | .hbm, ⟨85, _⟩ => ⟨S8x4352x4352, .f32⟩
  | .hbm, ⟨86, _⟩ => ⟨S_, .f32⟩
  | .hbm, ⟨87, _⟩ => ⟨S_, .f32⟩
  | .hbm, ⟨88, _⟩ => ⟨S8x4352x4352, .i1⟩
  | .hbm, ⟨89, _⟩ => ⟨S8x4352x4352, .f32⟩
  | .hbm, ⟨90, _⟩ => ⟨S8x4352x4352, .f32⟩
  | .hbm, ⟨91, _⟩ => ⟨S4x8x4352x4352, .f32⟩
  | .hbm, ⟨92, _⟩ => ⟨S1x8x4352x4352, .f32⟩
  | .hbm, ⟨93, _⟩ => ⟨S4x8x4352x4352, .f32⟩
  | .hbm, ⟨94, _⟩ => ⟨S4x8x4352x4352, .f32⟩
  | .hbm, ⟨95, _⟩ => ⟨S4x8x64x4352, .f32⟩
  | .hbm, ⟨96, _⟩ => ⟨S4x4352x8x64, .f32⟩
  | .hbm, ⟨97, _⟩ => ⟨S4x256x8x64, .f32⟩
  | .hbm, ⟨98, _⟩ => ⟨S4x256x8x64, .f32⟩
  | .hbm, ⟨99, _⟩ => ⟨S4x4096x8x64, .f32⟩
  | .hbm, ⟨100, _⟩ => ⟨S4x4096x8x64, .f32⟩
  | .hbm, ⟨101, _⟩ => ⟨S16384x512, .f32⟩
  | .hbm, ⟨102, _⟩ => ⟨S1024x512, .f32⟩
  | .hbm, ⟨103, _⟩ => ⟨S17408x512, .f32⟩
  | .hbm, ⟨104, _⟩ => ⟨S17408x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_4 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_6 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Kernel2.lean ====
abbrev S40960x2048 : Shape := ⟨2, ![40960, 2048]⟩
abbrev S8x2048x14336 : Shape := ⟨3, ![8, 2048, 14336]⟩
abbrev S8x7168x2048 : Shape := ⟨3, ![8, 7168, 2048]⟩
abbrev S40 : Shape := ⟨1, ![40]⟩
abbrev S1024x2048 : Shape := ⟨2, ![1024, 2048]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 11
  | .smem => 2
  | _ => 0

abbrev bufTy : (tb : Table) → Fin (tcTables nBuf tb) → BufTy
  | .hbm, ⟨0, _⟩ => ⟨S40960x2048, .f32⟩
  | .hbm, ⟨1, _⟩ => ⟨S8x2048x14336, .f32⟩
  | .hbm, ⟨2, _⟩ => ⟨S8x7168x2048, .f32⟩
  | .hbm, ⟨3, _⟩ => ⟨S40960x2048, .bf16⟩
  | .hbm, ⟨4, _⟩ => ⟨S8x2048x14336, .bf16⟩
  | .hbm, ⟨5, _⟩ => ⟨S8x7168x2048, .bf16⟩
  | .hbm, ⟨6, _⟩ => ⟨S40960x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | .local _ .smem, ⟨0, _⟩ => ⟨S40, .i32⟩
  | .local _ .smem, ⟨1, _⟩ => ⟨S40, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 14], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c13_i32 : BitVec 32 := 13#32
  let v8 : BitVec 1 := Scalar.cmpi .eq arg1 c13_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c14_i32 : BitVec 32 := 14#32
  let v6 : BitVec 32 := Scalar.addi c14_i32 v5
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let v2 : Index := Scalar.indexCast arg0
  let v3 : BitVec 32 := pf.at 1 (Rect.unit (s := S40) ![v2.toNat] S1.size (k0_off1_inb i)) numel1_S1
  let c0_i32 : BitVec 32 := 0#32
  let v4 : BitVec 1 := Scalar.cmpi .sgt v3 c0_i32
  let c13_i32 : BitVec 32 := 13#32
  let v5 : BitVec 32 := Scalar.select v4 arg1 c13_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S40960x2048 : Shape := ⟨2, ![40960, 2048]⟩
abbrev S8x2048x14336 : Shape := ⟨3, ![8, 2048, 14336]⟩
abbrev S8x7168x2048 : Shape := ⟨3, ![8, 7168, 2048]⟩
abbrev S40 : Shape := ⟨1, ![40]⟩
abbrev S40x1 : Shape := ⟨2, ![40, 1]⟩
abbrev S40x1024 : Shape := ⟨2, ![40, 1024]⟩
abbrev S40960 : Shape := ⟨1, ![40960]⟩
abbrev S40960x1 : Shape := ⟨2, ![40960, 1]⟩
abbrev S_ : Shape := ⟨0, ![]⟩
abbrev S1x8 : Shape := ⟨2, ![1, 8]⟩
abbrev S40960x8 : Shape := ⟨2, ![40960, 8]⟩
abbrev S1x2048x14336 : Shape := ⟨3, ![1, 2048, 14336]⟩
abbrev S2048x14336 : Shape := ⟨2, ![2048, 14336]⟩
abbrev S1x7168x2048 : Shape := ⟨3, ![1, 7168, 2048]⟩
abbrev S7168x2048 : Shape := ⟨2, ![7168, 2048]⟩
abbrev S40960x14336 : Shape := ⟨2, ![40960, 14336]⟩
abbrev S40960x7168 : Shape := ⟨2, ![40960, 7168]⟩

abbrev nBuf : Space → Nat
  | .hbm => 204
  | .vmem => 0
  | .smem => 0
  | _ => 0

abbrev hbmTy0_0 (i : Nat) : BufTy := match i % 128 with
  | 0 => ⟨S40960x2048, .f32⟩
  | 1 => ⟨S8x2048x14336, .f32⟩
  | 2 => ⟨S8x7168x2048, .f32⟩
  | 3 => ⟨S40, .i32⟩
  | 4 => ⟨S40, .i32⟩
  | 5 => ⟨S40x1, .i32⟩
  | 6 => ⟨S40x1024, .i32⟩
  | 7 => ⟨S40960, .i32⟩
  | 8 => ⟨S40x1, .i32⟩
  | 9 => ⟨S40x1024, .i32⟩
  | 10 => ⟨S40960, .i32⟩
  | 11 => ⟨S40960x1, .i32⟩
  | 12 => ⟨S_, .i32⟩
  | 13 => ⟨S40960x1, .i32⟩
  | 14 => ⟨S40960x1, .i1⟩
  | 15 => ⟨S40960x1, .i32⟩
  | 16 => ⟨S1x8, .i32⟩
  | 17 => ⟨S40960x8, .i32⟩
  | 18 => ⟨S40960x8, .i32⟩
  | 19 => ⟨S40960x8, .i1⟩
  | 20 => ⟨S40960x8, .f32⟩
  | 21 => ⟨S_, .f32⟩
  | 22 => ⟨S_, .f32⟩
  | 23 => ⟨S40960x8, .i1⟩
  | 24 => ⟨S40960x8, .f32⟩
  | 25 => ⟨S40960x8, .f32⟩
  | 26 => ⟨S_, .f32⟩
  | 27 => ⟨S40960x2048, .f32⟩
  | 28 => ⟨S40960x1, .f32⟩
  | 29 => ⟨S1x2048x14336, .f32⟩
  | 30 => ⟨S2048x14336, .f32⟩
  | 31 => ⟨S1x7168x2048, .f32⟩
  | 32 => ⟨S7168x2048, .f32⟩
  | 33 => ⟨S40960x14336, .f32⟩
  | 34 => ⟨S40960x7168, .f32⟩
  | 35 => ⟨S40960x7168, .f32⟩
  | 36 => ⟨S40960x7168, .f32⟩
  | 37 => ⟨S40960x7168, .f32⟩
  | 38 => ⟨S_, .f32⟩
  | 39 => ⟨S40960x7168, .f32⟩
  | 40 => ⟨S40960x7168, .f32⟩
  | 41 => ⟨S_, .f32⟩
  | 42 => ⟨S40960x7168, .f32⟩
  | 43 => ⟨S40960x7168, .f32⟩
  | 44 => ⟨S40960x7168, .f32⟩
  | 45 => ⟨S40960x7168, .f32⟩
  | 46 => ⟨S40960x2048, .f32⟩
  | 47 => ⟨S40960x2048, .f32⟩
  | 48 => ⟨S40960x2048, .f32⟩
  | 49 => ⟨S40960x2048, .f32⟩
  | 50 => ⟨S40960x1, .f32⟩
  | 51 => ⟨S1x2048x14336, .f32⟩
  | 52 => ⟨S2048x14336, .f32⟩
  | 53 => ⟨S1x7168x2048, .f32⟩
  | 54 => ⟨S7168x2048, .f32⟩
  | 55 => ⟨S40960x14336, .f32⟩
  | 56 => ⟨S40960x7168, .f32⟩
  | 57 => ⟨S40960x7168, .f32⟩
  | 58 => ⟨S40960x7168, .f32⟩
  | 59 => ⟨S40960x7168, .f32⟩
  | 60 => ⟨S_, .f32⟩
  | 61 => ⟨S40960x7168, .f32⟩
  | 62 => ⟨S40960x7168, .f32⟩
  | 63 => ⟨S_, .f32⟩
  | 64 => ⟨S40960x7168, .f32⟩
  | 65 => ⟨S40960x7168, .f32⟩
  | 66 => ⟨S40960x7168, .f32⟩
  | 67 => ⟨S40960x7168, .f32⟩
  | 68 => ⟨S40960x2048, .f32⟩
  | 69 => ⟨S40960x2048, .f32⟩
  | 70 => ⟨S40960x2048, .f32⟩
  | 71 => ⟨S40960x2048, .f32⟩
  | 72 => ⟨S40960x1, .f32⟩
  | 73 => ⟨S1x2048x14336, .f32⟩
  | 74 => ⟨S2048x14336, .f32⟩
  | 75 => ⟨S1x7168x2048, .f32⟩
  | 76 => ⟨S7168x2048, .f32⟩
  | 77 => ⟨S40960x14336, .f32⟩
  | 78 => ⟨S40960x7168, .f32⟩
  | 79 => ⟨S40960x7168, .f32⟩
  | 80 => ⟨S40960x7168, .f32⟩
  | 81 => ⟨S40960x7168, .f32⟩
  | 82 => ⟨S_, .f32⟩
  | 83 => ⟨S40960x7168, .f32⟩
  | 84 => ⟨S40960x7168, .f32⟩
  | 85 => ⟨S_, .f32⟩
  | 86 => ⟨S40960x7168, .f32⟩
  | 87 => ⟨S40960x7168, .f32⟩
  | 88 => ⟨S40960x7168, .f32⟩
  | 89 => ⟨S40960x7168, .f32⟩
  | 90 => ⟨S40960x2048, .f32⟩
  | 91 => ⟨S40960x2048, .f32⟩
  | 92 => ⟨S40960x2048, .f32⟩
  | 93 => ⟨S40960x2048, .f32⟩
  | 94 => ⟨S40960x1, .f32⟩
  | 95 => ⟨S1x2048x14336, .f32⟩
  | 96 => ⟨S2048x14336, .f32⟩
  | 97 => ⟨S1x7168x2048, .f32⟩
  | 98 => ⟨S7168x2048, .f32⟩
  | 99 => ⟨S40960x14336, .f32⟩
  | 100 => ⟨S40960x7168, .f32⟩
  | 101 => ⟨S40960x7168, .f32⟩
  | 102 => ⟨S40960x7168, .f32⟩
  | 103 => ⟨S40960x7168, .f32⟩
  | 104 => ⟨S_, .f32⟩
  | 105 => ⟨S40960x7168, .f32⟩
  | 106 => ⟨S40960x7168, .f32⟩
  | 107 => ⟨S_, .f32⟩
  | 108 => ⟨S40960x7168, .f32⟩
  | 109 => ⟨S40960x7168, .f32⟩
  | 110 => ⟨S40960x7168, .f32⟩
  | 111 => ⟨S40960x7168, .f32⟩
  | 112 => ⟨S40960x2048, .f32⟩
  | 113 => ⟨S40960x2048, .f32⟩
  | 114 => ⟨S40960x2048, .f32⟩
  | 115 => ⟨S40960x2048, .f32⟩
  | 116 => ⟨S40960x1, .f32⟩
  | 117 => ⟨S1x2048x14336, .f32⟩
  | 118 => ⟨S2048x14336, .f32⟩
  | 119 => ⟨S1x7168x2048, .f32⟩
  | 120 => ⟨S7168x2048, .f32⟩
  | 121 => ⟨S40960x14336, .f32⟩
  | 122 => ⟨S40960x7168, .f32⟩
  | 123 => ⟨S40960x7168, .f32⟩
  | 124 => ⟨S40960x7168, .f32⟩
  | 125 => ⟨S40960x7168, .f32⟩
  | 126 => ⟨S_, .f32⟩
  | 127 => ⟨S40960x7168, .f32⟩
  | _ => ⟨S40960x2048, .f32⟩

abbrev hbmTy0_1 (i : Nat) : BufTy := match i % 128 with
  | 0 => ⟨S40960x7168, .f32⟩
  | 1 => ⟨S_, .f32⟩
  | 2 => ⟨S40960x7168, .f32⟩
  | 3 => ⟨S40960x7168, .f32⟩
  | 4 => ⟨S40960x7168, .f32⟩
  | 5 => ⟨S40960x7168, .f32⟩
  | 6 => ⟨S40960x2048, .f32⟩
  | 7 => ⟨S40960x2048, .f32⟩
  | 8 => ⟨S40960x2048, .f32⟩
  | 9 => ⟨S40960x2048, .f32⟩
  | 10 => ⟨S40960x1, .f32⟩
  | 11 => ⟨S1x2048x14336, .f32⟩
  | 12 => ⟨S2048x14336, .f32⟩
  | 13 => ⟨S1x7168x2048, .f32⟩
  | 14 => ⟨S7168x2048, .f32⟩
  | 15 => ⟨S40960x14336, .f32⟩
  | 16 => ⟨S40960x7168, .f32⟩
  | 17 => ⟨S40960x7168, .f32⟩
  | 18 => ⟨S40960x7168, .f32⟩
  | 19 => ⟨S40960x7168, .f32⟩
  | 20 => ⟨S_, .f32⟩
  | 21 => ⟨S40960x7168, .f32⟩
  | 22 => ⟨S40960x7168, .f32⟩
  | 23 => ⟨S_, .f32⟩
  | 24 => ⟨S40960x7168, .f32⟩
  | 25 => ⟨S40960x7168, .f32⟩
  | 26 => ⟨S40960x7168, .f32⟩
  | 27 => ⟨S40960x7168, .f32⟩
  | 28 => ⟨S40960x2048, .f32⟩
  | 29 => ⟨S40960x2048, .f32⟩
  | 30 => ⟨S40960x2048, .f32⟩
  | 31 => ⟨S40960x2048, .f32⟩
  | 32 => ⟨S40960x1, .f32⟩
  | 33 => ⟨S1x2048x14336, .f32⟩
  | 34 => ⟨S2048x14336, .f32⟩
  | 35 => ⟨S1x7168x2048, .f32⟩
  | 36 => ⟨S7168x2048, .f32⟩
  | 37 => ⟨S40960x14336, .f32⟩
  | 38 => ⟨S40960x7168, .f32⟩
  | 39 => ⟨S40960x7168, .f32⟩
  | 40 => ⟨S40960x7168, .f32⟩
  | 41 => ⟨S40960x7168, .f32⟩
  | 42 => ⟨S_, .f32⟩
  | 43 => ⟨S40960x7168, .f32⟩
  | 44 => ⟨S40960x7168, .f32⟩
  | 45 => ⟨S_, .f32⟩
  | 46 => ⟨S40960x7168, .f32⟩
  | 47 => ⟨S40960x7168, .f32⟩
  | 48 => ⟨S40960x7168, .f32⟩
  | 49 => ⟨S40960x7168, .f32⟩
  | 50 => ⟨S40960x2048, .f32⟩
  | 51 => ⟨S40960x2048, .f32⟩
  | 52 => ⟨S40960x2048, .f32⟩
  | 53 => ⟨S40960x2048, .f32⟩
  | 54 => ⟨S40960x1, .f32⟩
  | 55 => ⟨S1x2048x14336, .f32⟩
  | 56 => ⟨S2048x14336, .f32⟩
  | 57 => ⟨S1x7168x2048, .f32⟩
  | 58 => ⟨S7168x2048, .f32⟩
  | 59 => ⟨S40960x14336, .f32⟩
  | 60 => ⟨S40960x7168, .f32⟩
  | 61 => ⟨S40960x7168, .f32⟩
  | 62 => ⟨S40960x7168, .f32⟩
  | 63 => ⟨S40960x7168, .f32⟩
  | 64 => ⟨S_, .f32⟩
  | 65 => ⟨S40960x7168, .f32⟩
  | 66 => ⟨S40960x7168, .f32⟩
  | 67 => ⟨S_, .f32⟩
  | 68 => ⟨S40960x7168, .f32⟩
  | 69 => ⟨S40960x7168, .f32⟩
  | 70 => ⟨S40960x7168, .f32⟩
  | 71 => ⟨S40960x7168, .f32⟩
  | 72 => ⟨S40960x2048, .f32⟩
  | 73 => ⟨S40960x2048, .f32⟩
  | 74 => ⟨S40960x2048, .f32⟩
  | 75 => ⟨S40960x2048, .f32⟩
  | _ => ⟨S40960x2048, .f32⟩

abbrev hbmTy (i : Nat) : BufTy := match i / 128 with
  | 0 => hbmTy0_0 i
  | 1 => hbmTy0_1 i
  | _ => ⟨S40960x2048, .f32⟩

abbrev bufTy : (tb : Table) → Fin (tcTables nBuf tb) → BufTy
  | .hbm, ⟨i, _⟩ => hbmTy i
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call5_v0 : Ref sig .tc := ⟨.hbm, 102, rfl⟩
abbrev main_call5_v1 : Ref sig .tc := ⟨.hbm, 103, rfl⟩
abbrev main_call5_cst : Ref sig .tc := ⟨.hbm, 104, rfl⟩
abbrev main_call5_v2 : Ref sig .tc := ⟨.hbm, 105, rfl⟩
abbrev main_call5_v3 : Ref sig .tc := ⟨.hbm, 106, rfl⟩
abbrev main_call5_cst_0 : Ref sig .tc := ⟨.hbm, 107, rfl⟩
abbrev main_call5_v4 : Ref sig .tc := ⟨.hbm, 108, rfl⟩
abbrev main_call5_v5 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_call7_v0 : Ref sig .tc := ⟨.hbm, 146, rfl⟩
abbrev main_call7_v1 : Ref sig .tc := ⟨.hbm, 147, rfl⟩
abbrev main_call7_cst : Ref sig .tc := ⟨.hbm, 148, rfl⟩
abbrev main_call7_v2 : Ref sig .tc := ⟨.hbm, 149, rfl⟩
abbrev main_call7_v3 : Ref sig .tc := ⟨.hbm, 150, rfl⟩
abbrev main_call7_cst_0 : Ref sig .tc := ⟨.hbm, 151, rfl⟩
abbrev main_call7_v4 : Ref sig .tc := ⟨.hbm, 152, rfl⟩
abbrev main_call7_v5 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_call8_v0 : Ref sig .tc := ⟨.hbm, 168, rfl⟩
abbrev main_call8_v1 : Ref sig .tc := ⟨.hbm, 169, rfl⟩
abbrev main_call8_cst : Ref sig .tc := ⟨.hbm, 170, rfl⟩
abbrev main_call8_v2 : Ref sig .tc := ⟨.hbm, 171, rfl⟩
abbrev main_call8_v3 : Ref sig .tc := ⟨.hbm, 172, rfl⟩
abbrev main_call8_cst_0 : Ref sig .tc := ⟨.hbm, 173, rfl⟩
abbrev main_call8_v4 : Ref sig .tc := ⟨.hbm, 174, rfl⟩
abbrev main_call8_v5 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x256x2048 : Shape := ⟨3, ![4, 256, 2048]⟩
abbrev S1x2048x14336 : Shape := ⟨3, ![1, 2048, 14336]⟩
abbrev S1x7168x2048 : Shape := ⟨3, ![1, 7168, 2048]⟩
abbrev S16384x2048 : Shape := ⟨2, ![16384, 2048]⟩
abbrev S1024x2048 : Shape := ⟨2, ![1024, 2048]⟩
abbrev S17408x2048 : Shape := ⟨2, ![17408, 2048]⟩
abbrev S1x2048x512 : Shape := ⟨3, ![1, 2048, 512]⟩
abbrev S1x512x2048 : Shape := ⟨3, ![1, 512, 2048]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S1x2048x14336, .f32⟩
  | .hbm, ⟨3, _⟩ => ⟨S1x7168x2048, .f32⟩
  | .hbm, ⟨4, _⟩ => ⟨S16384x2048, .f32⟩
  | .hbm, ⟨5, _⟩ => ⟨S1024x2048, .f32⟩
  | .hbm, ⟨6, _⟩ => ⟨S17408x2048, .f32⟩
  | .hbm, ⟨7, _⟩ => ⟨S17408x2048, .bf16⟩
  | .hbm, ⟨8, _⟩ => ⟨S17408x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![17, 14], ![false, false]⟩

def k0_cond2 (i : grid0.Coords) : BitVec 1 :=
  let arg1 : BitVec 32 := BitVec.ofNat 32 (i 1).val
  let c13_i32 : BitVec 32 := 13#32
  let v26 : BitVec 1 := Scalar.cmpi .eq arg1 c13_i32
  let v27 : BitVec 32 := Scalar.extui v26
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S4x4096x2048 : Shape := ⟨3, ![4, 4096, 2048]⟩
abbrev S4x256x2048 : Shape := ⟨3, ![4, 256, 2048]⟩
abbrev S1x2048x14336 : Shape := ⟨3, ![1, 2048, 14336]⟩
abbrev S1x7168x2048 : Shape := ⟨3, ![1, 7168, 2048]⟩
abbrev S2048x14336 : Shape := ⟨2, ![2048, 14336]⟩
abbrev S7168x2048 : Shape := ⟨2, ![7168, 2048]⟩
abbrev S4x4096x14336 : Shape := ⟨3, ![4, 4096, 14336]⟩
abbrev S4x4096x7168 : Shape := ⟨3, ![4, 4096, 7168]⟩
abbrev S_ : Shape := ⟨0, ![]⟩
abbrev S4x256x14336 : Shape := ⟨3, ![4, 256, 14336]⟩
abbrev S4x256x7168 : Shape := ⟨3, ![4, 256, 7168]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S1x2048x14336, .f32⟩
  | .hbm, ⟨3, _⟩ => ⟨S1x7168x2048, .f32⟩
  | .hbm, ⟨4, _⟩ => ⟨S2048x14336, .f32⟩
  | .hbm, ⟨5, _⟩ => ⟨S7168x2048, .f32⟩
  | .hbm, ⟨6, _⟩ => ⟨S4x4096x14336, .f32⟩
  | .hbm, ⟨7, _⟩ => ⟨S4x4096x7168, .f32⟩
  | .hbm, ⟨8, _⟩ => ⟨S4x4096x7168, .f32⟩
  | .hbm, ⟨9, _⟩ => ⟨S4x4096x7168, .f32⟩
  | .hbm, ⟨10, _⟩ => ⟨S4x4096x7168, .f32⟩
  | .hbm, ⟨11, _⟩ => ⟨S_, .f32⟩
  | .hbm, ⟨12, _⟩ => ⟨S4x4096x7168, .f32⟩
  | .hbm, ⟨13, _⟩ => ⟨S4x4096x7168, .f32⟩
  | .hbm, ⟨14, _⟩ => ⟨S_, .f32⟩
  | .hbm, ⟨15, _⟩ => ⟨S4x4096x7168, .f32⟩
  | .hbm, ⟨16, _⟩ => ⟨S4x4096x7168, .f32⟩
  | .hbm, ⟨17, _⟩ => ⟨S4x4096x7168, .f32⟩
  | .hbm, ⟨18, _⟩ => ⟨S4x4096x7168, .f32⟩
  | .hbm, ⟨19, _⟩ => ⟨S4x4096x2048, .f32⟩
  | .hbm, ⟨20, _⟩ => ⟨S2048x14336, .f32⟩
  | .hbm, ⟨21, _⟩ => ⟨S7168x2048, .f32⟩
  | .hbm, ⟨22, _⟩ => ⟨S4x256x14336, .f32⟩
  | .hbm, ⟨23, _⟩ => ⟨S4x256x7168, .f32⟩
  | .hbm, ⟨24, _⟩ => ⟨S4x256x7168, .f32⟩
  | .hbm, ⟨25, _⟩ => ⟨S4x256x7168, .f32⟩
  | .hbm, ⟨26, _⟩ => ⟨S4x256x7168, .f32⟩
  | .hbm, ⟨27, _⟩ => ⟨S_, .f32⟩
  | .hbm, ⟨28, _⟩ => ⟨S4x256x7168, .f32⟩
  | .hbm, ⟨29, _⟩ => ⟨S4x256x7168, .f32⟩
  | .hbm, ⟨30, _⟩ => ⟨S_, .f32⟩
  | .hbm, ⟨31, _⟩ => ⟨S4x256x7168, .f32⟩
  | .hbm, ⟨32, _⟩ => ⟨S4x256x7168, .f32⟩
  | .hbm, ⟨33, _⟩ => ⟨S4x256x7168, .f32⟩
  | .hbm, ⟨34, _⟩ => ⟨S4x256x7168, .f32⟩
  | .hbm, ⟨35, _⟩ => ⟨S4x256x2048, .f32⟩
  | .hbm, ⟨36, _⟩ => ⟨S16384x2048, .f32⟩
  | .hbm, ⟨37, _⟩ => ⟨S1024x2048, .f32⟩
  | .hbm, ⟨38, _⟩ => ⟨S17408x2048, .f32⟩
  | .hbm, ⟨39, _⟩ => ⟨S17408x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Kernel4.lean ====
abbrev S4x4096x2048 : Shape := ⟨3, ![4, 4096, 2048]⟩
abbrev S4x256x2048 : Shape := ⟨3, ![4, 256, 2048]⟩
abbrev S2048x4896 : Shape := ⟨2, ![2048, 4896]⟩
abbrev S16384x2048 : Shape := ⟨2, ![16384, 2048]⟩
abbrev S1024x2048 : Shape := ⟨2, ![1024, 2048]⟩
abbrev S17408x2048 : Shape := ⟨2, ![17408, 2048]⟩
abbrev S2048x512 : Shape := ⟨2, ![2048, 512]⟩
abbrev S2048x128 : Shape := ⟨2, ![2048, 128]⟩
abbrev S2048x384 : Shape := ⟨2, ![2048, 384]⟩
abbrev S2048x32 : Shape := ⟨2, ![2048, 32]⟩
abbrev S2048x16 : Shape := ⟨2, ![2048, 16]⟩
abbrev S2048x64 : Shape := ⟨2, ![2048, 64]⟩
abbrev S2048x256 : Shape := ⟨2, ![2048, 256]⟩
abbrev S_ : Shape := ⟨0, ![]⟩
abbrev S2048x5312 : Shape := ⟨2, ![2048, 5312]⟩
abbrev S2048x5376 : Shape := ⟨2, ![2048, 5376]⟩
abbrev S17408x5376 : Shape := ⟨2, ![17408, 5376]⟩
abbrev S2048x1792 : Shape := ⟨2, ![2048, 1792]⟩
abbrev S1024x1792 : Shape := ⟨2, ![1024, 1792]⟩

abbrev nBuf : Space → Nat
  | .hbm => 46
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S2048x4896, .f32⟩
  | .hbm, ⟨3, _⟩ => ⟨S16384x2048, .f32⟩
  | .hbm, ⟨4, _⟩ => ⟨S1024x2048, .f32⟩
  | .hbm, ⟨5, _⟩ => ⟨S17408x2048, .f32⟩
  | .hbm, ⟨6, _⟩ => ⟨S17408x2048, .bf16⟩
  | .hbm, ⟨7, _⟩ => ⟨S2048x512, .f32⟩
  | .hbm, ⟨8, _⟩ => ⟨S2048x128, .f32⟩
  | .hbm, ⟨9, _⟩ => ⟨S2048x128, .f32⟩
  | .hbm, ⟨10, _⟩ => ⟨S2048x384, .f32⟩
  | .hbm, ⟨11, _⟩ => ⟨S2048x128, .f32⟩
  | .hbm, ⟨12, _⟩ => ⟨S2048x32, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x16, .f32⟩
  | .hbm, ⟨21, _⟩ => ⟨S2048x16, .f32⟩
  | .hbm, ⟨22, _⟩ => ⟨S2048x32, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S2048x64, .f32⟩
  | .hbm, ⟨27, _⟩ => ⟨S2048x256, .f32⟩
  | .hbm, ⟨28, _⟩ => ⟨S2048x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x256, .f32⟩
  | .hbm, ⟨33, _⟩ => ⟨S_, .f32⟩
  | .hbm, ⟨34, _⟩ => ⟨S2048x64, .f32⟩
  | .hbm, ⟨35, _⟩ => ⟨S_, .f32⟩
  | .hbm, ⟨36, _⟩ => ⟨S2048x32, .f32⟩
  | .hbm, ⟨37, _⟩ => ⟨S_, .f32⟩
  | .hbm, ⟨38, _⟩ => ⟨S2048x64, .f32⟩
  | .hbm, ⟨39, _⟩ => ⟨S_, .f32⟩
  | .hbm, ⟨40, _⟩ => ⟨S2048x32, .f32⟩
  | .hbm, ⟨41, _⟩ => ⟨S2048x5312, .f32⟩
  | .hbm, ⟨42, _⟩ => ⟨S2048x64, .f32⟩
  | .hbm, ⟨43, _⟩ => ⟨S2048x5376, .f32⟩
  | .hbm, ⟨44, _⟩ => ⟨S2048x5376, .bf16⟩
  | .hbm, ⟨45, _⟩ => ⟨S17408x5376, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_cst_0 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x2048 : Shape := ⟨3, ![4, 4096, 2048]⟩
abbrev S4x256x2048 : Shape := ⟨3, ![4, 256, 2048]⟩
abbrev S2048x4896 : Shape := ⟨2, ![2048, 4896]⟩
abbrev S4x4096x4896 : Shape := ⟨3, ![4, 4096, 4896]⟩
abbrev S4x4096x512 : Shape := ⟨3, ![4, 4096, 512]⟩
abbrev S4x4096x128 : Shape := ⟨3, ![4, 4096, 128]⟩
abbrev S4x4096x384 : Shape := ⟨3, ![4, 4096, 384]⟩
abbrev S4x4096x32 : Shape := ⟨3, ![4, 4096, 32]⟩
abbrev S4x4096x64 : Shape := ⟨3, ![4, 4096, 64]⟩
abbrev S4x4096x16 : Shape := ⟨3, ![4, 4096, 16]⟩
abbrev S_ : Shape := ⟨0, ![]⟩
abbrev S4x4096x4608 : Shape := ⟨3, ![4, 4096, 4608]⟩
abbrev S4x4096x768 : Shape := ⟨3, ![4, 4096, 768]⟩
abbrev S4x4096x5376 : Shape := ⟨3, ![4, 4096, 5376]⟩
abbrev S16384x5376 : Shape := ⟨2, ![16384, 5376]⟩
abbrev S4x256x4896 : Shape := ⟨3, ![4, 256, 4896]⟩
abbrev S4x256x512 : Shape := ⟨3, ![4, 256, 512]⟩
abbrev S4x256x128 : Shape := ⟨3, ![4, 256, 128]⟩
abbrev S4x256x384 : Shape := ⟨3, ![4, 256, 384]⟩
abbrev S4x256x32 : Shape := ⟨3, ![4, 256, 32]⟩
abbrev S4x256x64 : Shape := ⟨3, ![4, 256, 64]⟩
abbrev S4x256x16 : Shape := ⟨3, ![4, 256, 16]⟩
abbrev S4x256x4608 : Shape := ⟨3, ![4, 256, 4608]⟩
abbrev S4x256x768 : Shape := ⟨3, ![4, 256, 768]⟩
abbrev S4x256x5376 : Shape := ⟨3, ![4, 256, 5376]⟩
abbrev S1024x5376 : Shape := ⟨2, ![1024, 5376]⟩
abbrev S17408x5376 : Shape := ⟨2, ![17408, 5376]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x256x2048, .f32⟩
  | .hbm, ⟨2, _⟩ => ⟨S2048x4896, .f32⟩
  | .hbm, ⟨3, _⟩ => ⟨S4x4096x4896, .f32⟩
  | .hbm, ⟨4, _⟩ => ⟨S4x4096x512, .f32⟩
  | .hbm, ⟨5, _⟩ => ⟨S4x4096x128, .f32⟩
  | .hbm, ⟨6, _⟩ => ⟨S4x4096x128, .f32⟩
  | .hbm, ⟨7, _⟩ => ⟨S4x4096x384, .f32⟩
  | .hbm, ⟨8, _⟩ => ⟨S4x4096x128, .f32⟩
  | .hbm, ⟨9, _⟩ => ⟨S4x4096x32, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S4x4096x64, .f32⟩
  | .hbm, ⟨18, _⟩ => ⟨S4x4096x64, .f32⟩
  | .hbm, ⟨19, _⟩ => ⟨S4x4096x64, .f32⟩
  | .hbm, ⟨20, _⟩ => ⟨S4x4096x64, .f32⟩
  | .hbm, ⟨21, _⟩ => ⟨S4x4096x16, .f32⟩
  | .hbm, ⟨22, _⟩ => ⟨S4x4096x16, .f32⟩
  | .hbm, ⟨23, _⟩ => ⟨S_, .f32⟩
  | .hbm, ⟨24, _⟩ => ⟨S4x4096x64, .f32⟩
  | .hbm, ⟨25, _⟩ => ⟨S_, .f32⟩
  | .hbm, ⟨26, _⟩ => ⟨S4x4096x32, .f32⟩
  | .hbm, ⟨27, _⟩ => ⟨S4x4096x4608, .f32⟩
  | .hbm, ⟨28, _⟩ => ⟨S4x4096x768, .f32⟩
  | .hbm, ⟨29, _⟩ => ⟨S4x4096x5376, .f32⟩
  | .hbm, ⟨30, _⟩ => ⟨S16384x5376, .f32⟩
  | .hbm, ⟨31, _⟩ => ⟨S4x256x4896, .f32⟩
  | .hbm, ⟨32, _⟩ => ⟨S4x256x512, .f32⟩
  | .hbm, ⟨33, _⟩ => ⟨S4x256x128, .f32⟩
  | .hbm, ⟨34, _⟩ => ⟨S4x256x128, .f32⟩
  | .hbm, ⟨35, _⟩ => ⟨S4x256x384, .f32⟩
  | .hbm, ⟨36, _⟩ => ⟨S4x256x128, .f32⟩
  | .hbm, ⟨37, _⟩ => ⟨S4x256x32, .f32⟩
  | .hbm, ⟨38, _⟩ => ⟨S4x256x512, .f32⟩
  | .hbm, ⟨39, _⟩ => ⟨S4x256x512, .f32⟩
  | .hbm, ⟨40, _⟩ => ⟨S4x256x512, .f32⟩
  | .hbm, ⟨41, _⟩ => ⟨S4x256x512, .f32⟩
  | .hbm, ⟨42, _⟩ => ⟨S4x256x512, .f32⟩
  | .hbm, ⟨43, _⟩ => ⟨S4x256x512, .f32⟩
  | .hbm, ⟨44, _⟩ => ⟨S4x256x512, .f32⟩
  | .hbm, ⟨45, _⟩ => ⟨S4x256x64, .f32⟩
  | .hbm, ⟨46, _⟩ => ⟨S4x256x64, .f32⟩
  | .hbm, ⟨47, _⟩ => ⟨S4x256x64, .f32⟩
  | .hbm, ⟨48, _⟩ => ⟨S4x256x64, .f32⟩
  | .hbm, ⟨49, _⟩ => ⟨S4x256x16, .f32⟩
  | .hbm, ⟨50, _⟩ => ⟨S4x256x16, .f32⟩
  | .hbm, ⟨51, _⟩ => ⟨S_, .f32⟩
  | .hbm, ⟨52, _⟩ => ⟨S4x256x64, .f32⟩
  | .hbm, ⟨53, _⟩ => ⟨S_, .f32⟩
  | .hbm, ⟨54, _⟩ => ⟨S4x256x32, .f32⟩
  | .hbm, ⟨55, _⟩ => ⟨S4x256x4608, .f32⟩
  | .hbm, ⟨56, _⟩ => ⟨S4x256x768, .f32⟩
  | .hbm, ⟨57, _⟩ => ⟨S4x256x5376, .f32⟩
  | .hbm, ⟨58, _⟩ => ⟨S1024x5376, .f32⟩
  | .hbm, ⟨59, _⟩ => ⟨S17408x5376, .f32⟩
  | .hbm, ⟨60, _⟩ => ⟨S17408x5376, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_cst_1 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩

abbrev nD : Nat := 1
abbrev τ : Topo := Topo.v7x

variable {F : FTy → Type} [FloatOps F]
-- ==== Kernel5.lean ====
abbrev S4x4096x512 : Shape := ⟨3, ![4, 4096, 512]⟩
abbrev S4x256x512 : Shape := ⟨3, ![4, 256, 512]⟩
abbrev S2048x2048 : Shape := ⟨2, ![2048, 2048]⟩
abbrev S16384x512 : Shape := ⟨2, ![16384, 512]⟩
abbrev S1024x512 : Shape := ⟨2, ![1024, 512]⟩
abbrev S17408x512 : Shape := ⟨2, ![17408, 512]⟩
abbrev S17408x2048 : Shape := ⟨2, ![17408, 2048]⟩
abbrev S1024x2048 : Shape := ⟨2, ![1024, 2048]⟩

abbrev nBuf : Space → Nat
  | .hbm => 27
  | .vmem => 11
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S2048x2048, .f32⟩
  | .hbm, ⟨9, _⟩ => ⟨S16384x512, .f32⟩
  | .hbm, ⟨10, _⟩ => ⟨S1024x512, .f32⟩
  | .hbm, ⟨11, _⟩ => ⟨S17408x512, .f32⟩
  | .hbm, ⟨12, _⟩ => ⟨S17408x512, .bf16⟩
  | .hbm, ⟨13, _⟩ => ⟨S16384x512, .f32⟩
  | .hbm, ⟨14, _⟩ => ⟨S1024x512, .f32⟩
  | .hbm, ⟨15, _⟩ => ⟨S17408x512, .f32⟩
  | .hbm, ⟨16, _⟩ => ⟨S17408x512, .bf16⟩
  | .hbm, ⟨17, _⟩ => ⟨S16384x512, .f32⟩
  | .hbm, ⟨18, _⟩ => ⟨S1024x512, .f32⟩
  | .hbm, ⟨19, _⟩ => ⟨S17408x512, .f32⟩
  | .hbm, ⟨20, _⟩ => ⟨S17408x512, .bf16⟩
  | .hbm, ⟨21, _⟩ => ⟨S16384x512, .f32⟩
  | .hbm, ⟨22, _⟩ => ⟨S1024x512, .f32⟩
  | .hbm, ⟨23, _⟩ => ⟨S17408x512, .f32⟩
  | .hbm, ⟨24, _⟩ => ⟨S17408x512, .bf16⟩
  | .hbm, ⟨25, _⟩ => ⟨S2048x2048, .bf16⟩
  | .hbm, ⟨26, _⟩ => ⟨S17408x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x2048, .bf16⟩
  | .local _ .vmem, ⟨9, _⟩ => ⟨S1024x2048, .bf16⟩
  | .local _ .vmem, ⟨10, _⟩ => ⟨S1024x2048, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4x4096x512 : Shape := ⟨3, ![4, 4096, 512]⟩
abbrev S4x256x512 : Shape := ⟨3, ![4, 256, 512]⟩
abbrev S2048x2048 : Shape := ⟨2, ![2048, 2048]⟩
abbrev S4x4096x2048 : Shape := ⟨3, ![4, 4096, 2048]⟩
abbrev S4x256x2048 : Shape := ⟨3, ![4, 256, 2048]⟩
abbrev S16384x2048 : Shape := ⟨2, ![16384, 2048]⟩
abbrev S1024x2048 : Shape := ⟨2, ![1024, 2048]⟩
abbrev S17408x2048 : Shape := ⟨2, ![17408, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S2048x2048, .f32⟩
  | .hbm, ⟨9, _⟩ => ⟨S4x4096x2048, .f32⟩
  | .hbm, ⟨10, _⟩ => ⟨S4x4096x2048, .f32⟩
  | .hbm, ⟨11, _⟩ => ⟨S4x256x2048, .f32⟩
  | .hbm, ⟨12, _⟩ => ⟨S4x256x2048, .f32⟩
  | .hbm, ⟨13, _⟩ => ⟨S16384x2048, .f32⟩
  | .hbm, ⟨14, _⟩ => ⟨S1024x2048, .f32⟩
  | .hbm, ⟨15, _⟩ => ⟨S17408x2048, .f32⟩
  | .hbm, ⟨16, _⟩ => ⟨S17408x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Proof.Tile.lean ====
module

public import proofs.«01_k».proof.Proof.Gen.KernelIdeal.Value
public import Idealize.ShloMosaic.Lib.Pipeline.ValueKit

@[expose] public section

set_option maxRecDepth 16384

noncomputable section

namespace Cert.Retention

open Cert.KernelIdeal Cert.KernelIdeal.Gen Idealize.ShloMosaic Idealize.ShloMosaic.TcCoe Idealize.SL.Sem

/-- One pair of heads of one direction at one grid point: what is stored, from the chunk's queries, keys and
    values, the decay table, the query weights and the state. -/
def tileO (q k v : FVec Ideal S256x128 .bf16) (D : FVec Ideal S1x1x512x256 .f32) (W : FVec Ideal S1x1x256x128 .f32)
    (S : FVec Ideal S1x1x128x128 .f32) : FVec Ideal S256x128 .bf16 :=
  k0_pay160 (k0_pay112 (k0_pay108 k0_pay94 q k v D) (k0_pay109 (k0_pay97 S) q W))

/-- The same pair's next state. -/
def tileS (k v : FVec Ideal S256x128 .bf16) (W : FVec Ideal S1x1x256x128 .f32) (C S : FVec Ideal S1x1x128x128 .f32) :
    FVec Ideal S1x1x128x128 .f32 :=
  k0_pay159 (k0_pay111 k0_pay95 (k0_pay97 S) (k0_pay107 v) (k0_pay110 k) W C)

/-- The comparison of a lane with the middle of its tile, as a word. -/
theorem low_word : ∀ e : Fin 128, IntOp.cmpi CmpIPredicate.slt (BitVec.ofNat 32 e.val) 64#32 = if e.val < 64 then 1#1 else 0#1 := by
  decide +kernel

theorem select_ite (p : Prop) [Decidable p] (a b : EReal) : Scalar.select (if p then 1#1 else 0#1) a b = if p then a else b := by
  by_cases h : p <;> simp [h, Scalar.select]

theorem same_word (p q : Prop) [Decidable p] [Decidable q] : IntOp.xori (IntOp.xori (if p then 1#1 else 0#1) (if q then 1#1 else 0#1)) 1#1
    = if (p ↔ q) then 1#1 else 0#1 := by
  by_cases h : p <;> by_cases h' : q <;> simp [h, h'] <;> rfl

/-- What a pair of heads stores at row `i`, lane `l`: the chunk's own decayed scores applied to its values, and
    the weighted query applied to the state. -/
def outF (q k v : Fin 256 → Fin 128 → EReal) (D : Fin 512 → Fin 256 → EReal) (W : Fin 256 → Fin 128 → EReal)
    (S : Fin 128 → Fin 128 → EReal) (i : Fin 256) (l : Fin 128) : EReal :=
  (∑ n, (∑ e : Fin 128, if (e.val < 64 ↔ l.val < 64) then q i e * k n e else 0)
      * (if l.val < 64 then D ⟨i.val, by omega⟩ n else D ⟨256 + i.val, by omega⟩ n) * v n l)
    + ∑ e, q i e * W i e * S e l

/-- What a pair of heads leaves in its state at row `r`, lane `l`. -/
def stateF (k v W : Fin 256 → Fin 128 → EReal) (C S : Fin 128 → Fin 128 → EReal) (r l : Fin 128) : EReal :=
  S r l * C r l + if (r.val < 64 ↔ l.val < 64) then ∑ n, k n r * W n r * v n l else 0

theorem tileO_at (q k v : FVec Ideal S256x128 .bf16) (D : FVec Ideal S1x1x512x256 .f32) (W : FVec Ideal S1x1x256x128 .f32)
    (S : FVec Ideal S1x1x128x128 .f32) (i : Fin 256) (l : Fin 128) : tileO q k v D W S (ix2 i l)
      = outF (fun a e => q (ix2 a e)) (fun a e => k (ix2 a e)) (fun a e => v (ix2 a e)) (fun a n => D (ix4 0 0 a n))
          (fun a e => W (ix4 0 0 a e)) (fun a e => S (ix4 0 0 a e)) i l := by
  pointwise [tileO, k0_pay160, k0_pay112, k0_pay108, k0_pay94, k0_pay109, k0_pay97, k0_pay105, k0_pay106, k0_pay107]
  simp only [low_word, select_ite, outF]
  by_cases hl : l.val < 64
  · simp only [hl, if_true, iff_true]
  · simp only [hl, if_false, iff_false, ite_not]

theorem tileS_at (k v : FVec Ideal S256x128 .bf16) (W : FVec Ideal S1x1x256x128 .f32) (C S : FVec Ideal S1x1x128x128 .f32)
    (r l : Fin 128) : tileS k v W C S (ix4 0 0 r l)
      = stateF (fun a e => k (ix2 a e)) (fun a e => v (ix2 a e)) (fun a e => W (ix4 0 0 a e)) (fun a e => C (ix4 0 0 a e))
          (fun a e => S (ix4 0 0 a e)) r l := by
  pointwise [tileS, k0_pay159, k0_pay111, k0_pay95, k0_pay97, k0_pay110, k0_pay106, k0_pay107]
  simp only [low_word, same_word, select_ite, stateF]

end Cert.Retention
-- ==== Proof.Decay.lean ====
module

public import proofs.«01_k».proof.Proof.Tile

@[expose] public section

set_option maxRecDepth 16384

noncomputable section

namespace Cert.Retention

open Idealize.ShloMosaic

/-- The decay of one head over `n` positions, from the head's logarithm `ρ`: `exp(-exp ρ · n)`. -/
def gam (ρ : EReal) (n : ℕ) : EReal := Ideal.exp ((0 - Ideal.exp ρ) * ((n : ℝ) : EReal))

/-- The same, a real number. -/
def gr (ρ : EReal) (n : ℕ) : ℝ := (gam ρ n).toReal

theorem exp_cases (ρ : EReal) : Ideal.exp ρ = ⊤ ∨ ∃ r : ℝ, Ideal.exp ρ = (r : EReal) := by
  induction ρ with
  | bot => exact Or.inr ⟨0, rfl⟩
  | top => exact Or.inl rfl
  | coe r => exact Or.inr ⟨_, rfl⟩

theorem gam_real (ρ : EReal) (r : ℝ) (h : Ideal.exp ρ = (r : EReal)) (n : ℕ) : gam ρ n = ((Real.exp (-r * n) : ℝ) : EReal) := by
  rw [gam, h, zero_sub, ← EReal.coe_neg, ← EReal.coe_mul]
  rfl

theorem gam_top (ρ : EReal) (h : Ideal.exp ρ = ⊤) (n : ℕ) : gam ρ n = ((if n = 0 then 1 else 0 : ℝ) : EReal) := by
  rw [gam, h]
  by_cases hn : n = 0
  · subst hn
    rw [Nat.cast_zero, EReal.coe_zero, mul_zero, if_pos rfl, ← EReal.coe_zero]
    exact congrArg (fun x : ℝ => (x : EReal)) Real.exp_zero
  · have hp : (0 : ℝ) < n := by positivity
    have : ((0 : EReal) - ⊤) * ((n : ℝ) : EReal) = ⊥ := by
      rw [zero_sub, EReal.neg_top, EReal.bot_mul_coe_of_pos hp]
    rw [this, if_neg hn]
    rfl

theorem gam_eq (ρ : EReal) (n : ℕ) : gam ρ n = ((gr ρ n : ℝ) : EReal) := by
  rcases exp_cases ρ with h | ⟨r, h⟩
  · rw [gr, gam_top ρ h, EReal.toReal_coe]
  · rw [gr, gam_real ρ r h, EReal.toReal_coe]

theorem gr_zero (ρ : EReal) : gr ρ 0 = 1 := by
  rcases exp_cases ρ with h | ⟨r, h⟩
  · rw [gr, gam_top ρ h, EReal.toReal_coe, if_pos rfl]
  · rw [gr, gam_real ρ r h, EReal.toReal_coe]; simp

theorem gr_add (ρ : EReal) (a b : ℕ) : gr ρ (a + b) = gr ρ a * gr ρ b := by
  rcases exp_cases ρ with h | ⟨r, h⟩
  · simp only [gr, gam_top ρ h, EReal.toReal_coe]
    by_cases ha : a = 0 <;> by_cases hb : b = 0 <;> simp [ha, hb]
  · simp only [gr, gam_real ρ r h, EReal.toReal_coe, ← Real.exp_add]
    push_cast
    ring_nf

/-! ## The words the tables are computed from -/

theorem toInt_small (i : ℕ) (h : i < 512) : (BitVec.ofNat 32 i).toInt = i := by
  rw [BitVec.toInt_eq_toNat_of_lt (by simp; omega)]
  simp; omega

theorem toInt_sub (i l : ℕ) (hi : i < 512) (hl : l < 512) :
    (IntOp.subi (BitVec.ofNat 32 i) (BitVec.ofNat 32 l)).toInt = (i : ℤ) - l := by
  rw [IntOp.subi, BitVec.toInt_sub, toInt_small i hi, toInt_small l hl, Int.bmod_eq_of_le] <;> omega

/-- A table's masked entry: the decay over the distance where the key is not ahead of the query, else zero. -/
theorem dec_word (i l : ℕ) (hi : i < 512) (hl : l < 512) (f : EReal → EReal) :
    Scalar.select (IntOp.cmpi CmpIPredicate.sge (IntOp.subi (BitVec.ofNat 32 i) (BitVec.ofNat 32 l)) 0#32)
      (f (FloatOps.sitofp (F := Ideal) FTy.f32 (IntOp.maxsi (IntOp.subi (BitVec.ofNat 32 i) (BitVec.ofNat 32 l)) 0#32))) (0 : EReal)
      = if l ≤ i then f (((i - l : ℕ) : ℝ) : EReal) else 0 := by
  rw [show ∀ x y : BitVec 32, IntOp.cmpi .sge x y = BitVec.ofBool (decide (y.toInt ≤ x.toInt)) from fun _ _ => rfl, toInt_sub i l hi hl]
  by_cases h : l ≤ i
  · rw [if_pos h]
    have h1 : decide ((0#32).toInt ≤ (i : ℤ) - l) = true := by simp; omega
    rw [h1]
    have h2 : (IntOp.maxsi (IntOp.subi (BitVec.ofNat 32 i) (BitVec.ofNat 32 l)) 0#32).toInt = ((i - l : ℕ) : ℤ) := by
      rw [IntOp.maxsi]
      split
      · rw [toInt_sub i l hi hl]; omega
      · rename_i hs
        rw [BitVec.slt_iff_toInt_lt, toInt_sub i l hi hl] at hs
        simp at hs ⊢; omega
    show f (((_ : BitVec 32).toInt : ℝ) : EReal) = _
    rw [h2]; simp
  · rw [if_neg h]
    have h1 : decide ((0#32).toInt ≤ (i : ℤ) - l) = false := by simp; omega
    rw [h1]
    rfl

theorem sitofp_small (i : ℕ) (h : i < 512) : FloatOps.sitofp (F := Ideal) FTy.f32 (BitVec.ofNat 32 i) = ((i : ℝ) : EReal) := by
  show (((BitVec.ofNat 32 i).toInt : ℝ) : EReal) = _
  rw [toInt_small i h]; simp

theorem ofBits_256 : Ideal.ofBits .f32 1132462080#32 = ((256 : ℝ) : EReal) := by
  simp [Ideal.ofBits, Ideal.ieee, -EReal.coe_mul]; norm_num
theorem ofBits_255 : Ideal.ofBits .f32 1132396544#32 = ((255 : ℝ) : EReal) := by
  simp [Ideal.ofBits, Ideal.ieee, -EReal.coe_mul]; norm_num

/-! ## The tables -/

open Cert.KernelIdeal

/-- The place of row `i` of a block in its chunk: the second direction reads its rows backwards. -/
def pos (d : ℕ) (i : ℕ) : ℕ := if d = 0 then i else 255 - i

/-- The head a half of a tile belongs to. -/
abbrev hd (j : Fin 4) (f : Fin 2) : Fin 8 := ⟨2 * j.val + f.val, by omega⟩

theorem half_lt (l : Fin 128) : l.val / 64 < 2 := by omega
theorem half_lt' (a : Fin 512) : a.val / 256 < 2 := by omega

/-- The decay table: of the head of the row's half, the decay from the key to the query, zero ahead of it. -/
def decF (r : Fin 2 → Fin 8 → EReal) (d : Fin 2) (j : Fin 4) (a : Fin 512) (n : Fin 256) : EReal :=
  if pos d.val n.val ≤ pos d.val (a.val % 256) then gam (r d (hd j ⟨a.val / 256, half_lt' a⟩)) (pos d.val (a.val % 256) - pos d.val n.val) else 0

/-- The query weights: the decay from the chunk's start. -/
def qwF (r : Fin 2 → Fin 8 → EReal) (d : Fin 2) (j : Fin 4) (i : Fin 256) (l : Fin 128) : EReal :=
  gam (r d (hd j ⟨l.val / 64, half_lt l⟩)) (pos d.val i.val + 1)

/-- The key weights: the decay to the chunk's end. -/
def kwF (r : Fin 2 → Fin 8 → EReal) (d : Fin 2) (j : Fin 4) (i : Fin 256) (l : Fin 128) : EReal :=
  gam (r d (hd j ⟨l.val / 64, half_lt l⟩)) (255 - pos d.val i.val)

/-- The chunk's decay, by rows of the state. -/
def cdF (r : Fin 2 → Fin 8 → EReal) (d : Fin 2) (j : Fin 4) (i l : Fin 128) : EReal :=
  gam (r d (hd j ⟨i.val / 64, half_lt i⟩)) 256

theorem dec_piece0 (r : Fin 2 → Fin 8 → EReal) (j : Fin 4) (f : Fin 2) (i l : Fin 256) (y : S2x4x512x256.Idx)
    (h0 : (y 0).val = 0) (h1 : (y 1).val = j.val) (h2 : (y 2).val = 256 * f.val + i.val) (h3 : (y 3).val = l.val) :
    Scalar.select (IntOp.cmpi CmpIPredicate.sge (IntOp.subi (BitVec.ofNat 32 i.val) (BitVec.ofNat 32 l.val)) 0#32)
      (Ideal.exp ((0 - Ideal.exp (r 0 (hd j f)))
        * FloatOps.sitofp (F := Ideal) FTy.f32 (IntOp.maxsi (IntOp.subi (BitVec.ofNat 32 i.val) (BitVec.ofNat 32 l.val)) 0#32))) (0 : EReal)
      = decF r (y 0) (y 1) (y 2) (y 3) := by
  refine (dec_word i.val l.val (by omega) (by omega) (fun z => Ideal.exp ((0 - Ideal.exp (r 0 (hd j f))) * z))).trans ?_
  have e1 : (y 2).val % 256 = i.val := by omega
  have e2 : (y 2).val / 256 = f.val := by omega
  have e0 : y 0 = (0 : Fin 2) := Fin.ext h0
  have e3 : y 1 = j := Fin.ext h1
  simp only [decF, e1, e2, h3, e0, e3, pos, Fin.val_zero, if_true, gam]

theorem dec_piece1 (r : Fin 2 → Fin 8 → EReal) (j : Fin 4) (f : Fin 2) (i l : Fin 256) (y : S2x4x512x256.Idx)
    (h0 : (y 0).val = 1) (h1 : (y 1).val = j.val) (h2 : (y 2).val = 256 * f.val + i.val) (h3 : (y 3).val = l.val) :
    Scalar.select (IntOp.cmpi CmpIPredicate.sge (IntOp.subi (BitVec.ofNat 32 l.val) (BitVec.ofNat 32 i.val)) 0#32)
      (Ideal.exp ((0 - Ideal.exp (r 1 (hd j f)))
        * FloatOps.sitofp (F := Ideal) FTy.f32 (IntOp.maxsi (IntOp.subi (BitVec.ofNat 32 l.val) (BitVec.ofNat 32 i.val)) 0#32))) (0 : EReal)
      = decF r (y 0) (y 1) (y 2) (y 3) := by
  refine (dec_word l.val i.val (by omega) (by omega) (fun z => Ideal.exp ((0 - Ideal.exp (r 1 (hd j f))) * z))).trans ?_
  have e1 : (y 2).val % 256 = i.val := by omega
  have e2 : (y 2).val / 256 = f.val := by omega
  have e0 : y 0 = (1 : Fin 2) := Fin.ext h0
  have e3 : y 1 = j := Fin.ext h1
  simp only [decF, e1, e2, h3, e0, e3, pos, Fin.val_one, gam]
  have c1 : (i.val ≤ l.val) ↔ (255 - l.val ≤ 255 - i.val) := by omega
  have c2 : 255 - i.val - (255 - l.val) = l.val - i.val := by omega
  simp only [one_ne_zero, if_false, c1, c2]

/-- The weight tables' entries. -/
theorem select_head (r : Fin 8 → EReal) (j : Fin 4) (l : Fin 128) (a b : Fin 8) (ha : a = hd j 0) (hb : b = hd j 1) :
    Scalar.select (IntOp.cmpi CmpIPredicate.slt (BitVec.ofNat 32 l.val) 64#32) (0 - Ideal.exp (r a)) (0 - Ideal.exp (r b))
      = 0 - Ideal.exp (r (hd j ⟨l.val / 64, half_lt l⟩)) := by
  subst ha hb
  rw [low_word, select_ite]
  by_cases h : l.val < 64
  · rw [if_pos h]
    have : (⟨l.val / 64, half_lt l⟩ : Fin 2) = 0 := Fin.ext (by simp; omega)
    rw [this]
  · rw [if_neg h]
    have : (⟨l.val / 64, half_lt l⟩ : Fin 2) = 1 := Fin.ext (by simp; omega)
    rw [this]

theorem real_add_one (n : ℕ) : ((n : ℝ) : EReal) + 1 = ((n + 1 : ℕ) : ℝ) := by
  push_cast; rfl

theorem real_sub (a n : ℕ) (h : n ≤ a) : ((a : ℝ) : EReal) - ((n : ℝ) : EReal) = ((a - n : ℕ) : ℝ) := by
  rw [Nat.cast_sub h]; rfl

theorem select_chunk (r : Fin 8 → EReal) (j : Fin 4) (i : Fin 128) (a b : Fin 8) (ha : a = hd j 0) (hb : b = hd j 1) :
    Scalar.select (IntOp.cmpi CmpIPredicate.slt (BitVec.ofNat 32 i.val) 64#32)
      (Ideal.exp ((0 - Ideal.exp (r a)) * Ideal.ofBits FTy.f32 1132462080#32))
      (Ideal.exp ((0 - Ideal.exp (r b)) * Ideal.ofBits FTy.f32 1132462080#32))
      = gam (r (hd j ⟨i.val / 64, half_lt i⟩)) 256 := by
  subst ha hb
  rw [low_word, select_ite, ofBits_256, gam]
  norm_num only [Nat.cast_ofNat]
  by_cases h : i.val < 64
  · rw [if_pos h]
    have : (⟨i.val / 64, half_lt i⟩ : Fin 2) = 0 := Fin.ext (by simp; omega)
    rw [this]
  · rw [if_neg h]
    have : (⟨i.val / 64, half_lt i⟩ : Fin 2) = 1 := Fin.ext (by simp; omega)
    rw [this]

end Cert.Retention
-- ==== Proof.Entry.lean ====
module

public import proofs.«01_k».proof.Proof.Decay
public import Idealize.ShloMosaic.Lib.StableHlo.ReadAt

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

/-- The block of rows a direction reads at a grid point. -/
def rowblk (d t : ℕ) : ℕ := if t % 17 = 0 then 64 + t / 17 else t / 17 * 16 + (if d = 0 then t % 17 - 1 else 16 - t % 17)

/-- Row `n`, column `col` of the rows of a latent array above those of a context array. -/
def rowF (lat : S4x4096x8x64.Idx → EReal) (ctx : S4x256x8x64.Idx → EReal) (n : Fin 17408) (col : Fin 512) : EReal :=
  if h : n.val < 16384 then lat (ix4 ⟨n.val / 4096, by omega⟩ ⟨n.val % 4096, by omega⟩ ⟨col.val / 64, by omega⟩ ⟨col.val % 64, by omega⟩)
  else ctx (ix4 ⟨(n.val - 16384) / 256, by omega⟩ ⟨(n.val - 16384) % 256, by omega⟩ ⟨col.val / 64, by omega⟩ ⟨col.val % 64, by omega⟩)

theorem v12_q (c : Dev nD) (n : Fin 17408) (l : Fin 512) (col : Fin 2816) (h : col.val = 512 + l.val) :
    (V m c main_v12 : S17408x2816.Idx → EReal) (ix2 n col)
      = rowF (m ((c : Thread nD τ).loc main_arg0)) (m ((c : Thread nD τ).loc main_arg3)) n l * Ideal.ofBits .f32 0x3E000000#32 := by
  after_reads_at
  rw [dif_neg (by omega), dif_pos (by omega)]
  after_reads_at
  have hl : (⟨col.val - 512, by omega⟩ : Fin 512) = l := Fin.ext (by simp; omega)
  unfold rowF
  by_cases hn : n.val < 16384
  · rw [dif_pos hn, dif_pos hn, hl]
    after_reads_at
  · rw [dif_neg hn, dif_neg hn, hl]
    after_reads_at

theorem v12_k (c : Dev nD) (n : Fin 17408) (l : Fin 512) (col : Fin 2816) (h : col.val = 1024 + l.val) :
    (V m c main_v12 : S17408x2816.Idx → EReal) (ix2 n col)
      = rowF (m ((c : Thread nD τ).loc main_arg1)) (m ((c : Thread nD τ).loc main_arg4)) n l := by
  after_reads_at
  rw [dif_neg (by omega), dif_neg (by omega), dif_pos (by omega)]
  after_reads_at
  have hl : (⟨col.val - 512 - 512, by omega⟩ : Fin 512) = l := Fin.ext (by simp; omega)
  unfold rowF
  by_cases hn : n.val < 16384
  · rw [dif_pos hn, dif_pos hn, hl]
    after_reads_at
  · rw [dif_neg hn, dif_neg hn, hl]
    after_reads_at

theorem v19_v (c : Dev nD) (n : Fin 17408) (l : Fin 512) (col : Fin 5376) (h : col.val = 3072 + l.val) :
    (V m c main_v19 : S17408x5376.Idx → EReal) (ix2 n col)
      = rowF (m ((c : Thread nD τ).loc main_arg2)) (m ((c : Thread nD τ).loc main_arg5)) n l := by
  after_reads_at
  rw [dif_neg (by omega), dif_pos (by omega)]
  after_reads_at
  have hl : (⟨col.val - 3072, by omega⟩ : Fin 512) = l := Fin.ext (by simp; omega)
  unfold rowF
  by_cases hn : n.val < 16384
  · rw [dif_pos hn, dif_pos hn, hl]
    after_reads_at
  · rw [dif_neg hn, dif_neg hn, hl]
    after_reads_at
end Cert.Retention
-- ==== Proof.Rows.lean ====
module

public import proofs.«01_k».proof.Proof.Entry
public import proofs.«01_k».proof.Proof.Gen.KernelIdeal.Value

@[expose] public section

set_option maxRecDepth 16384

noncomputable section

namespace Cert.Retention

open Cert.KernelIdeal Cert.KernelIdeal.Gen Idealize.ShloMosaic Idealize.ShloMosaic.TcCoe Idealize.SL.Sem

/-- Step `n` of a direction's sequence of batch `b`: the context first, the latents after it, both backwards in
    direction 1. Zero past the end, so that `n` may be any natural number. -/
def seqF (d : ℕ) (lat : S4x4096x8x64.Idx → EReal) (ctx : S4x256x8x64.Idx → EReal) (b n : ℕ) (col : Fin 512) : EReal :=
  if hb : b < 4 then
    if h : n < 256 then ctx (ix4 ⟨b, hb⟩ ⟨if d = 0 then n else 255 - n, by split <;> omega⟩ ⟨col.val / 64, by omega⟩ ⟨col.val % 64, by omega⟩)
    else if h' : n < 4352 then
      lat (ix4 ⟨b, hb⟩ ⟨if d = 0 then n - 256 else 4351 - n, by split <;> omega⟩ ⟨col.val / 64, by omega⟩ ⟨col.val % 64, by omega⟩)
    else 0
  else 0

theorem row_seq (d : ℕ) (lat : S4x4096x8x64.Idx → EReal) (ctx : S4x256x8x64.Idx → EReal) (t : ℕ) (ht : t < 68) (i : ℕ) (hi : i < 256)
    (n : Fin 17408) (hn : n.val = 256 * rowblk d t + i) (col : Fin 512) :
    rowF lat ctx n col = seqF d lat ctx (t / 17) (256 * (t % 17) + pos d i) col := by
  have hm := Nat.mod_lt t (by decide : 0 < 17)
  have hq : t / 17 < 4 := by omega
  unfold rowF seqF
  rw [dif_pos hq]
  unfold rowblk at hn
  unfold pos
  by_cases h0 : t % 17 = 0
  · rw [if_pos h0] at hn
    have e : ¬ n.val < 16384 := by omega
    by_cases hd : d = 0
    · simp only [hd, if_true]
      rw [dif_neg e, dif_pos (by omega)]
      refine congrArg ctx ?_; blk_ext
    · simp only [if_neg hd]
      rw [dif_neg e, dif_pos (by omega)]
      refine congrArg ctx ?_; blk_ext
  · rw [if_neg h0] at hn
    by_cases hd : d = 0
    · simp only [hd, if_true] at hn ⊢
      rw [dif_pos (by omega), dif_neg (by omega), dif_pos (by omega)]
      refine congrArg lat ?_; blk_ext
    · simp only [if_neg hd] at hn ⊢
      rw [dif_pos (by omega), dif_neg (by omega), dif_pos (by omega)]
      refine congrArg lat ?_; blk_ext

theorem idxs : ∀ t : Fin cfg0.N, win0_0.index t = ![rowblk 0 t.val, 1] ∧ win0_1.index t = ![rowblk 0 t.val, 2]
    ∧ win0_2.index t = ![rowblk 0 t.val, 6] ∧ win0_3.index t = ![rowblk 1 t.val, 1] ∧ win0_4.index t = ![rowblk 1 t.val, 2]
    ∧ win0_5.index t = ![rowblk 1 t.val, 6] ∧ win0_6.index t = ![0, 0, 0] :=
  (by decide +kernel : ∀ t : Fin grid0.N, _)

variable (m : (ℓ : Loc nD τ sig) → Buf (Elt Ideal) ℓ)

/-- The queries direction 0 reads at a grid point. -/
theorem x0 (c : Dev nD) (t : Fin grid0.N) (i : Fin 256) (l : Fin 512) :
    (X0_0 m c t : S256x512.Idx → EReal) (ix2 i l)
      = seqF 0 (m ((c : Thread nD τ).loc main_arg0)) (m ((c : Thread nD τ).loc main_arg3)) (t.val / 17) (256 * (t.val % 17) + pos 0 i.val) l * Ideal.ofBits .f32 0x3E000000#32 := by
  have hm := moved0_0 t (ix2 i l)
  have ht : t.val < 68 := t.isLt
  have hr : rowblk 0 t.val < 68 := by have := Nat.mod_lt t.val (by decide : 0 < 17); unfold rowblk; split_ifs <;> omega
  unfold X0_0 Pipeline.Window.fill
  rw [dif_pos hm]
  blk_simp [iblk]
  rw [← row_seq 0 _ _ t.val ht i.val i.isLt ⟨256 * rowblk 0 t.val + i.val, by omega⟩ rfl l]
  refine (congrArg (V m c main_v12) ?_).trans (v12_q m c _ l ⟨512 + l.val, by omega⟩ rfl)
  blk_ext [(idxs t).1]

/-- The keys direction 0 reads at a grid point. -/
theorem x1 (c : Dev nD) (t : Fin grid0.N) (i : Fin 256) (l : Fin 512) :
    (X0_1 m c t : S256x512.Idx → EReal) (ix2 i l)
      = seqF 0 (m ((c : Thread nD τ).loc main_arg1)) (m ((c : Thread nD τ).loc main_arg4)) (t.val / 17) (256 * (t.val % 17) + pos 0 i.val) l := by
  have hm := moved0_1 t (ix2 i l)
  have ht : t.val < 68 := t.isLt
  have hr : rowblk 0 t.val < 68 := by have := Nat.mod_lt t.val (by decide : 0 < 17); unfold rowblk; split_ifs <;> omega
  unfold X0_1 Pipeline.Window.fill
  rw [dif_pos hm]
  blk_simp [iblk]
  rw [← row_seq 0 _ _ t.val ht i.val i.isLt ⟨256 * rowblk 0 t.val + i.val, by omega⟩ rfl l]
  refine (congrArg (V m c main_v12) ?_).trans (v12_k m c _ l ⟨1024 + l.val, by omega⟩ rfl)
  blk_ext [(idxs t).2.1]

/-- The values direction 0 reads at a grid point. -/
theorem x2 (c : Dev nD) (t : Fin grid0.N) (i : Fin 256) (l : Fin 512) :
    (X0_2 m c t : S256x512.Idx → EReal) (ix2 i l)
      = seqF 0 (m ((c : Thread nD τ).loc main_arg2)) (m ((c : Thread nD τ).loc main_arg5)) (t.val / 17) (256 * (t.val % 17) + pos 0 i.val) l := by
  have hm := moved0_2 t (ix2 i l)
  have ht : t.val < 68 := t.isLt
  have hr : rowblk 0 t.val < 68 := by have := Nat.mod_lt t.val (by decide : 0 < 17); unfold rowblk; split_ifs <;> omega
  unfold X0_2 Pipeline.Window.fill
  rw [dif_pos hm]
  blk_simp [iblk]
  rw [← row_seq 0 _ _ t.val ht i.val i.isLt ⟨256 * rowblk 0 t.val + i.val, by omega⟩ rfl l]
  refine (congrArg (V m c main_v19) ?_).trans (v19_v m c _ l ⟨3072 + l.val, by omega⟩ rfl)
  blk_ext [(idxs t).2.2.1]

/-- The queries direction 1 reads at a grid point. -/
theorem x3 (c : Dev nD) (t : Fin grid0.N) (i : Fin 256) (l : Fin 512) :
    (X0_3 m c t : S256x512.Idx → EReal) (ix2 i l)
      = seqF 1 (m ((c : Thread nD τ).loc main_arg0)) (m ((c : Thread nD τ).loc main_arg3)) (t.val / 17) (256 * (t.val % 17) + pos 1 i.val) l * Ideal.ofBits .f32 0x3E000000#32 := by
  have hm := moved0_3 t (ix2 i l)
  have ht : t.val < 68 := t.isLt
  have hr : rowblk 1 t.val < 68 := by have := Nat.mod_lt t.val (by decide : 0 < 17); unfold rowblk; split_ifs <;> omega
  unfold X0_3 Pipeline.Window.fill
  rw [dif_pos hm]
  blk_simp [iblk]
  rw [← row_seq 1 _ _ t.val ht i.val i.isLt ⟨256 * rowblk 1 t.val + i.val, by omega⟩ rfl l]
  refine (congrArg (V m c main_v12) ?_).trans (v12_q m c _ l ⟨512 + l.val, by omega⟩ rfl)
  blk_ext [(idxs t).2.2.2.1]

/-- The keys direction 1 reads at a grid point. -/
theorem x4 (c : Dev nD) (t : Fin grid0.N) (i : Fin 256) (l : Fin 512) :
    (X0_4 m c t : S256x512.Idx → EReal) (ix2 i l)
      = seqF 1 (m ((c : Thread nD τ).loc main_arg1)) (m ((c : Thread nD τ).loc main_arg4)) (t.val / 17) (256 * (t.val % 17) + pos 1 i.val) l := by
  have hm := moved0_4 t (ix2 i l)
  have ht : t.val < 68 := t.isLt
  have hr : rowblk 1 t.val < 68 := by have := Nat.mod_lt t.val (by decide : 0 < 17); unfold rowblk; split_ifs <;> omega
  unfold X0_4 Pipeline.Window.fill
  rw [dif_pos hm]
  blk_simp [iblk]
  rw [← row_seq 1 _ _ t.val ht i.val i.isLt ⟨256 * rowblk 1 t.val + i.val, by omega⟩ rfl l]
  refine (congrArg (V m c main_v12) ?_).trans (v12_k m c _ l ⟨1024 + l.val, by omega⟩ rfl)
  blk_ext [(idxs t).2.2.2.2.1]

/-- The values direction 1 reads at a grid point. -/
theorem x5 (c : Dev nD) (t : Fin grid0.N) (i : Fin 256) (l : Fin 512) :
    (X0_5 m c t : S256x512.Idx → EReal) (ix2 i l)
      = seqF 1 (m ((c : Thread nD τ).loc main_arg2)) (m ((c : Thread nD τ).loc main_arg5)) (t.val / 17) (256 * (t.val % 17) + pos 1 i.val) l := by
  have hm := moved0_5 t (ix2 i l)
  have ht : t.val < 68 := t.isLt
  have hr : rowblk 1 t.val < 68 := by have := Nat.mod_lt t.val (by decide : 0 < 17); unfold rowblk; split_ifs <;> omega
  unfold X0_5 Pipeline.Window.fill
  rw [dif_pos hm]
  blk_simp [iblk]
  rw [← row_seq 1 _ _ t.val ht i.val i.isLt ⟨256 * rowblk 1 t.val + i.val, by omega⟩ rfl l]
  refine (congrArg (V m c main_v19) ?_).trans (v19_v m c _ l ⟨3072 + l.val, by omega⟩ rfl)
  blk_ext [(idxs t).2.2.2.2.2.1]

/-- The decay parameters at a grid point. -/
theorem x6 (c : Dev nD) (t : Fin grid0.N) (d : Fin 2) (hh : Fin 8) (l : Fin 128) :
    (iblk m c 6 t : S2x8x128.Idx → EReal) (ix3 d hh l) = (m ((c : Thread nD τ).loc main_arg6) : S2x8.Idx → EReal) (ix2 d hh) := by
  have ev : ∀ x : S2x8x128.Idx, (V m c main_v21 : S2x8x128.Idx → EReal) x = (m ((c : Thread nD τ).loc main_arg6) : S2x8.Idx → EReal) (ix2 (x 0) (x 1)) := by
    intro x
    obtain ⟨a, b, e, rfl⟩ : ∃ (a : Fin 2) (b : Fin 8) (e : Fin 128), x = ix3 a b e := ⟨x 0, x 1, x 2, by blk_ext⟩
    after_reads_at
  blk_simp [iblk]
  refine (ev _).trans (congrArg _ ?_)
  blk_ext [(idxs t).2.2.2.2.2.2]

end Cert.Retention
-- ==== Proof.Sums.lean ====
module

public import proofs.«01_k».proof.Proof.Decay

@[expose] public section

set_option maxRecDepth 16384

noncomputable section

namespace Cert.Retention

open Cert.KernelIdeal Cert.KernelIdeal.Gen Idealize.ShloMosaic Idealize.ShloMosaic.TcCoe Idealize.SL.Sem

/-- A finite sum of real numbers is the same in the extended reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A masked real number is the same in the extended reals. -/
theorem coe_ite (p : Prop) [Decidable p] (x : ℝ) : (if p then (x : EReal) else 0) = ((if p then x else 0 : ℝ) : EReal) := by
  split_ifs <;> simp

/-- A sum over the rows of a chunk is one over the positions in it, whichever way the direction goes. -/
theorem sum_pos (d : ℕ) (F : ℕ → ℝ) : ∑ n : Fin 256, F (pos d n.val) = ∑ p ∈ Finset.range 256, F p := by
  unfold pos
  by_cases hd : d = 0
  · simp only [if_pos hd]; exact Fin.sum_univ_eq_sum_range F 256
  · simp only [if_neg hd]
    rw [Fin.sum_univ_eq_sum_range (fun n => F (255 - n)) 256]
    exact Finset.sum_range_reflect F 256

/-- The state after a chunk: what was held, decayed over the chunk, and the chunk's own keys and values. -/
theorem state_step (g : ℕ → ℝ) (hg : ∀ a b, g (a + b) = g a * g b) (A : ℕ → ℝ) (N : ℕ) :
    (∑ m ∈ Finset.range N, g (N - 1 - m) * A m) * g 256 + ∑ p ∈ Finset.range 256, g (255 - p) * A (N + p)
      = ∑ m ∈ Finset.range (N + 256), g (N + 256 - 1 - m) * A m := by
  rw [Finset.sum_range_add, Finset.sum_mul]
  congr 1
  · refine Finset.sum_congr rfl fun m hm => ?_
    have := Finset.mem_range.mp hm
    rw [show N + 256 - 1 - m = (N - 1 - m) + 256 by omega, hg]; ring
  · refine Finset.sum_congr rfl fun m hm => ?_
    have := Finset.mem_range.mp hm
    rw [show N + 256 - 1 - (N + m) = 255 - m by omega]

theorem state_sum (d N : ℕ) (g : ℕ → ℝ) (hg : ∀ a b, g (a + b) = g a * g b) (k v W : Fin 256 → Fin 128 → EReal) (C S : Fin 128 → Fin 128 → EReal)
    (r l : Fin 128) (K V : ℕ → ℝ) (hk : ∀ n, k n r = (K (N + pos d n.val) : EReal)) (hv : ∀ n, v n l = (V (N + pos d n.val) : EReal))
    (hW : ∀ n, W n r = (g (255 - pos d n.val) : EReal)) (hC : C r l = (g 256 : EReal))
    (hS : S r l = if (r.val < 64 ↔ l.val < 64) then ((∑ m ∈ Finset.range N, g (N - 1 - m) * (K m * V m) : ℝ) : EReal) else 0) :
    stateF k v W C S r l
      = if (r.val < 64 ↔ l.val < 64) then ((∑ m ∈ Finset.range (N + 256), g (N + 256 - 1 - m) * (K m * V m) : ℝ) : EReal) else 0 := by
  unfold stateF
  rw [hS, hC]
  by_cases h : (r.val < 64 ↔ l.val < 64)
  · rw [if_pos h, if_pos h, if_pos h, ← state_step g hg (fun m => K m * V m) N]
    simp only [hk, hv, hW, ← EReal.coe_mul, ← coe_sum, ← EReal.coe_add]
    congr 2
    rw [← sum_pos d]
    exact Finset.sum_congr rfl fun n _ => by ring
  · rw [if_neg h, if_neg h, if_neg h, zero_mul, add_zero]

/-- A masked sum over a chunk's positions is one over those up to the query's. -/
theorem sum_upto (F : ℕ → ℝ) (p : ℕ) (hp : p < 256) :
    ∑ n ∈ Finset.range 256, (if n ≤ p then F n else 0) = ∑ n ∈ Finset.range (p + 1), F n := by
  rw [← Finset.sum_filter]
  refine Finset.sum_congr ?_ fun _ _ => rfl
  ext n
  simp only [Finset.mem_filter, Finset.mem_range]
  omega

theorem pos_lt (d : ℕ) (i : Fin 256) : pos d i.val < 256 := by
  unfold pos; split <;> omega

theorem out_sum (d N : ℕ) (g : ℕ → ℝ) (hg : ∀ a b, g (a + b) = g a * g b) (q k v : Fin 256 → Fin 128 → EReal) (D : Fin 512 → Fin 256 → EReal)
    (W : Fin 256 → Fin 128 → EReal) (S : Fin 128 → Fin 128 → EReal)
    (i : Fin 256) (l : Fin 128) (Q : Fin 128 → ℝ) (K : ℕ → Fin 128 → ℝ) (V : ℕ → ℝ)
    (hq : ∀ e, q i e = (Q e : EReal)) (hk : ∀ n e, k n e = (K (N + pos d n.val) e : EReal)) (hv : ∀ n, v n l = (V (N + pos d n.val) : EReal))
    (hD : ∀ n, (if l.val < 64 then D ⟨i.val, by omega⟩ n else D ⟨256 + i.val, by omega⟩ n)
      = if pos d n.val ≤ pos d i.val then (g (pos d i.val - pos d n.val) : EReal) else 0)
    (hW : ∀ e, (e.val < 64 ↔ l.val < 64) → W i e = (g (pos d i.val + 1) : EReal))
    (hS : ∀ e, S e l = if (e.val < 64 ↔ l.val < 64) then ((∑ m ∈ Finset.range N, g (N - 1 - m) * (K m e * V m) : ℝ) : EReal) else 0) :
    outF q k v D W S i l
      = ((∑ m ∈ Finset.range (N + (pos d i.val + 1)), (∑ e : Fin 128, if (e.val < 64 ↔ l.val < 64) then Q e * K m e else 0) * g (N + pos d i.val - m) * V m : ℝ) : EReal) := by
  have hx : ∀ e, q i e * W i e * S e l = ((if (e.val < 64 ↔ l.val < 64) then Q e * g (pos d i.val + 1) * ∑ m ∈ Finset.range N, g (N - 1 - m) * (K m e * V m) else 0 : ℝ) : EReal) := by
    intro e
    rw [hS]
    by_cases h : (e.val < 64 ↔ l.val < 64)
    · rw [if_pos h, if_pos h, hW e h, hq]; simp only [← EReal.coe_mul]
    · rw [if_neg h, if_neg h, mul_zero, EReal.coe_zero]
  unfold outF
  rw [Finset.sum_congr rfl fun e _ => hx e]
  simp only [hD, hq, hk, hv, ← EReal.coe_mul, coe_ite, ← coe_sum, ← EReal.coe_add]
  congr 1
  rw [sum_pos d (fun p => (∑ e : Fin 128, if (e.val < 64 ↔ l.val < 64) then Q e * K (N + p) e else 0)
    * (if p ≤ pos d i.val then g (pos d i.val - p) else 0) * V (N + p)), Finset.sum_range_add, add_comm]
  refine congrArg₂ (fun a b : ℝ => a + b) ?_ ?_
  · simp only [Finset.sum_mul, Finset.mul_sum]
    rw [Finset.sum_comm]
    refine Finset.sum_congr rfl fun e _ => ?_
    by_cases h : (e.val < 64 ↔ l.val < 64)
    · simp only [if_pos h, Finset.mul_sum]
      refine Finset.sum_congr rfl fun m hm => ?_
      have := Finset.mem_range.mp hm
      rw [show N + pos d i.val - m = (N - 1 - m) + (pos d i.val + 1) by omega, hg (N - 1 - m) (pos d i.val + 1)]; ring
    · simp only [if_neg h, zero_mul, Finset.sum_const_zero]
  · rw [← sum_upto _ _ (pos_lt d i)]
    refine Finset.sum_congr rfl fun p _ => ?_
    by_cases h : p ≤ pos d i.val
    · rw [if_pos h, if_pos h, show N + pos d i.val - (N + p) = pos d i.val - p by omega]
    · rw [if_neg h, if_neg h, mul_zero, zero_mul]

/-- A masked sum over a pair's lanes is one over the lanes of its half. -/
theorem half_sum (l : Fin 128) (f : Fin 128 → ℝ) :
    (∑ e : Fin 128, if (e.val < 64 ↔ l.val < 64) then f e else 0) = ∑ e : Fin 64, f ⟨64 * (l.val / 64) + e.val, by omega⟩ := by
  rw [show (∑ e : Fin 128, if (e.val < 64 ↔ l.val < 64) then f e else 0) = ∑ e : Fin (64 + 64), if (e.val < 64 ↔ l.val < 64) then f e else 0 from rfl, Fin.sum_univ_add]
  by_cases h : l.val < 64
  · rw [show (∑ e : Fin 64, if ((Fin.natAdd 64 e).val < 64 ↔ l.val < 64) then f (Fin.natAdd 64 e) else 0) = 0 from
      Finset.sum_eq_zero fun e _ => if_neg (by simp; omega), add_zero]
    refine Finset.sum_congr rfl fun e _ => ?_
    rw [if_pos (by simp; omega)]
    congr 1; ext; simp; omega
  · rw [show (∑ e : Fin 64, if ((Fin.castAdd 64 e).val < 64 ↔ l.val < 64) then f (Fin.castAdd 64 e) else 0) = 0 from
      Finset.sum_eq_zero fun e _ => if_neg (by simp; omega), zero_add]
    refine Finset.sum_congr rfl fun e _ => ?_
    rw [if_pos (by simp; omega)]
    congr 1; ext; simp; omega

end Cert.Retention
-- ==== Proof.Piece.lean ====
module

public import proofs.«01_k».proof.Proof.Tile
public import Idealize.ShloMosaic.Lib.Pipeline.ReadBack

@[expose] public section

set_option maxRecDepth 16384

noncomputable section

namespace Cert.Retention

open Cert.KernelIdeal Cert.KernelIdeal.Gen Idealize.ShloMosaic Idealize.ShloMosaic.TcCoe Idealize.SL.Sem

/-- Lane `e` of pair `j`'s tile, as a column of a block. -/
abbrev tcol (j : Fin 4) (e : Fin 128) : Fin 512 := ⟨128 * j.val + e.val, by omega⟩

/-- A block's tile of pair `j`. -/
abbrev tile (x : FVec Ideal S256x512 .bf16) (j : Fin 4) : Fin 256 → Fin 128 → EReal := fun a e => x (ix2 a (tcol j e))

/-- The block one direction stores, from its queries, keys and values and the tables of direction `d`. -/
def outB (d : Fin 2) (q k v : FVec Ideal S256x512 .bf16) (D : FVec Ideal S2x4x512x256 .f32) (W : FVec Ideal S2x4x256x128 .f32)
    (S : FVec Ideal S2x4x128x128 .f32) (y : S256x512.Idx) : EReal :=
  outF (tile q ⟨(y 1).val / 128, by have := (y 1).isLt; simp at this; omega⟩) (tile k ⟨(y 1).val / 128, by have := (y 1).isLt; simp at this; omega⟩)
    (tile v ⟨(y 1).val / 128, by have := (y 1).isLt; simp at this; omega⟩)
    (fun a n => D (ix4 d ⟨(y 1).val / 128, by have := (y 1).isLt; simp at this; omega⟩ a n))
    (fun a n => W (ix4 d ⟨(y 1).val / 128, by have := (y 1).isLt; simp at this; omega⟩ a n))
    (fun a n => S (ix4 d ⟨(y 1).val / 128, by have := (y 1).isLt; simp at this; omega⟩ a n))
    (y 0) ⟨(y 1).val % 128, Nat.mod_lt _ (by decide)⟩

theorem ld2 (X : S256x512.Idx → Elt Ideal .bf16) (o : ℕ) (h) (j : Fin 4) (ho : o = 128 * j.val) (a : Fin 256) (e : Fin 128) :
    View.ld (Val := Elt Ideal) X (Rect.unit (s := S256x512) ![0, o] ![256, 128] h) (ix2 a e) = X (ix2 a (tcol j e)) := by
  subst ho
  exact View.ld_unit_apply_of _ _ _ _ _ _ (by intro b; fin_cases b <;> simp <;> rfl)

theorem ld4 {A B : ℕ} (X : (⟨4, ![2, 4, A, B]⟩ : Shape).Idx → Elt Ideal .f32) (d : Fin 2) (j : Fin 4) (o p : ℕ) (h) (ho : o = d.val) (hp : p = j.val)
    (a : Fin A) (e : Fin B) :
    View.ld (Val := Elt Ideal) X (Rect.unit (s := ⟨4, ![2, 4, A, B]⟩) ![o, p, 0, 0] ![1, 1, A, B] h) (ix4 0 0 a e) = X (ix4 d j a e) := by
  subst ho hp
  exact View.ld_unit_apply_of _ _ _ _ _ _ (by intro b; fin_cases b <;> simp <;> rfl)

theorem piece (d : Fin 2) (j : Fin 4) (q k v : FVec Ideal S256x512 .bf16) (D : FVec Ideal S2x4x512x256 .f32) (W : FVec Ideal S2x4x256x128 .f32)
    (S : FVec Ideal S2x4x128x128 .f32) (x : S256x128.Idx) (y : S256x512.Idx) (q' k' v' : FVec Ideal S256x128 .bf16)
    (D' : FVec Ideal S1x1x512x256 .f32) (W' : FVec Ideal S1x1x256x128 .f32) (S' : FVec Ideal S1x1x128x128 .f32)
    (hq : ∀ a e, q' (ix2 a e) = q (ix2 a (tcol j e))) (hk : ∀ a e, k' (ix2 a e) = k (ix2 a (tcol j e)))
    (hv : ∀ a e, v' (ix2 a e) = v (ix2 a (tcol j e))) (hD : ∀ a e, D' (ix4 0 0 a e) = D (ix4 d j a e))
    (hW : ∀ a e, W' (ix4 0 0 a e) = W (ix4 d j a e)) (hS : ∀ a e, S' (ix4 0 0 a e) = S (ix4 d j a e))
    (h0 : (y 0).val = (x 0).val) (h1 : (y 1).val = 128 * j.val + (x 1).val) :
    tileO q' k' v' D' W' S' x = outB d q k v D W S y := by
  have hx := (x 1).isLt
  simp at hx
  have e1 : (y 1).val / 128 = j.val := by omega
  have e2 : (y 1).val % 128 = (x 1).val := by omega
  obtain ⟨i, l, ex⟩ : ∃ (i : Fin 256) (l : Fin 128), x = ix2 i l := ⟨x 0, x 1, by blk_ext⟩
  subst ex
  change (y 0).val = i.val at h0
  change (y 1).val / 128 = j.val at e1
  change (y 1).val % 128 = l.val at e2
  rw [tileO_at]
  simp only [hq, hk, hv, hD, hW, hS, outB, tile, e1, e2]
  congr 1
  exact Fin.ext h0.symm

/-- The state one direction leaves, from its keys and values, the key weights, the chunk's decay and the state
    before. -/
def stateB (k0 v0 k1 v1 : FVec Ideal S256x512 .bf16) (W : FVec Ideal S2x4x256x128 .f32) (C S : FVec Ideal S2x4x128x128 .f32)
    (y : S2x4x128x128.Idx) : EReal :=
  stateF (tile (if (y 0).val = 0 then k0 else k1) (y 1)) (tile (if (y 0).val = 0 then v0 else v1) (y 1))
    (fun a n => W (ix4 (y 0) (y 1) a n)) (fun a n => C (ix4 (y 0) (y 1) a n)) (fun a n => S (ix4 (y 0) (y 1) a n)) (y 2) (y 3)

theorem pieceS (d : Fin 2) (j : Fin 4) (k0 v0 k1 v1 : FVec Ideal S256x512 .bf16) (W : FVec Ideal S2x4x256x128 .f32)
    (C S : FVec Ideal S2x4x128x128 .f32) (x : S1x1x128x128.Idx) (y : S2x4x128x128.Idx) (k' v' : FVec Ideal S256x128 .bf16)
    (W' : FVec Ideal S1x1x256x128 .f32) (C' S' : FVec Ideal S1x1x128x128 .f32)
    (K V : FVec Ideal S256x512 .bf16) (hK : (if d.val = 0 then k0 else k1) = K) (hV : (if d.val = 0 then v0 else v1) = V)
    (hk : ∀ a e, k' (ix2 a e) = K (ix2 a (tcol j e))) (hv : ∀ a e, v' (ix2 a e) = V (ix2 a (tcol j e)))
    (hW : ∀ a e, W' (ix4 0 0 a e) = W (ix4 d j a e)) (hC : ∀ a e, C' (ix4 0 0 a e) = C (ix4 d j a e))
    (hS : ∀ a e, S' (ix4 0 0 a e) = S (ix4 d j a e))
    (h0 : (y 0).val = d.val + (x 0).val) (h1 : (y 1).val = j.val + (x 1).val) (h2 : (y 2).val = (x 2).val) (h3 : (y 3).val = (x 3).val) :
    tileS k' v' W' C' S' x = stateB k0 v0 k1 v1 W C S y := by
  obtain ⟨i, l, ex⟩ : ∃ (i : Fin 128) (l : Fin 128), x = ix4 0 0 i l := ⟨x 2, x 3, by blk_ext⟩
  subst ex
  change (y 0).val = d.val at h0
  change (y 1).val = j.val at h1
  change (y 2).val = i.val at h2
  change (y 3).val = l.val at h3
  obtain rfl : y = ix4 d j i l := by blk_ext
  rw [tileS_at]
  subst hK hV
  simp only [hk, hv, hW, hC, hS]
  rfl

end Cert.Retention
-- ==== Proof.Block.lean ====
module

public import proofs.«01_k».proof.Proof.Piece
public import Idealize.ShloMosaic.Lib.Pipeline.ReadBack

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

theorem out7_B (c : Dev nD) (t : Fin cfg0.N) (hB : ¬t.val % 17 = 0) (y : S256x512.Idx) :
    (outsAt0 m c t.val t.isLt).1 y = outB 0 (X0_0 m c t) (X0_1 m c t) (X0_2 m c t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.1 y := by
  rw [outsAt0_B m c t hB]
  frame_out
  clear hB
  canon_tiles x h
  case piece0 =>
    refine piece 0 3 (X0_0 m c t) (X0_1 m c t) (X0_2 m c t) _ _ _ x y _ _ _ _ _ _ (ld2 _ _ _ 3 rfl) (ld2 _ _ _ 3 rfl) (ld2 _ _ _ 3 rfl)
      (fun a e => ?_) (fun a e => ?_) (fun a e => ?_) h0 h1
    iterate 3
      · rw [read_unread_whole]
        exact ld4 _ 0 3 _ _ _ rfl rfl a e
  case piece1 =>
    refine piece 0 2 (X0_0 m c t) (X0_1 m c t) (X0_2 m c t) _ _ _ x y _ _ _ _ _ _ (ld2 _ _ _ 2 rfl) (ld2 _ _ _ 2 rfl) (ld2 _ _ _ 2 rfl)
      (fun a e => ?_) (fun a e => ?_) (fun a e => ?_) h0 h1
    iterate 3
      · rw [read_unread_whole]
        exact ld4 _ 0 2 _ _ _ rfl rfl a e
  case piece2 =>
    refine piece 0 1 (X0_0 m c t) (X0_1 m c t) (X0_2 m c t) _ _ _ x y _ _ _ _ _ _ (ld2 _ _ _ 1 rfl) (ld2 _ _ _ 1 rfl) (ld2 _ _ _ 1 rfl)
      (fun a e => ?_) (fun a e => ?_) (fun a e => ?_) h0 h1
    iterate 3
      · rw [read_unread_whole]
        exact ld4 _ 0 1 _ _ _ rfl rfl a e
  case piece3 =>
    refine piece 0 0 (X0_0 m c t) (X0_1 m c t) (X0_2 m c t) _ _ _ x y _ _ _ _ _ _ (ld2 _ _ _ 0 rfl) (ld2 _ _ _ 0 rfl) (ld2 _ _ _ 0 rfl)
      (fun a e => ?_) (fun a e => ?_) (fun a e => ?_) h0 ?_
    iterate 3
      · rw [read_unread_whole]
        exact ld4 _ 0 0 _ _ _ rfl rfl a e
    · simpa using h1

theorem out8_B (c : Dev nD) (t : Fin cfg0.N) (hB : ¬t.val % 17 = 0) (y : S256x512.Idx) :
    (outsAt0 m c t.val t.isLt).2.1 y = outB 1 (X0_3 m c t) (X0_4 m c t) (X0_5 m c t)
      (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.1 y := by
  rw [outsAt0_B m c t hB]
  frame_out
  clear hB
  canon_tiles x h
  case piece0 =>
    refine piece 1 3 (X0_3 m c t) (X0_4 m c t) (X0_5 m c t) _ _ _ x y _ _ _ _ _ _ (ld2 _ _ _ 3 rfl) (ld2 _ _ _ 3 rfl) (ld2 _ _ _ 3 rfl)
      (fun a e => ?_) (fun a e => ?_) (fun a e => ?_) h0 h1
    iterate 3
      · rw [read_unread_whole]
        exact ld4 _ 1 3 _ _ _ rfl rfl a e
  case piece1 =>
    refine piece 1 2 (X0_3 m c t) (X0_4 m c t) (X0_5 m c t) _ _ _ x y _ _ _ _ _ _ (ld2 _ _ _ 2 rfl) (ld2 _ _ _ 2 rfl) (ld2 _ _ _ 2 rfl)
      (fun a e => ?_) (fun a e => ?_) (fun a e => ?_) h0 h1
    iterate 3
      · rw [read_unread_whole]
        exact ld4 _ 1 2 _ _ _ rfl rfl a e
  case piece2 =>
    refine piece 1 1 (X0_3 m c t) (X0_4 m c t) (X0_5 m c t) _ _ _ x y _ _ _ _ _ _ (ld2 _ _ _ 1 rfl) (ld2 _ _ _ 1 rfl) (ld2 _ _ _ 1 rfl)
      (fun a e => ?_) (fun a e => ?_) (fun a e => ?_) h0 h1
    iterate 3
      · rw [read_unread_whole]
        exact ld4 _ 1 1 _ _ _ rfl rfl a e
  case piece3 =>
    refine piece 1 0 (X0_3 m c t) (X0_4 m c t) (X0_5 m c t) _ _ _ x y _ _ _ _ _ _ (ld2 _ _ _ 0 rfl) (ld2 _ _ _ 0 rfl) (ld2 _ _ _ 0 rfl)
      (fun a e => ?_) (fun a e => ?_) (fun a e => ?_) h0 ?_
    iterate 3
      · rw [read_unread_whole]
        exact ld4 _ 1 0 _ _ _ rfl rfl a e
    · simpa using h1

theorem state_B (c : Dev nD) (t : Fin cfg0.N) (hB : ¬t.val % 17 = 0) (y : S2x4x128x128.Idx) :
    (outsAt0 m c t.val t.isLt).2.2.1 y = stateB (X0_1 m c t) (X0_2 m c t) (X0_4 m c t) (X0_5 m c t)
      (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2
      (outsAt0 m c (t.val - 1) (Nat.lt_of_le_of_lt (Nat.sub_le _ _) t.isLt)).2.2.1 y := by
  rw [outsAt0_B m c t hB]
  frame_out
  clear hB
  canon_tiles x h
  case piece0 =>
    refine pieceS 1 3 (X0_1 m c t) (X0_2 m c t) (X0_4 m c t) (X0_5 m c t) _ _ _ x y _ _ _ _ _ (X0_4 m c t) (X0_5 m c t)
      (if_neg (by decide)) (if_neg (by decide)) (ld2 _ _ _ 3 rfl) (ld2 _ _ _ 3 rfl) (fun a e => ?_) (fun a e => ?_) (fun a e => ?_) ?_ ?_ h2 h3
    iterate 3
      · rw [read_unread_whole]
        exact ld4 _ 1 3 _ _ _ rfl rfl a e
    · simpa using h0
    · simpa using h1
  case piece1 =>
    refine pieceS 1 2 (X0_1 m c t) (X0_2 m c t) (X0_4 m c t) (X0_5 m c t) _ _ _ x y _ _ _ _ _ (X0_4 m c t) (X0_5 m c t)
      (if_neg (by decide)) (if_neg (by decide)) (ld2 _ _ _ 2 rfl) (ld2 _ _ _ 2 rfl) (fun a e => ?_) (fun a e => ?_) (fun a e => ?_) ?_ ?_ h2 h3
    iterate 3
      · rw [read_unread_whole]
        exact ld4 _ 1 2 _ _ _ rfl rfl a e
    · simpa using h0
    · simpa using h1
  case piece2 =>
    refine pieceS 1 1 (X0_1 m c t) (X0_2 m c t) (X0_4 m c t) (X0_5 m c t) _ _ _ x y _ _ _ _ _ (X0_4 m c t) (X0_5 m c t)
      (if_neg (by decide)) (if_neg (by decide)) (ld2 _ _ _ 1 rfl) (ld2 _ _ _ 1 rfl) (fun a e => ?_) (fun a e => ?_) (fun a e => ?_) ?_ ?_ h2 h3
    iterate 3
      · rw [read_unread_whole]
        exact ld4 _ 1 1 _ _ _ rfl rfl a e
    · simpa using h0
    · simpa using h1
  case piece3 =>
    refine pieceS 1 0 (X0_1 m c t) (X0_2 m c t) (X0_4 m c t) (X0_5 m c t) _ _ _ x y _ _ _ _ _ (X0_4 m c t) (X0_5 m c t)
      (if_neg (by decide)) (if_neg (by decide)) (ld2 _ _ _ 0 rfl) (ld2 _ _ _ 0 rfl) (fun a e => ?_) (fun a e => ?_) (fun a e => ?_) ?_ ?_ h2 h3
    iterate 3
      · rw [read_unread_whole]
        exact ld4 _ 1 0 _ _ _ rfl rfl a e
    · simpa using h0
    · simpa using h1
  case piece4 =>
    refine pieceS 0 3 (X0_1 m c t) (X0_2 m c t) (X0_4 m c t) (X0_5 m c t) _ _ _ x y _ _ _ _ _ (X0_1 m c t) (X0_2 m c t)
      (if_pos rfl) (if_pos rfl) (ld2 _ _ _ 3 rfl) (ld2 _ _ _ 3 rfl) (fun a e => ?_) (fun a e => ?_) (fun a e => ?_) ?_ ?_ h2 h3
    iterate 3
      · rw [read_unread_whole]
        exact ld4 _ 0 3 _ _ _ rfl rfl a e
    · simpa using h0
    · simpa using h1
  case piece5 =>
    refine pieceS 0 2 (X0_1 m c t) (X0_2 m c t) (X0_4 m c t) (X0_5 m c t) _ _ _ x y _ _ _ _ _ (X0_1 m c t) (X0_2 m c t)
      (if_pos rfl) (if_pos rfl) (ld2 _ _ _ 2 rfl) (ld2 _ _ _ 2 rfl) (fun a e => ?_) (fun a e => ?_) (fun a e => ?_) ?_ ?_ h2 h3
    iterate 3
      · rw [read_unread_whole]
        exact ld4 _ 0 2 _ _ _ rfl rfl a e
    · simpa using h0
    · simpa using h1
  case piece6 =>
    refine pieceS 0 1 (X0_1 m c t) (X0_2 m c t) (X0_4 m c t) (X0_5 m c t) _ _ _ x y _ _ _ _ _ (X0_1 m c t) (X0_2 m c t)
      (if_pos rfl) (if_pos rfl) (ld2 _ _ _ 1 rfl) (ld2 _ _ _ 1 rfl) (fun a e => ?_) (fun a e => ?_) (fun a e => ?_) ?_ ?_ h2 h3
    iterate 3
      · rw [read_unread_whole]
        exact ld4 _ 0 1 _ _ _ rfl rfl a e
    · simpa using h0
    · simpa using h1
  case piece7 =>
    refine pieceS 0 0 (X0_1 m c t) (X0_2 m c t) (X0_4 m c t) (X0_5 m c t) _ _ _ x y _ _ _ _ _ (X0_1 m c t) (X0_2 m c t)
      (if_pos rfl) (if_pos rfl) (ld2 _ _ _ 0 rfl) (ld2 _ _ _ 0 rfl) (fun a e => ?_) (fun a e => ?_) (fun a e => ?_) ?_ ?_ h2 h3
    iterate 3
      · rw [read_unread_whole]
        exact ld4 _ 0 0 _ _ _ rfl rfl a e
    · simpa using h0
    · simpa using h1

end Cert.Retention
-- ==== Proof.BlockA.lean ====
module

public import proofs.«01_k».proof.Proof.Piece
public import Idealize.ShloMosaic.Lib.Pipeline.ReadBack

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

theorem rc4 {A B : ℕ} {sp} (v : View sig .tc sp (⟨4, ![2, 4, A, B]⟩ : Shape) .f32) (L : List (View.Piece (Elt Ideal) (⟨4, ![2, 4, A, B]⟩ : Shape) .f32))
    (d : Fin 2) (j : Fin 4) (o p : ℕ) (h) (ho : o = d.val) (hp : p = j.val) (a : Fin A) (e : Fin B) :
    v.readCov L (Rect.unit (s := ⟨4, ![2, 4, A, B]⟩) ![o, p, 0, 0] ![1, 1, A, B] h).toLoadRect (ix4 0 0 a e) = View.canon L (ix4 d j a e) := by
  rw [View.readCov_eq_canon']
  subst ho hp
  refine congrArg (View.canon L) (funext fun b => Fin.ext ?_)
  refine (Rect.idx_unit_val _ _ _ _ _).trans ?_
  fin_cases b <;> simp <;> rfl

/-- The zero the state is set to before the first chunk. -/
theorem zero_state (x : S2x4x128x128.Idx) : k0_pay1 (F := Ideal) x = 0 := by
  obtain ⟨a, b, i, l, rfl⟩ : ∃ a b i l, x = ix4 a b i l := ⟨x 0, x 1, x 2, x 3, by blk_ext⟩
  pointwise [k0_pay1]

theorem rs4 {w : (⟨4, ![2, 4, 128, 128]⟩ : Shape).Idx → Elt Ideal .f32} (hw : ∀ x, w x = 0) : True := trivial

theorem keep_B1 (c : Dev nD) (t : Fin cfg0.N) (hB : ¬t.val % 17 = 0) :
    (outsAt0 m c t.val t.isLt).2.2.2 = (outsAt0 m c (t.val - 1) (Nat.lt_of_le_of_lt (Nat.sub_le _ _) t.isLt)).2.2.2 := by
  rw [outsAt0_B m c t hB]
  rfl

/-- A store under stores that hold the place is not seen. -/
theorem canon_left {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], hy => by obtain ⟨p, hp, _⟩ := hy; simp at hp
  | p :: L, hy => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_left L' y L ?_
      obtain ⟨q, hq, hs⟩ := hy
      rcases List.mem_cons.mp hq with rfl | hq
      · exact absurd hs hm
      · exact ⟨q, hq, hs⟩

theorem canon_eight {S : Shape} {e : EltTy} (a b c d f g h i z : View.Piece (Elt Ideal) S e) (y : S.Idx)
    (hc : ∃ p ∈ [a, b, c, d, f, g, h, i], y ∈ p.1.set) :
    View.canon [a, b, c, d, f, g, h, i, z] y = View.canon [a, b, c, d, f, g, h, i] y :=
  canon_left [z] y [a, b, c, d, f, g, h, i] hc

theorem out7_A (c : Dev nD) (t : Fin cfg0.N) (hA : t.val % 17 = 0) (y : S256x512.Idx) :
    (outsAt0 m c t.val t.isLt).1 y = outB 0 (X0_0 m c t) (X0_1 m c t) (X0_2 m c t)
      (outsAt0 m c t.val t.isLt).2.2.2.1 (outsAt0 m c t.val t.isLt).2.2.2.2.1 (fun _ => 0) y := by
  rw [outsAt0_A m c t hA]
  frame_out
  clear hA
  canon_tiles x h
  case piece0 =>
    refine piece 0 3 (X0_0 m c t) (X0_1 m c t) (X0_2 m c t) _ _ _ x y _ _ _ _ _ _ (ld2 _ _ _ 3 rfl) (ld2 _ _ _ 3 rfl) (ld2 _ _ _ 3 rfl)
      (fun a e => ?_) (fun a e => ?_) (fun a e => ?_) h0 h1
    iterate 2
      · exact rc4 _ _ 0 3 _ _ _ rfl rfl a e
    · refine (rc4 _ _ 0 3 _ _ _ rfl rfl a e).trans ?_
      canon_tiles z g
      exact zero_state z
  case piece1 =>
    refine piece 0 2 (X0_0 m c t) (X0_1 m c t) (X0_2 m c t) _ _ _ x y _ _ _ _ _ _ (ld2 _ _ _ 2 rfl) (ld2 _ _ _ 2 rfl) (ld2 _ _ _ 2 rfl)
      (fun a e => ?_) (fun a e => ?_) (fun a e => ?_) h0 h1
    iterate 2
      · exact rc4 _ _ 0 2 _ _ _ rfl rfl a e
    · refine (rc4 _ _ 0 2 _ _ _ rfl rfl a e).trans ?_
      canon_tiles z g
      exact zero_state z
  case piece2 =>
    refine piece 0 1 (X0_0 m c t) (X0_1 m c t) (X0_2 m c t) _ _ _ x y _ _ _ _ _ _ (ld2 _ _ _ 1 rfl) (ld2 _ _ _ 1 rfl) (ld2 _ _ _ 1 rfl)
      (fun a e => ?_) (fun a e => ?_) (fun a e => ?_) h0 h1
    iterate 2
      · exact rc4 _ _ 0 1 _ _ _ rfl rfl a e
    · refine (rc4 _ _ 0 1 _ _ _ rfl rfl a e).trans ?_
      canon_tiles z g
      exact zero_state z
  case piece3 =>
    refine piece 0 0 (X0_0 m c t) (X0_1 m c t) (X0_2 m c t) _ _ _ x y _ _ _ _ _ _ (ld2 _ _ _ 0 rfl) (ld2 _ _ _ 0 rfl) (ld2 _ _ _ 0 rfl)
      (fun a e => ?_) (fun a e => ?_) (fun a e => ?_) h0 ?_
    iterate 2
      · exact rc4 _ _ 0 0 _ _ _ rfl rfl a e
    · refine (rc4 _ _ 0 0 _ _ _ rfl rfl a e).trans ?_
      canon_tiles z g
      exact zero_state z
    · simpa using h1

theorem out8_A (c : Dev nD) (t : Fin cfg0.N) (hA : t.val % 17 = 0) (y : S256x512.Idx) :
    (outsAt0 m c t.val t.isLt).2.1 y = outB 1 (X0_3 m c t) (X0_4 m c t) (X0_5 m c t)
      (outsAt0 m c t.val t.isLt).2.2.2.1 (outsAt0 m c t.val t.isLt).2.2.2.2.1 (fun _ => 0) y := by
  rw [outsAt0_A m c t hA]
  frame_out
  clear hA
  canon_tiles x h
  case piece0 =>
    refine piece 1 3 (X0_3 m c t) (X0_4 m c t) (X0_5 m c t) _ _ _ x y _ _ _ _ _ _ (ld2 _ _ _ 3 rfl) (ld2 _ _ _ 3 rfl) (ld2 _ _ _ 3 rfl)
      (fun a e => ?_) (fun a e => ?_) (fun a e => ?_) h0 h1
    iterate 2
      · exact rc4 _ _ 1 3 _ _ _ rfl rfl a e
    · refine (rc4 _ _ 1 3 _ _ _ rfl rfl a e).trans ?_
      canon_tiles z g
      exact zero_state z
  case piece1 =>
    refine piece 1 2 (X0_3 m c t) (X0_4 m c t) (X0_5 m c t) _ _ _ x y _ _ _ _ _ _ (ld2 _ _ _ 2 rfl) (ld2 _ _ _ 2 rfl) (ld2 _ _ _ 2 rfl)
      (fun a e => ?_) (fun a e => ?_) (fun a e => ?_) h0 h1
    iterate 2
      · exact rc4 _ _ 1 2 _ _ _ rfl rfl a e
    · refine (rc4 _ _ 1 2 _ _ _ rfl rfl a e).trans ?_
      canon_tiles z g
      exact zero_state z
  case piece2 =>
    refine piece 1 1 (X0_3 m c t) (X0_4 m c t) (X0_5 m c t) _ _ _ x y _ _ _ _ _ _ (ld2 _ _ _ 1 rfl) (ld2 _ _ _ 1 rfl) (ld2 _ _ _ 1 rfl)
      (fun a e => ?_) (fun a e => ?_) (fun a e => ?_) h0 h1
    iterate 2
      · exact rc4 _ _ 1 1 _ _ _ rfl rfl a e
    · refine (rc4 _ _ 1 1 _ _ _ rfl rfl a e).trans ?_
      canon_tiles z g
      exact zero_state z
  case piece3 =>
    refine piece 1 0 (X0_3 m c t) (X0_4 m c t) (X0_5 m c t) _ _ _ x y _ _ _ _ _ _ (ld2 _ _ _ 0 rfl) (ld2 _ _ _ 0 rfl) (ld2 _ _ _ 0 rfl)
      (fun a e => ?_) (fun a e => ?_) (fun a e => ?_) h0 ?_
    iterate 2
      · exact rc4 _ _ 1 0 _ _ _ rfl rfl a e
    · refine (rc4 _ _ 1 0 _ _ _ rfl rfl a e).trans ?_
      canon_tiles z g
      exact zero_state z
    · simpa using h1

theorem state_A (c : Dev nD) (t : Fin cfg0.N) (hA : t.val % 17 = 0) (y : S2x4x128x128.Idx) :
    (outsAt0 m c t.val t.isLt).2.2.1 y = stateB (X0_1 m c t) (X0_2 m c t) (X0_4 m c t) (X0_5 m c t)
      (outsAt0 m c t.val t.isLt).2.2.2.2.2.1 (outsAt0 m c t.val t.isLt).2.2.2.2.2.2 (fun _ => 0) y := by
  rw [outsAt0_A m c t hA]
  frame_out
  clear hA
  refine (canon_eight _ _ _ _ _ _ _ _ _ y (View.cover_of_tiled_head _ _ _ (by rfl) _)).trans ?_
  canon_tiles x h
  case piece0 =>
    refine pieceS 1 3 (X0_1 m c t) (X0_2 m c t) (X0_4 m c t) (X0_5 m c t) _ _ _ x y _ _ _ _ _ (X0_4 m c t) (X0_5 m c t)
      (if_neg (by decide)) (if_neg (by decide)) (ld2 _ _ _ 3 rfl) (ld2 _ _ _ 3 rfl) (fun a e => ?_) (fun a e => ?_) (fun a e => ?_) ?_ ?_ h2 h3
    iterate 2
      · exact rc4 _ _ 1 3 _ _ _ rfl rfl a e
    · refine (rc4 _ _ 1 3 _ _ _ rfl rfl a e).trans ?_
      canon_tiles z g
      exact zero_state z
    · simpa using h0
    · simpa using h1
  case piece1 =>
    refine pieceS 1 2 (X0_1 m c t) (X0_2 m c t) (X0_4 m c t) (X0_5 m c t) _ _ _ x y _ _ _ _ _ (X0_4 m c t) (X0_5 m c t)
      (if_neg (by decide)) (if_neg (by decide)) (ld2 _ _ _ 2 rfl) (ld2 _ _ _ 2 rfl) (fun a e => ?_) (fun a e => ?_) (fun a e => ?_) ?_ ?_ h2 h3
    iterate 2
      · exact rc4 _ _ 1 2 _ _ _ rfl rfl a e
    · refine (rc4 _ _ 1 2 _ _ _ rfl rfl a e).trans ?_
      canon_tiles z g
      exact zero_state z
    · simpa using h0
    · simpa using h1
  case piece2 =>
    refine pieceS 1 1 (X0_1 m c t) (X0_2 m c t) (X0_4 m c t) (X0_5 m c t) _ _ _ x y _ _ _ _ _ (X0_4 m c t) (X0_5 m c t)
      (if_neg (by decide)) (if_neg (by decide)) (ld2 _ _ _ 1 rfl) (ld2 _ _ _ 1 rfl) (fun a e => ?_) (fun a e => ?_) (fun a e => ?_) ?_ ?_ h2 h3
    iterate 2
      · exact rc4 _ _ 1 1 _ _ _ rfl rfl a e
    · refine (rc4 _ _ 1 1 _ _ _ rfl rfl a e).trans ?_
      canon_tiles z g
      exact zero_state z
    · simpa using h0
    · simpa using h1
  case piece3 =>
    refine pieceS 1 0 (X0_1 m c t) (X0_2 m c t) (X0_4 m c t) (X0_5 m c t) _ _ _ x y _ _ _ _ _ (X0_4 m c t) (X0_5 m c t)
      (if_neg (by decide)) (if_neg (by decide)) (ld2 _ _ _ 0 rfl) (ld2 _ _ _ 0 rfl) (fun a e => ?_) (fun a e => ?_) (fun a e => ?_) ?_ ?_ h2 h3
    iterate 2
      · exact rc4 _ _ 1 0 _ _ _ rfl rfl a e
    · refine (rc4 _ _ 1 0 _ _ _ rfl rfl a e).trans ?_
      canon_tiles z g
      exact zero_state z
    · simpa using h0
    · simpa using h1
  case piece4 =>
    refine pieceS 0 3 (X0_1 m c t) (X0_2 m c t) (X0_4 m c t) (X0_5 m c t) _ _ _ x y _ _ _ _ _ (X0_1 m c t) (X0_2 m c t)
      (if_pos rfl) (if_pos rfl) (ld2 _ _ _ 3 rfl) (ld2 _ _ _ 3 rfl) (fun a e => ?_) (fun a e => ?_) (fun a e => ?_) ?_ ?_ h2 h3
    iterate 2
      · exact rc4 _ _ 0 3 _ _ _ rfl rfl a e
    · refine (rc4 _ _ 0 3 _ _ _ rfl rfl a e).trans ?_
      canon_tiles z g
      exact zero_state z
    · simpa using h0
    · simpa using h1
  case piece5 =>
    refine pieceS 0 2 (X0_1 m c t) (X0_2 m c t) (X0_4 m c t) (X0_5 m c t) _ _ _ x y _ _ _ _ _ (X0_1 m c t) (X0_2 m c t)
      (if_pos rfl) (if_pos rfl) (ld2 _ _ _ 2 rfl) (ld2 _ _ _ 2 rfl) (fun a e => ?_) (fun a e => ?_) (fun a e => ?_) ?_ ?_ h2 h3
    iterate 2
      · exact rc4 _ _ 0 2 _ _ _ rfl rfl a e
    · refine (rc4 _ _ 0 2 _ _ _ rfl rfl a e).trans ?_
      canon_tiles z g
      exact zero_state z
    · simpa using h0
    · simpa using h1
  case piece6 =>
    refine pieceS 0 1 (X0_1 m c t) (X0_2 m c t) (X0_4 m c t) (X0_5 m c t) _ _ _ x y _ _ _ _ _ (X0_1 m c t) (X0_2 m c t)
      (if_pos rfl) (if_pos rfl) (ld2 _ _ _ 1 rfl) (ld2 _ _ _ 1 rfl) (fun a e => ?_) (fun a e => ?_) (fun a e => ?_) ?_ ?_ h2 h3
    iterate 2
      · exact rc4 _ _ 0 1 _ _ _ rfl rfl a e
    · refine (rc4 _ _ 0 1 _ _ _ rfl rfl a e).trans ?_
      canon_tiles z g
      exact zero_state z
    · simpa using h0
    · simpa using h1
  case piece7 =>
    refine pieceS 0 0 (X0_1 m c t) (X0_2 m c t) (X0_4 m c t) (X0_5 m c t) _ _ _ x y _ _ _ _ _ (X0_1 m c t) (X0_2 m c t)
      (if_pos rfl) (if_pos rfl) (ld2 _ _ _ 0 rfl) (ld2 _ _ _ 0 rfl) (fun a e => ?_) (fun a e => ?_) (fun a e => ?_) ?_ ?_ h2 h3
    iterate 2
      · exact rc4 _ _ 0 0 _ _ _ rfl rfl a e
    · refine (rc4 _ _ 0 0 _ _ _ rfl rfl a e).trans ?_
      canon_tiles z g
      exact zero_state z
    · simpa using h0
    · simpa using h1

end Cert.Retention
-- ==== Proof.Tables.lean ====
module

public import proofs.«01_k».proof.Proof.Piece
public import proofs.«01_k».proof.Proof.Decay

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

theorem dec_A (c : Dev nD) (t : Fin cfg0.N) (hA : t.val % 17 = 0) (r : Fin 2 → Fin 8 → EReal)
    (hR : ∀ d hh l, iblk m c 6 t (ix3 d hh l) = r d hh) (y : S2x4x512x256.Idx) :
    (outsAt0 m c t.val t.isLt).2.2.2.1 y = decF r (y 0) (y 1) (y 2) (y 3) := by
  rw [outsAt0_A m c t hA]
  frame_out
  clear hA
  canon_tiles x h
  case piece0 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 3 1 i l y (h0.trans (by rfl)) (h1.trans (by rfl)) (h2.trans (by simp <;> rfl)) h3
  case piece1 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 3 0 i l y (h0.trans (by rfl)) (h1.trans (by rfl)) (h2.trans (by simp <;> rfl)) h3
  case piece2 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 2 1 i l y (h0.trans (by rfl)) (h1.trans (by rfl)) (h2.trans (by simp <;> rfl)) h3
  case piece3 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 2 0 i l y (h0.trans (by rfl)) (h1.trans (by rfl)) (h2.trans (by simp <;> rfl)) h3
  case piece4 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 1 1 i l y (h0.trans (by rfl)) (h1.trans (by rfl)) (h2.trans (by simp <;> rfl)) h3
  case piece5 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 1 0 i l y (h0.trans (by rfl)) (h1.trans (by rfl)) (h2.trans (by simp <;> rfl)) h3
  case piece6 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 0 1 i l y (h0.trans (by rfl)) (h1.trans (by rfl)) (h2.trans (by simp <;> rfl)) h3
  case piece7 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece1 r 0 0 i l y (h0.trans (by rfl)) (h1.trans (by rfl)) (h2.trans (by simp <;> rfl)) h3
  case piece8 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 3 1 i l y (h0.trans (by rfl)) (h1.trans (by rfl)) (h2.trans (by simp <;> rfl)) h3
  case piece9 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 3 0 i l y (h0.trans (by rfl)) (h1.trans (by rfl)) (h2.trans (by simp <;> rfl)) h3
  case piece10 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 2 1 i l y (h0.trans (by rfl)) (h1.trans (by rfl)) (h2.trans (by simp <;> rfl)) h3
  case piece11 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 2 0 i l y (h0.trans (by rfl)) (h1.trans (by rfl)) (h2.trans (by simp <;> rfl)) h3
  case piece12 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 1 1 i l y (h0.trans (by rfl)) (h1.trans (by rfl)) (h2.trans (by simp <;> rfl)) h3
  case piece13 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 1 0 i l y (h0.trans (by rfl)) (h1.trans (by rfl)) (h2.trans (by simp <;> rfl)) h3
  case piece14 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 0 1 i l y (h0.trans (by rfl)) (h1.trans (by rfl)) (h2.trans (by simp <;> rfl)) h3
  case piece15 =>
    obtain ⟨i, l, ex⟩ : ∃ (i : Fin 256) (l : Fin 256), x = ix4 0 0 i l := ⟨x 2, x 3, by blk_ext⟩
    subst ex
    open_payloads
    pointwise
    simp only [hR, dite_eq_ite, ite_self]
    exact dec_piece0 r 0 0 i l y (h0.trans (by rfl)) (h1.trans (by rfl)) (h2.trans (by simp <;> rfl)) h3

theorem qw_A (c : Dev nD) (t : Fin cfg0.N) (hA : t.val % 17 = 0) (r : Fin 2 → Fin 8 → EReal)
    (hR : ∀ d hh l, iblk m c 6 t (ix3 d hh l) = r d hh) (y : S2x4x256x128.Idx) :
    (outsAt0 m c t.val t.isLt).2.2.2.2.1 y = qwF r (y 0) (y 1) (y 2) (y 3) := by
  rw [outsAt0_A m c t hA]
  frame_out
  clear hA
  canon_tiles x h
  case piece0 =>
    obtain ⟨i, l, ex⟩ : ∃ (i : Fin 256) (l : Fin 128), x = ix4 0 0 i l := ⟨x 2, x 3, by blk_ext⟩
    subst ex
    obtain rfl : y = ix4 1 3 i l := by
      have e0 := h0.trans (show _ = 1 by rfl)
      have e1 := h1.trans (show _ = 3 by rfl)
      change (y 2).val = i.val at h2
      change (y 3).val = l.val at h3
      clear h0 h1
      blk_ext
    open_payloads
    pointwise
    rw [hR, hR, select_head (r 1) 3 l 6 7 rfl rfl, sitofp_small _ (by omega)]
    rw [ofBits_256, show (256 : ℝ) = ((256 : ℕ) : ℝ) by norm_num, real_sub _ _ (by omega)]
    refine congrArg (fun n : ℕ => gam (r 1 (hd 3 ⟨l.val / 64, half_lt l⟩)) n) ?_
    show _ = _
    simp [pos]
    try omega
  case piece1 =>
    obtain ⟨i, l, ex⟩ : ∃ (i : Fin 256) (l : Fin 128), x = ix4 0 0 i l := ⟨x 2, x 3, by blk_ext⟩
    subst ex
    obtain rfl : y = ix4 1 2 i l := by
      have e0 := h0.trans (show _ = 1 by rfl)
      have e1 := h1.trans (show _ = 2 by rfl)
      change (y 2).val = i.val at h2
      change (y 3).val = l.val at h3
      clear h0 h1
      blk_ext
    open_payloads
    pointwise
    rw [hR, hR, select_head (r 1) 2 l 4 5 rfl rfl, sitofp_small _ (by omega)]
    rw [ofBits_256, show (256 : ℝ) = ((256 : ℕ) : ℝ) by norm_num, real_sub _ _ (by omega)]
    refine congrArg (fun n : ℕ => gam (r 1 (hd 2 ⟨l.val / 64, half_lt l⟩)) n) ?_
    show _ = _
    simp [pos]
    try omega
  case piece2 =>
    obtain ⟨i, l, ex⟩ : ∃ (i : Fin 256) (l : Fin 128), x = ix4 0 0 i l := ⟨x 2, x 3, by blk_ext⟩
    subst ex
    obtain rfl : y = ix4 1 1 i l := by
      have e0 := h0.trans (show _ = 1 by rfl)
      have e1 := h1.trans (show _ = 1 by rfl)
      change (y 2).val = i.val at h2
      change (y 3).val = l.val at h3
      clear h0 h1
      blk_ext
    open_payloads
    pointwise
    rw [hR, hR, select_head (r 1) 1 l 2 3 rfl rfl, sitofp_small _ (by omega)]
    rw [ofBits_256, show (256 : ℝ) = ((256 : ℕ) : ℝ) by norm_num, real_sub _ _ (by omega)]
    refine congrArg (fun n : ℕ => gam (r 1 (hd 1 ⟨l.val / 64, half_lt l⟩)) n) ?_
    show _ = _
    simp [pos]
    try omega
  case piece3 =>
    obtain ⟨i, l, ex⟩ : ∃ (i : Fin 256) (l : Fin 128), x = ix4 0 0 i l := ⟨x 2, x 3, by blk_ext⟩
    subst ex
    obtain rfl : y = ix4 1 0 i l := by
      have e0 := h0.trans (show _ = 1 by rfl)
      have e1 := h1.trans (show _ = 0 by rfl)
      change (y 2).val = i.val at h2
      change (y 3).val = l.val at h3
      clear h0 h1
      blk_ext
    open_payloads
    pointwise
    rw [hR, hR, select_head (r 1) 0 l 0 1 rfl rfl, sitofp_small _ (by omega)]
    rw [ofBits_256, show (256 : ℝ) = ((256 : ℕ) : ℝ) by norm_num, real_sub _ _ (by omega)]
    refine congrArg (fun n : ℕ => gam (r 1 (hd 0 ⟨l.val / 64, half_lt l⟩)) n) ?_
    show _ = _
    simp [pos]
    try omega
  case piece4 =>
    obtain ⟨i, l, ex⟩ : ∃ (i : Fin 256) (l : Fin 128), x = ix4 0 0 i l := ⟨x 2, x 3, by blk_ext⟩
    subst ex
    obtain rfl : y = ix4 0 3 i l := by
      have e0 := h0.trans (show _ = 0 by rfl)
      have e1 := h1.trans (show _ = 3 by rfl)
      change (y 2).val = i.val at h2
      change (y 3).val = l.val at h3
      clear h0 h1
      blk_ext
    open_payloads
    pointwise
    rw [hR, hR, select_head (r 0) 3 l 6 7 rfl rfl, sitofp_small _ (by omega)]
    rw [real_add_one]
    refine congrArg (fun n : ℕ => gam (r 0 (hd 3 ⟨l.val / 64, half_lt l⟩)) n) ?_
    show _ = _
    simp [pos]
    try omega
  case piece5 =>
    obtain ⟨i, l, ex⟩ : ∃ (i : Fin 256) (l : Fin 128), x = ix4 0 0 i l := ⟨x 2, x 3, by blk_ext⟩
    subst ex
    obtain rfl : y = ix4 0 2 i l := by
      have e0 := h0.trans (show _ = 0 by rfl)
      have e1 := h1.trans (show _ = 2 by rfl)
      change (y 2).val = i.val at h2
      change (y 3).val = l.val at h3
      clear h0 h1
      blk_ext
    open_payloads
    pointwise
    rw [hR, hR, select_head (r 0) 2 l 4 5 rfl rfl, sitofp_small _ (by omega)]
    rw [real_add_one]
    refine congrArg (fun n : ℕ => gam (r 0 (hd 2 ⟨l.val / 64, half_lt l⟩)) n) ?_
    show _ = _
    simp [pos]
    try omega
  case piece6 =>
    obtain ⟨i, l, ex⟩ : ∃ (i : Fin 256) (l : Fin 128), x = ix4 0 0 i l := ⟨x 2, x 3, by blk_ext⟩
    subst ex
    obtain rfl : y = ix4 0 1 i l := by
      have e0 := h0.trans (show _ = 0 by rfl)
      have e1 := h1.trans (show _ = 1 by rfl)
      change (y 2).val = i.val at h2
      change (y 3).val = l.val at h3
      clear h0 h1
      blk_ext
    open_payloads
    pointwise
    rw [hR, hR, select_head (r 0) 1 l 2 3 rfl rfl, sitofp_small _ (by omega)]
    rw [real_add_one]
    refine congrArg (fun n : ℕ => gam (r 0 (hd 1 ⟨l.val / 64, half_lt l⟩)) n) ?_
    show _ = _
    simp [pos]
    try omega
  case piece7 =>
    obtain ⟨i, l, ex⟩ : ∃ (i : Fin 256) (l : Fin 128), x = ix4 0 0 i l := ⟨x 2, x 3, by blk_ext⟩
    subst ex
    obtain rfl : y = ix4 0 0 i l := by
      have e0 := h0.trans (show _ = 0 by rfl)
      have e1 := h1.trans (show _ = 0 by rfl)
      change (y 2).val = i.val at h2
      change (y 3).val = l.val at h3
      clear h0 h1
      blk_ext
    open_payloads
    pointwise
    rw [hR, hR, select_head (r 0) 0 l 0 1 rfl rfl, sitofp_small _ (by omega)]
    rw [real_add_one]
    refine congrArg (fun n : ℕ => gam (r 0 (hd 0 ⟨l.val / 64, half_lt l⟩)) n) ?_
    show _ = _
    simp [pos]
    try omega

theorem kw_A (c : Dev nD) (t : Fin cfg0.N) (hA : t.val % 17 = 0) (r : Fin 2 → Fin 8 → EReal)
    (hR : ∀ d hh l, iblk m c 6 t (ix3 d hh l) = r d hh) (y : S2x4x256x128.Idx) :
    (outsAt0 m c t.val t.isLt).2.2.2.2.2.1 y = kwF r (y 0) (y 1) (y 2) (y 3) := by
  rw [outsAt0_A m c t hA]
  frame_out
  clear hA
  canon_tiles x h
  case piece0 =>
    obtain ⟨i, l, ex⟩ : ∃ (i : Fin 256) (l : Fin 128), x = ix4 0 0 i l := ⟨x 2, x 3, by blk_ext⟩
    subst ex
    obtain rfl : y = ix4 1 3 i l := by
      have e0 := h0.trans (show _ = 1 by rfl)
      have e1 := h1.trans (show _ = 3 by rfl)
      change (y 2).val = i.val at h2
      change (y 3).val = l.val at h3
      clear h0 h1
      blk_ext
    open_payloads
    pointwise
    rw [hR, hR, select_head (r 1) 3 l 6 7 rfl rfl, sitofp_small _ (by omega)]
    skip
    refine congrArg (fun n : ℕ => gam (r 1 (hd 3 ⟨l.val / 64, half_lt l⟩)) n) ?_
    show _ = _
    simp [pos]
    try omega
  case piece1 =>
    obtain ⟨i, l, ex⟩ : ∃ (i : Fin 256) (l : Fin 128), x = ix4 0 0 i l := ⟨x 2, x 3, by blk_ext⟩
    subst ex
    obtain rfl : y = ix4 1 2 i l := by
      have e0 := h0.trans (show _ = 1 by rfl)
      have e1 := h1.trans (show _ = 2 by rfl)
      change (y 2).val = i.val at h2
      change (y 3).val = l.val at h3
      clear h0 h1
      blk_ext
    open_payloads
    pointwise
    rw [hR, hR, select_head (r 1) 2 l 4 5 rfl rfl, sitofp_small _ (by omega)]
    skip
    refine congrArg (fun n : ℕ => gam (r 1 (hd 2 ⟨l.val / 64, half_lt l⟩)) n) ?_
    show _ = _
    simp [pos]
    try omega
  case piece2 =>
    obtain ⟨i, l, ex⟩ : ∃ (i : Fin 256) (l : Fin 128), x = ix4 0 0 i l := ⟨x 2, x 3, by blk_ext⟩
    subst ex
    obtain rfl : y = ix4 1 1 i l := by
      have e0 := h0.trans (show _ = 1 by rfl)
      have e1 := h1.trans (show _ = 1 by rfl)
      change (y 2).val = i.val at h2
      change (y 3).val = l.val at h3
      clear h0 h1
      blk_ext
    open_payloads
    pointwise
    rw [hR, hR, select_head (r 1) 1 l 2 3 rfl rfl, sitofp_small _ (by omega)]
    skip
    refine congrArg (fun n : ℕ => gam (r 1 (hd 1 ⟨l.val / 64, half_lt l⟩)) n) ?_
    show _ = _
    simp [pos]
    try omega
  case piece3 =>
    obtain ⟨i, l, ex⟩ : ∃ (i : Fin 256) (l : Fin 128), x = ix4 0 0 i l := ⟨x 2, x 3, by blk_ext⟩
    subst ex
    obtain rfl : y = ix4 1 0 i l := by
      have e0 := h0.trans (show _ = 1 by rfl)
      have e1 := h1.trans (show _ = 0 by rfl)
      change (y 2).val = i.val at h2
      change (y 3).val = l.val at h3
      clear h0 h1
      blk_ext
    open_payloads
    pointwise
    rw [hR, hR, select_head (r 1) 0 l 0 1 rfl rfl, sitofp_small _ (by omega)]
    skip
    refine congrArg (fun n : ℕ => gam (r 1 (hd 0 ⟨l.val / 64, half_lt l⟩)) n) ?_
    show _ = _
    simp [pos]
    try omega
  case piece4 =>
    obtain ⟨i, l, ex⟩ : ∃ (i : Fin 256) (l : Fin 128), x = ix4 0 0 i l := ⟨x 2, x 3, by blk_ext⟩
    subst ex
    obtain rfl : y = ix4 0 3 i l := by
      have e0 := h0.trans (show _ = 0 by rfl)
      have e1 := h1.trans (show _ = 3 by rfl)
      change (y 2).val = i.val at h2
      change (y 3).val = l.val at h3
      clear h0 h1
      blk_ext
    open_payloads
    pointwise
    rw [hR, hR, select_head (r 0) 3 l 6 7 rfl rfl, sitofp_small _ (by omega)]
    rw [ofBits_255, show (255 : ℝ) = ((255 : ℕ) : ℝ) by norm_num, real_sub _ _ (by omega)]
    refine congrArg (fun n : ℕ => gam (r 0 (hd 3 ⟨l.val / 64, half_lt l⟩)) n) ?_
    show _ = _
    simp [pos]
    try omega
  case piece5 =>
    obtain ⟨i, l, ex⟩ : ∃ (i : Fin 256) (l : Fin 128), x = ix4 0 0 i l := ⟨x 2, x 3, by blk_ext⟩
    subst ex
    obtain rfl : y = ix4 0 2 i l := by
      have e0 := h0.trans (show _ = 0 by rfl)
      have e1 := h1.trans (show _ = 2 by rfl)
      change (y 2).val = i.val at h2
      change (y 3).val = l.val at h3
      clear h0 h1
      blk_ext
    open_payloads
    pointwise
    rw [hR, hR, select_head (r 0) 2 l 4 5 rfl rfl, sitofp_small _ (by omega)]
    rw [ofBits_255, show (255 : ℝ) = ((255 : ℕ) : ℝ) by norm_num, real_sub _ _ (by omega)]
    refine congrArg (fun n : ℕ => gam (r 0 (hd 2 ⟨l.val / 64, half_lt l⟩)) n) ?_
    show _ = _
    simp [pos]
    try omega
  case piece6 =>
    obtain ⟨i, l, ex⟩ : ∃ (i : Fin 256) (l : Fin 128), x = ix4 0 0 i l := ⟨x 2, x 3, by blk_ext⟩
    subst ex
    obtain rfl : y = ix4 0 1 i l := by
      have e0 := h0.trans (show _ = 0 by rfl)
      have e1 := h1.trans (show _ = 1 by rfl)
      change (y 2).val = i.val at h2
      change (y 3).val = l.val at h3
      clear h0 h1
      blk_ext
    open_payloads
    pointwise
    rw [hR, hR, select_head (r 0) 1 l 2 3 rfl rfl, sitofp_small _ (by omega)]
    rw [ofBits_255, show (255 : ℝ) = ((255 : ℕ) : ℝ) by norm_num, real_sub _ _ (by omega)]
    refine congrArg (fun n : ℕ => gam (r 0 (hd 1 ⟨l.val / 64, half_lt l⟩)) n) ?_
    show _ = _
    simp [pos]
    try omega
  case piece7 =>
    obtain ⟨i, l, ex⟩ : ∃ (i : Fin 256) (l : Fin 128), x = ix4 0 0 i l := ⟨x 2, x 3, by blk_ext⟩
    subst ex
    obtain rfl : y = ix4 0 0 i l := by
      have e0 := h0.trans (show _ = 0 by rfl)
      have e1 := h1.trans (show _ = 0 by rfl)
      change (y 2).val = i.val at h2
      change (y 3).val = l.val at h3
      clear h0 h1
      blk_ext
    open_payloads
    pointwise
    rw [hR, hR, select_head (r 0) 0 l 0 1 rfl rfl, sitofp_small _ (by omega)]
    rw [ofBits_255, show (255 : ℝ) = ((255 : ℕ) : ℝ) by norm_num, real_sub _ _ (by omega)]
    refine congrArg (fun n : ℕ => gam (r 0 (hd 0 ⟨l.val / 64, half_lt l⟩)) n) ?_
    show _ = _
    simp [pos]
    try omega

theorem cd_A (c : Dev nD) (t : Fin cfg0.N) (hA : t.val % 17 = 0) (r : Fin 2 → Fin 8 → EReal)
    (hR : ∀ d hh l, iblk m c 6 t (ix3 d hh l) = r d hh) (y : S2x4x128x128.Idx) :
    (outsAt0 m c t.val t.isLt).2.2.2.2.2.2 y = cdF r (y 0) (y 1) (y 2) (y 3) := by
  rw [outsAt0_A m c t hA]
  frame_out
  clear hA
  canon_tiles x h
  case piece0 =>
    obtain ⟨i, l, ex⟩ : ∃ (i : Fin 128) (l : Fin 128), x = ix4 0 0 i l := ⟨x 2, x 3, by blk_ext⟩
    subst ex
    obtain rfl : y = ix4 1 3 i l := by
      have e0 := h0.trans (show _ = 1 by rfl)
      have e1 := h1.trans (show _ = 3 by rfl)
      change (y 2).val = i.val at h2
      change (y 3).val = l.val at h3
      clear h0 h1
      blk_ext
    open_payloads
    pointwise
    rw [hR, hR]
    exact select_chunk (r 1) 3 i 6 7 rfl rfl
  case piece1 =>
    obtain ⟨i, l, ex⟩ : ∃ (i : Fin 128) (l : Fin 128), x = ix4 0 0 i l := ⟨x 2, x 3, by blk_ext⟩
    subst ex
    obtain rfl : y = ix4 1 2 i l := by
      have e0 := h0.trans (show _ = 1 by rfl)
      have e1 := h1.trans (show _ = 2 by rfl)
      change (y 2).val = i.val at h2
      change (y 3).val = l.val at h3
      clear h0 h1
      blk_ext
    open_payloads
    pointwise
    rw [hR, hR]
    exact select_chunk (r 1) 2 i 4 5 rfl rfl
  case piece2 =>
    obtain ⟨i, l, ex⟩ : ∃ (i : Fin 128) (l : Fin 128), x = ix4 0 0 i l := ⟨x 2, x 3, by blk_ext⟩
    subst ex
    obtain rfl : y = ix4 1 1 i l := by
      have e0 := h0.trans (show _ = 1 by rfl)
      have e1 := h1.trans (show _ = 1 by rfl)
      change (y 2).val = i.val at h2
      change (y 3).val = l.val at h3
      clear h0 h1
      blk_ext
    open_payloads
    pointwise
    rw [hR, hR]
    exact select_chunk (r 1) 1 i 2 3 rfl rfl
  case piece3 =>
    obtain ⟨i, l, ex⟩ : ∃ (i : Fin 128) (l : Fin 128), x = ix4 0 0 i l := ⟨x 2, x 3, by blk_ext⟩
    subst ex
    obtain rfl : y = ix4 1 0 i l := by
      have e0 := h0.trans (show _ = 1 by rfl)
      have e1 := h1.trans (show _ = 0 by rfl)
      change (y 2).val = i.val at h2
      change (y 3).val = l.val at h3
      clear h0 h1
      blk_ext
    open_payloads
    pointwise
    rw [hR, hR]
    exact select_chunk (r 1) 0 i 0 1 rfl rfl
  case piece4 =>
    obtain ⟨i, l, ex⟩ : ∃ (i : Fin 128) (l : Fin 128), x = ix4 0 0 i l := ⟨x 2, x 3, by blk_ext⟩
    subst ex
    obtain rfl : y = ix4 0 3 i l := by
      have e0 := h0.trans (show _ = 0 by rfl)
      have e1 := h1.trans (show _ = 3 by rfl)
      change (y 2).val = i.val at h2
      change (y 3).val = l.val at h3
      clear h0 h1
      blk_ext
    open_payloads
    pointwise
    rw [hR, hR]
    exact select_chunk (r 0) 3 i 6 7 rfl rfl
  case piece5 =>
    obtain ⟨i, l, ex⟩ : ∃ (i : Fin 128) (l : Fin 128), x = ix4 0 0 i l := ⟨x 2, x 3, by blk_ext⟩
    subst ex
    obtain rfl : y = ix4 0 2 i l := by
      have e0 := h0.trans (show _ = 0 by rfl)
      have e1 := h1.trans (show _ = 2 by rfl)
      change (y 2).val = i.val at h2
      change (y 3).val = l.val at h3
      clear h0 h1
      blk_ext
    open_payloads
    pointwise
    rw [hR, hR]
    exact select_chunk (r 0) 2 i 4 5 rfl rfl
  case piece6 =>
    obtain ⟨i, l, ex⟩ : ∃ (i : Fin 128) (l : Fin 128), x = ix4 0 0 i l := ⟨x 2, x 3, by blk_ext⟩
    subst ex
    obtain rfl : y = ix4 0 1 i l := by
      have e0 := h0.trans (show _ = 0 by rfl)
      have e1 := h1.trans (show _ = 1 by rfl)
      change (y 2).val = i.val at h2
      change (y 3).val = l.val at h3
      clear h0 h1
      blk_ext
    open_payloads
    pointwise
    rw [hR, hR]
    exact select_chunk (r 0) 1 i 2 3 rfl rfl
  case piece7 =>
    obtain ⟨i, l, ex⟩ : ∃ (i : Fin 128) (l : Fin 128), x = ix4 0 0 i l := ⟨x 2, x 3, by blk_ext⟩
    subst ex
    obtain rfl : y = ix4 0 0 i l := by
      have e0 := h0.trans (show _ = 0 by rfl)
      have e1 := h1.trans (show _ = 0 by rfl)
      change (y 2).val = i.val at h2
      change (y 3).val = l.val at h3
      clear h0 h1
      blk_ext
    open_payloads
    pointwise
    rw [hR, hR]
    exact select_chunk (r 0) 0 i 0 1 rfl rfl

end Cert.Retention
-- ==== Proof.State.lean ====
module

public import proofs.«01_k».proof.Proof.Rows
public import proofs.«01_k».proof.Proof.Sums
public import proofs.«01_k».proof.Proof.Block
public import proofs.«01_k».proof.Proof.BlockA
public import proofs.«01_k».proof.Proof.Tables

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

/-- The decay parameter of a direction's head. -/
def par (c : Dev nD) (d : Fin 2) (hh : Fin 8) : EReal := (m ((c : Thread nD τ).loc main_arg6) : S2x8.Idx → EReal) (ix2 d hh)

/-- The tables the first step of a batch writes stand through the batch. -/
theorem tabs (c : Dev nD) : ∀ (n : ℕ) (h : n < cfg0.N),
    (∀ y, (outsAt0 m c n h).2.2.2.1 y = decF (par m c) (y 0) (y 1) (y 2) (y 3))
    ∧ (∀ y, (outsAt0 m c n h).2.2.2.2.1 y = qwF (par m c) (y 0) (y 1) (y 2) (y 3))
    ∧ (∀ y, (outsAt0 m c n h).2.2.2.2.2.1 y = kwF (par m c) (y 0) (y 1) (y 2) (y 3))
    ∧ (∀ y, (outsAt0 m c n h).2.2.2.2.2.2 y = cdF (par m c) (y 0) (y 1) (y 2) (y 3)) := by
  intro n
  induction n using Nat.strong_induction_on with
  | _ n ih =>
    intro h
    by_cases hA : n % 17 = 0
    · have hR : ∀ d hh l, iblk m c 6 ⟨n, h⟩ (ix3 d hh l) = par m c d hh := fun d hh l => x6 m c ⟨n, h⟩ d hh l
      exact ⟨dec_A m c ⟨n, h⟩ hA _ hR, qw_A m c ⟨n, h⟩ hA _ hR, kw_A m c ⟨n, h⟩ hA _ hR, cd_A m c ⟨n, h⟩ hA _ hR⟩
    · have hk := keep_B1 m c ⟨n, h⟩ hA
      have := ih (n - 1) (by omega) (Nat.lt_of_le_of_lt (Nat.sub_le _ _) h)
      simp only [hk]
      exact this

/-- The state a grid point starts from. -/
def ent (c : Dev nD) (t : Fin cfg0.N) : FVec Ideal S2x4x128x128 .f32 :=
  if t.val % 17 = 0 then fun _ => 0 else (outsAt0 m c (t.val - 1) (Nat.lt_of_le_of_lt (Nat.sub_le _ _) t.isLt)).2.2.1

theorem out7 (c : Dev nD) (t : Fin cfg0.N) (y : S256x512.Idx) :
    (outsAt0 m c t.val t.isLt).1 y = outB 0 (X0_0 m c t) (X0_1 m c t) (X0_2 m c t)
      (outsAt0 m c t.val t.isLt).2.2.2.1 (outsAt0 m c t.val t.isLt).2.2.2.2.1 (ent m c t) y := by
  unfold ent
  by_cases hA : t.val % 17 = 0
  · rw [if_pos hA]; exact out7_A m c t hA y
  · rw [if_neg hA, keep_B1 m c t hA]; exact out7_B m c t hA y

theorem out8 (c : Dev nD) (t : Fin cfg0.N) (y : S256x512.Idx) :
    (outsAt0 m c t.val t.isLt).2.1 y = outB 1 (X0_3 m c t) (X0_4 m c t) (X0_5 m c t)
      (outsAt0 m c t.val t.isLt).2.2.2.1 (outsAt0 m c t.val t.isLt).2.2.2.2.1 (ent m c t) y := by
  unfold ent
  by_cases hA : t.val % 17 = 0
  · rw [if_pos hA]; exact out8_A m c t hA y
  · rw [if_neg hA, keep_B1 m c t hA]; exact out8_B m c t hA y

theorem stateN (c : Dev nD) (t : Fin cfg0.N) (y : S2x4x128x128.Idx) :
    (outsAt0 m c t.val t.isLt).2.2.1 y = stateB (X0_1 m c t) (X0_2 m c t) (X0_4 m c t) (X0_5 m c t)
      (outsAt0 m c t.val t.isLt).2.2.2.2.2.1 (outsAt0 m c t.val t.isLt).2.2.2.2.2.2 (ent m c t) y := by
  unfold ent
  by_cases hA : t.val % 17 = 0
  · rw [if_pos hA]; exact state_A m c t hA y
  · rw [if_neg hA, keep_B1 m c t hA]; exact state_B m c t hA y

/-- Every element of the arrays of queries, keys and values is a real number. -/
structure Real6 (c : Dev nD) : Prop where
  a0 : ∀ x, ∃ r : ℝ, (m ((c : Thread nD τ).loc main_arg0) : S4x4096x8x64.Idx → EReal) x = (r : EReal)
  a1 : ∀ x, ∃ r : ℝ, (m ((c : Thread nD τ).loc main_arg1) : S4x4096x8x64.Idx → EReal) x = (r : EReal)
  a2 : ∀ x, ∃ r : ℝ, (m ((c : Thread nD τ).loc main_arg2) : S4x4096x8x64.Idx → EReal) x = (r : EReal)
  a3 : ∀ x, ∃ r : ℝ, (m ((c : Thread nD τ).loc main_arg3) : S4x256x8x64.Idx → EReal) x = (r : EReal)
  a4 : ∀ x, ∃ r : ℝ, (m ((c : Thread nD τ).loc main_arg4) : S4x256x8x64.Idx → EReal) x = (r : EReal)
  a5 : ∀ x, ∃ r : ℝ, (m ((c : Thread nD τ).loc main_arg5) : S4x256x8x64.Idx → EReal) x = (r : EReal)

theorem seq_real (d : ℕ) (lat : S4x4096x8x64.Idx → EReal) (ctx : S4x256x8x64.Idx → EReal) (hl : ∀ x, ∃ r : ℝ, lat x = (r : EReal))
    (hc : ∀ x, ∃ r : ℝ, ctx x = (r : EReal)) (b n : ℕ) (col : Fin 512) :
    seqF d lat ctx b n col = ((seqF d lat ctx b n col).toReal : EReal) := by
  have : ∃ r : ℝ, seqF d lat ctx b n col = (r : EReal) := by
    unfold seqF
    split_ifs <;> first | exact hc _ | exact hl _ | exact ⟨0, rfl⟩
  obtain ⟨r, h⟩ := this
  rw [h, EReal.toReal_coe]

/-- The keys of a direction's sequence, as real numbers. -/
def seqK (c : Dev nD) (d b n : ℕ) (col : Fin 512) : ℝ :=
  (seqF d (m ((c : Thread nD τ).loc main_arg1)) (m ((c : Thread nD τ).loc main_arg4)) b n col).toReal

/-- The values of a direction's sequence, as real numbers. -/
def seqV (c : Dev nD) (d b n : ℕ) (col : Fin 512) : ℝ :=
  (seqF d (m ((c : Thread nD τ).loc main_arg2)) (m ((c : Thread nD τ).loc main_arg5)) b n col).toReal

/-- The queries of a direction's sequence, as real numbers. -/
def seqQ (c : Dev nD) (d b n : ℕ) (col : Fin 512) : ℝ :=
  (seqF d (m ((c : Thread nD τ).loc main_arg0)) (m ((c : Thread nD τ).loc main_arg3)) b n col).toReal

theorem ofBits_eighth : Ideal.ofBits .f32 0x3E000000#32 = ((1 / 8 : ℝ) : EReal) := by
  simp [Ideal.ofBits, Ideal.ieee, -EReal.coe_mul]; norm_num

/-- The state of a direction's pair of heads after `N` steps of its sequence. -/
def stR (c : Dev nD) (d : Fin 2) (b N : ℕ) (j : Fin 4) (r l : Fin 128) : EReal :=
  if (r.val < 64 ↔ l.val < 64) then
    ((∑ n ∈ Finset.range N, gr (par m c d (hd j ⟨r.val / 64, half_lt r⟩)) (N - 1 - n)
      * (seqK m c d.val b n (tcol j r) * seqV m c d.val b n (tcol j l)) : ℝ) : EReal) else 0

theorem kRow (c : Dev nD) (hf : Real6 m c) (t : Fin cfg0.N) (d : Fin 2) (n : Fin 256) (col : Fin 512) :
    (if d.val = 0 then X0_1 m c t else X0_4 m c t) (ix2 n col) = (seqK m c d.val (t.val / 17) (256 * (t.val % 17) + pos d.val n.val) col : EReal) := by
  unfold seqK
  rw [← seq_real d.val _ _ hf.a1 hf.a4]
  fin_cases d
  · exact x1 m c t n col
  · exact x4 m c t n col

theorem vRow (c : Dev nD) (hf : Real6 m c) (t : Fin cfg0.N) (d : Fin 2) (n : Fin 256) (col : Fin 512) :
    (if d.val = 0 then X0_2 m c t else X0_5 m c t) (ix2 n col) = (seqV m c d.val (t.val / 17) (256 * (t.val % 17) + pos d.val n.val) col : EReal) := by
  unfold seqV
  rw [← seq_real d.val _ _ hf.a2 hf.a5]
  fin_cases d
  · exact x2 m c t n col
  · exact x5 m c t n col

theorem qRow (c : Dev nD) (hf : Real6 m c) (t : Fin cfg0.N) (d : Fin 2) (n : Fin 256) (col : Fin 512) :
    (if d.val = 0 then X0_0 m c t else X0_3 m c t) (ix2 n col)
      = ((seqQ m c d.val (t.val / 17) (256 * (t.val % 17) + pos d.val n.val) col * (1 / 8) : ℝ) : EReal) := by
  unfold seqQ
  rw [EReal.coe_mul, ← seq_real d.val _ _ hf.a0 hf.a3, ← ofBits_eighth]
  fin_cases d
  · exact x0 m c t n col
  · exact x3 m c t n col

theorem state_of_ent (c : Dev nD) (hf : Real6 m c) (t : Fin cfg0.N) (d : Fin 2) (j : Fin 4) (r l : Fin 128)
    (he : ent m c t (ix4 d j r l) = stR m c d (t.val / 17) (256 * (t.val % 17)) j r l) :
    (outsAt0 m c t.val t.isLt).2.2.1 (ix4 d j r l) = stR m c d (t.val / 17) (256 * (t.val % 17) + 256) j r l := by
  obtain ⟨hD, hW, hK, hC⟩ := tabs m c t.val t.isLt
  rw [stateN]
  unfold stateB stR
  refine state_sum d.val (256 * (t.val % 17)) (gr (par m c d (hd j ⟨r.val / 64, half_lt r⟩))) (gr_add _) _ _ _ _ _ r l
    (fun n => seqK m c d.val (t.val / 17) n (tcol j r)) (fun n => seqV m c d.val (t.val / 17) n (tcol j l))
    (fun n => kRow m c hf t d n _) (fun n => vRow m c hf t d n _) (fun n => ?_) ?_ he
  · rw [hK, ← gam_eq]; rfl
  · rw [hC, ← gam_eq]; rfl

theorem ent_at (c : Dev nD) (hf : Real6 m c) (d : Fin 2) (j : Fin 4) (r l : Fin 128) : ∀ (n : ℕ) (h : n < cfg0.N),
    ent m c ⟨n, h⟩ (ix4 d j r l) = stR m c d (n / 17) (256 * (n % 17)) j r l := by
  intro n
  induction n using Nat.strong_induction_on with
  | _ n ih =>
    intro h
    by_cases hA : n % 17 = 0
    · unfold ent stR
      rw [if_pos hA, hA]
      simp
    · have hp : n - 1 < cfg0.N := Nat.lt_of_le_of_lt (Nat.sub_le _ _) h
      have := state_of_ent m c hf ⟨n - 1, hp⟩ d j r l (ih (n - 1) (by omega) hp)
      unfold ent
      rw [if_neg hA]
      refine this.trans ?_
      rw [show (n - 1) / 17 = n / 17 by omega, show 256 * ((n - 1) % 17) + 256 = 256 * (n % 17) by omega]

/-- Lane `e` of the head a column belongs to. -/
def ecol (col : Fin 512) (e : Fin 64) : Fin 512 := ⟨64 * (col.val / 64) + e.val, by omega⟩

/-- The retention at step `p` of a direction's sequence: over the steps up to it, the query against the key, decayed
    over the distance, by the value. -/
def retR (c : Dev nD) (d : Fin 2) (b p : ℕ) (col : Fin 512) : ℝ :=
  ∑ n ∈ Finset.range (p + 1), (∑ e : Fin 64, seqQ m c d.val b p (ecol col e) * (1 / 8) * seqK m c d.val b n (ecol col e))
    * gr (par m c d ⟨col.val / 64, by omega⟩) (p - n) * seqV m c d.val b n col

theorem out_at (c : Dev nD) (hf : Real6 m c) (t : Fin cfg0.N) (d : Fin 2) (i : Fin 256) (col : Fin 512) :
    outB d (if d.val = 0 then X0_0 m c t else X0_3 m c t) (if d.val = 0 then X0_1 m c t else X0_4 m c t)
      (if d.val = 0 then X0_2 m c t else X0_5 m c t)
      (outsAt0 m c t.val t.isLt).2.2.2.1 (outsAt0 m c t.val t.isLt).2.2.2.2.1 (ent m c t) (ix2 i col)
    = (retR m c d (t.val / 17) (256 * (t.val % 17) + pos d.val i.val) col : EReal) := by
  obtain ⟨hD, hW, hK, hC⟩ := tabs m c t.val t.isLt
  obtain ⟨j, l, hcol⟩ : ∃ (j : Fin 4) (l : Fin 128), col = tcol j l := ⟨⟨col.val / 128, by omega⟩, ⟨col.val % 128, by omega⟩, Fin.ext (by simp [tcol]; omega)⟩
  subst hcol
  have hj : (⟨(tcol j l).val / 128, by omega⟩ : Fin 4) = j := Fin.ext (by simp [tcol]; omega)
  have hl : (⟨(tcol j l).val % 128, by omega⟩ : Fin 128) = l := Fin.ext (by simp [tcol])
  have hh : (⟨(tcol j l).val / 64, by omega⟩ : Fin 8) = hd j ⟨l.val / 64, half_lt l⟩ := Fin.ext (by simp [tcol]; omega)
  have hE : ∀ e : Fin 64, tcol j ⟨64 * (l.val / 64) + e.val, by omega⟩ = ecol (tcol j l) e := fun e => Fin.ext (by simp [tcol, ecol]; omega)
  have hD' : ∀ a n, (outsAt0 m c t.val t.isLt).2.2.2.1 (ix4 d j a n) = decF (par m c) d j a n := fun a n => hD _
  have hW' : ∀ a n, (outsAt0 m c t.val t.isLt).2.2.2.2.1 (ix4 d j a n) = qwF (par m c) d j a n := fun a n => hW _
  have key := out_sum d.val (256 * (t.val % 17)) (gr (par m c d (hd j ⟨l.val / 64, half_lt l⟩))) (gr_add _)
    (tile (if d.val = 0 then X0_0 m c t else X0_3 m c t) j) (tile (if d.val = 0 then X0_1 m c t else X0_4 m c t) j)
    (tile (if d.val = 0 then X0_2 m c t else X0_5 m c t) j)
    (fun a n => (outsAt0 m c t.val t.isLt).2.2.2.1 (ix4 d j a n)) (fun a n => (outsAt0 m c t.val t.isLt).2.2.2.2.1 (ix4 d j a n))
    (fun a n => ent m c t (ix4 d j a n)) i l
    (fun e => seqQ m c d.val (t.val / 17) (256 * (t.val % 17) + pos d.val i.val) (tcol j e) * (1 / 8))
    (fun n e => seqK m c d.val (t.val / 17) n (tcol j e)) (fun n => seqV m c d.val (t.val / 17) n (tcol j l))
    (fun e => qRow m c hf t d i _) (fun n e => kRow m c hf t d n _) (fun n => vRow m c hf t d n _) ?_ ?_ ?_
  · unfold outB
    simp only [show ((ix2 i (tcol j l) : S256x512.Idx) 1).val = (tcol j l).val from rfl, hj]
    refine (show _ = _ from ?_).trans (key.trans ?_)
    · congr 1
    · unfold retR
      simp only [half_sum, hE, hh]
      rfl
  · intro n
    rw [hD', hD']
    simp only [← gam_eq]
    unfold decF
    by_cases h : l.val < 64
    · simp only [if_pos h, show ((⟨i.val, by omega⟩ : Fin 512).val % 256) = i.val from Nat.mod_eq_of_lt i.isLt]
      rw [show (⟨i.val / 256, half_lt' ⟨i.val, by omega⟩⟩ : Fin 2) = ⟨l.val / 64, half_lt l⟩ from Fin.ext (by simp; omega)]
    · simp only [if_neg h, show ((⟨256 + i.val, by omega⟩ : Fin 512).val % 256) = i.val by simp]
      rw [show (⟨(256 + i.val) / 256, half_lt' ⟨256 + i.val, by omega⟩⟩ : Fin 2) = ⟨l.val / 64, half_lt l⟩ from Fin.ext (by simp; omega)]
  · intro e he
    rw [hW', ← gam_eq]
    unfold qwF
    rw [show (⟨e.val / 64, half_lt e⟩ : Fin 2) = ⟨l.val / 64, half_lt l⟩ from Fin.ext (by simp; omega)]
  · intro e
    rw [ent_at m c hf d j e l t.val t.isLt]
    unfold stR
    by_cases he : (e.val < 64 ↔ l.val < 64)
    · rw [if_pos he, if_pos he, show (⟨e.val / 64, half_lt e⟩ : Fin 2) = ⟨l.val / 64, half_lt l⟩ from Fin.ext (by simp; omega)]
    · rw [if_neg he, if_neg he]
end Cert.Retention
-- ==== Proof.Finite.lean ====
module

public import proofs.«01_k».proof.Defs
public import proofs.«01_k».proof.Proof.State
public import Idealize.ShloMosaic.Lib.ReduceAll

@[expose] public section

set_option maxRecDepth 16384

noncomputable section

namespace Cert.Retention

open Cert.KernelIdeal Cert.KernelIdeal.Gen Idealize.ShloMosaic Idealize.ShloMosaic.TcCoe Idealize.SL.Sem

instance : Subsingleton (⟨0, ![]⟩ : Shape).Idx := ⟨fun a b => funext fun x => x.elim0⟩

theorem inf_word : Ideal.ofBits .f32 0x7F800000#32 = (⊤ : EReal) := by
  simp [Ideal.ofBits, Ideal.ieee]

/-- An extended real whose size is below infinity is a real number. -/
theorem real_of_abs (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [inf_word] at h
  induction x with
  | bot => simp [FloatOps.cmpf, FloatOps.absf, Ideal.cmp] at h
  | top => simp [FloatOps.cmpf, FloatOps.absf, Ideal.cmp] at h
  | coe r => exact ⟨r, rfl⟩

/-- Both bits of a conjunction that is one are one. -/
theorem and_one {a b : BitVec 1} (h : IntOp.andi a b = 1#1) : a = 1#1 ∧ b = 1#1 := by
  revert a b; decide

/-- The precondition makes every entry of the six arrays a real number. -/
theorem real6 [Cert.Pre_finite.Facts] (m : (ℓ : Loc nD τ sig) → Buf (Elt Ideal) ℓ) (h : Cert.Pre_KernelIdeal_finite m) (c : Dev nD) : Real6 m c := by
  have e := congrFun (h c) ix0
  unfold Cert.Pre_finite.fn Cert.Pre_finite.fn_part1 at e
  simp only [andi] at e
  obtain ⟨e, e5⟩ := and_one e
  obtain ⟨e, e4⟩ := and_one e
  obtain ⟨e, e3⟩ := and_one e
  obtain ⟨e, e2⟩ := and_one e
  obtain ⟨e0, e1⟩ := and_one e
  exact ⟨fun x => real_of_abs _ (Host.reduce_andi_all _ _ _ _ _ e0 x),
    fun x => real_of_abs _ (Host.reduce_andi_all _ _ _ _ _ e1 x),
    fun x => real_of_abs _ (Host.reduce_andi_all _ _ _ _ _ e2 x),
    fun x => real_of_abs _ (Host.reduce_andi_all _ _ _ _ _ e3 x),
    fun x => real_of_abs _ (Host.reduce_andi_all _ _ _ _ _ e4 x),
    fun x => real_of_abs _ (Host.reduce_andi_all _ _ _ _ _ e5 x)⟩

end Cert.Retention
-- ==== Proof.Final.lean ====
module

public import proofs.«01_k».proof.Proof.State

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

/-- The batch of a result row. -/
def batchOf (n : ℕ) : ℕ := if n < 16384 then n / 4096 else (n - 16384) / 256

/-- The step of a direction's sequence a result row holds. -/
def stepOf (d n : ℕ) : ℕ :=
  if n < 16384 then (if d = 0 then 256 + n % 4096 else 4351 - n % 4096) else (if d = 0 then (n - 16384) % 256 else 255 - (n - 16384) % 256)

/-- A direction's result. -/
def resF (c : Dev nD) (d : Fin 2) (x : S17408x512.Idx) : EReal := (retR m c d (batchOf (x 0).val) (stepOf d.val (x 0).val) (x 1) : EReal)

theorem row_pos (d t i : ℕ) (ht : t < 68) (hi : i < 256) :
    batchOf (256 * rowblk d t + i) = t / 17 ∧ stepOf d (256 * rowblk d t + i) = 256 * (t % 17) + pos d i := by
  have hm := Nat.mod_lt t (by decide : 0 < 17)
  have hq : t / 17 < 4 := by omega
  unfold batchOf stepOf rowblk pos
  by_cases h0 : t % 17 = 0
  · rw [if_pos h0, if_neg (by omega), if_neg (by omega)]
    by_cases hd : d = 0
    · simp only [hd, if_true]; omega
    · simp only [if_neg hd]; omega
  · rw [if_neg h0]
    by_cases hd : d = 0
    · simp only [hd, if_true]
      rw [if_pos (by omega), if_pos (by omega)]; omega
    · simp only [if_neg hd]
      rw [if_pos (by omega), if_pos (by omega)]; omega

theorem idxo : ∀ t : Fin cfg0.N, win0_7.index t = ![rowblk 0 t.val, 0] ∧ win0_8.index t = ![rowblk 1 t.val, 0] :=
  (by decide +kernel : ∀ t : Fin grid0.N, _)

/-- A direction's result at the row a grid point writes. -/
theorem res_at (c : Dev nD) (d : Fin 2) (t : Fin cfg0.N) (i : Fin 256) (col : Fin 512) (x : S17408x512.Idx)
    (h0 : (x 0).val = 256 * rowblk d.val t.val + i.val) (h1 : (x 1).val = col.val) :
    (retR m c d (t.val / 17) (256 * (t.val % 17) + pos d.val i.val) col : EReal) = resF m c d x := by
  have e1 : x 1 = col := Fin.ext h1
  obtain ⟨hb, hs⟩ := row_pos d.val t.val i.val t.isLt i.isLt
  unfold resF
  rw [e1, h0, hb, hs]

theorem arr7 (c : Dev nD) (hf : Real6 m c) : (dats m 0 c).arrAt 7 (cfgs 0).N = resF m c 0 := by
  refine (dats m 0 c).arrAt_eq_of_covers 7 _ (by decide +kernel) fun t _ y => ?_
  blk_simp
  rw [after0_7]
  obtain ⟨i, col, ey⟩ : ∃ (i : Fin 256) (col : Fin 512), y = ix2 i col := ⟨y 0, y 1, by blk_ext⟩
  subst ey
  refine (out7 m c t _).trans ((out_at m c hf t 0 i col).trans (res_at m c 0 t i col _ ?_ ?_))
  · blk_simp [(idxo t).1]
    show rowblk 0 t.val * 256 + i.val = 256 * rowblk 0 t.val + i.val
    omega
  · blk_simp [(idxo t).1]

theorem arr8 (c : Dev nD) (hf : Real6 m c) : (dats m 0 c).arrAt 8 (cfgs 0).N = resF m c 1 := by
  refine (dats m 0 c).arrAt_eq_of_covers 8 _ (by decide +kernel) fun t _ y => ?_
  blk_simp
  rw [after0_8]
  obtain ⟨i, col, ey⟩ : ∃ (i : Fin 256) (col : Fin 512), y = ix2 i col := ⟨y 0, y 1, by blk_ext⟩
  subst ey
  refine (out8 m c t _).trans ((out_at m c hf t 1 i col).trans (res_at m c 1 t i col _ ?_ ?_))
  · blk_simp [(idxo t).2]
    show rowblk 1 t.val * 256 + i.val = 256 * rowblk 1 t.val + i.val
    omega
  · blk_simp [(idxo t).2]
end Cert.Retention
-- ==== Proof.RefSeq.lean ====
module

public import proofs.«01_k».proof.Proof.Sums
public import proofs.«01_k».proof.Proof.Rows
public import proofs.«01_k».proof.Proof.Gen.ReferenceIdeal.Read

@[expose] public section

set_option maxRecDepth 16384

noncomputable section

namespace Cert.Retention

open Cert.ReferenceIdeal Cert.ReferenceIdeal.Gen Cert.ReferenceIdeal.Read Idealize.ShloMosaic Idealize.ShloMosaic.TcCoe Idealize.SL.Sem

/-- The column of a head's lane. -/
def hcol (hh : Fin 8) (e : Fin 64) : Fin 512 := ⟨64 * hh.val + e.val, by omega⟩

/-- A direction's whole sequence, as the reference lays it out. -/
theorem cat_seq (A : FVec Ideal S4x256x8x64 .f32) (B : FVec Ideal S4x4096x8x64 .f32) (b : Fin 4) (n : Fin 4352) (hh : Fin 8) (e : Fin 64) :
    concatenate S4x4352x8x64 1 [⟨S4x256x8x64, A⟩, ⟨S4x4096x8x64, B⟩] concatenates_S4x256x8x64_S4x4096x8x64_S4x4352x8x64_d1 (ix4 b n hh e)
      = seqF 0 B A b.val n.val (hcol hh e) := by
  pointwise
  unfold seqF
  have he : (hcol hh e).val = 64 * hh.val + e.val := rfl
  rw [dif_pos b.isLt]
  by_cases h : n.val < 256
  · rw [dif_pos h, dif_pos h]
    refine congrArg A ?_
    blk_ext
    simp
  · rw [dif_neg h, dif_neg h, dif_pos n.isLt]
    refine congrArg B ?_
    blk_ext
    simp

theorem rev_ctx (A : FVec Ideal S4x256x8x64 .f32) (b : Fin 4) (n : Fin 256) (hh : Fin 8) (e : Fin 64) :
    Host.reverse [1] A (ix4 b n hh e) = A (ix4 b ⟨255 - n.val, by omega⟩ hh e) := by
  refine congrArg A (funext fun a => ?_)
  fin_cases a <;> refine Fin.ext ?_ <;> simp [Fin.val_rev]

theorem rev_lat (A : FVec Ideal S4x4096x8x64 .f32) (b : Fin 4) (n : Fin 4096) (hh : Fin 8) (e : Fin 64) :
    Host.reverse [1] A (ix4 b n hh e) = A (ix4 b ⟨4095 - n.val, by omega⟩ hh e) := by
  refine congrArg A (funext fun a => ?_)
  fin_cases a <;> refine Fin.ext ?_ <;> simp [Fin.val_rev]

/-- The same, backwards: each part reversed, and the two joined. -/
theorem cat_rev (A : FVec Ideal S4x256x8x64 .f32) (B : FVec Ideal S4x4096x8x64 .f32) (b : Fin 4) (n : Fin 4352) (hh : Fin 8) (e : Fin 64) :
    concatenate S4x4352x8x64 1 [⟨S4x256x8x64, Host.reverse [1] A⟩, ⟨S4x4096x8x64, Host.reverse [1] B⟩] concatenates_S4x256x8x64_S4x4096x8x64_S4x4352x8x64_d1 (ix4 b n hh e)
      = seqF 1 B A b.val n.val (hcol hh e) := by
  generalize hA : (Host.reverse [1] A : FVec Ideal S4x256x8x64 .f32) = A'
  generalize hB : (Host.reverse [1] B : FVec Ideal S4x4096x8x64 .f32) = B'
  pointwise
  subst hA hB
  unfold seqF
  have he : (hcol hh e).val = 64 * hh.val + e.val := rfl
  rw [dif_pos b.isLt]
  by_cases h : n.val < 256
  · rw [dif_pos h, dif_pos h]
    refine (rev_ctx A b ⟨n.val, h⟩ hh e).trans (congrArg A ?_)
    blk_ext
    simp
  · rw [dif_neg h, dif_neg h, dif_pos n.isLt]
    refine (rev_lat B b ⟨n.val - 256, by omega⟩ hh e).trans (congrArg B ?_)
    blk_ext
    simp
    try omega

/-- Scaling both parts scales the sequence. -/
theorem seq_mul (d : ℕ) (lat lat' : S4x4096x8x64.Idx → EReal) (ctx ctx' : S4x256x8x64.Idx → EReal) (s : EReal)
    (hl : ∀ x, lat' x = lat x * s) (hc : ∀ x, ctx' x = ctx x * s) (b n : ℕ) (col : Fin 512) :
    seqF d lat' ctx' b n col = seqF d lat ctx b n col * s := by
  unfold seqF
  split_ifs <;> first | exact hc _ | exact hl _ | exact (zero_mul s).symm

theorem sitofp_lt (i : ℕ) (h : i < 4352) : FloatOps.sitofp (F := Ideal) FTy.f32 (BitVec.ofNat 32 i) = ((i : ℝ) : EReal) := by
  show (((BitVec.ofNat 32 i).toInt : ℝ) : EReal) = _
  rw [BitVec.toInt_eq_toNat_of_lt (by simp; omega)]
  simp only [BitVec.toNat_ofNat]
  rw [Nat.mod_eq_of_lt (by omega)]
  simp

/-- The decay between two steps: none of a step not reached yet. -/
theorem decay_step (ρ z : EReal) (hz : z = 0) (i j : ℕ) (hi : i < 4352) (hj : j < 4352) :
    (if (0 : EReal) ≤ FloatOps.sitofp (F := Ideal) FTy.f32 (BitVec.ofNat 32 i) - FloatOps.sitofp (F := Ideal) FTy.f32 (BitVec.ofNat 32 j) then
      Ideal.exp (-Ideal.exp ρ * max (FloatOps.sitofp (F := Ideal) FTy.f32 (BitVec.ofNat 32 i) - FloatOps.sitofp (F := Ideal) FTy.f32 (BitVec.ofNat 32 j)) (0 : EReal))
     else z) = if j ≤ i then gam ρ (i - j) else 0 := by
  have e : FloatOps.sitofp (F := Ideal) FTy.f32 (BitVec.ofNat 32 i) - FloatOps.sitofp (F := Ideal) FTy.f32 (BitVec.ofNat 32 j)
      = (((i : ℝ) - (j : ℝ) : ℝ) : EReal) := by
    rw [sitofp_lt i hi, sitofp_lt j hj]; rfl
  rw [e, hz]
  by_cases h : j ≤ i
  · have h0 : (0 : EReal) ≤ (((i : ℝ) - (j : ℝ) : ℝ) : EReal) := by
      have : (j : ℝ) ≤ i := by exact_mod_cast h
      exact_mod_cast sub_nonneg.mpr this
    rw [if_pos h0, if_pos h, max_eq_left h0, gam, zero_sub, Nat.cast_sub h]
  · have h0 : ¬ (0 : EReal) ≤ (((i : ℝ) - (j : ℝ) : ℝ) : EReal) := by
      intro h'
      have h1 : (0 : ℝ) ≤ (i : ℝ) - j := by exact_mod_cast h'
      have h2 : (j : ℝ) ≤ i := by linarith
      exact h (by exact_mod_cast h2)
    rw [if_neg h0, if_neg h]

theorem zero_word : id (constant (F := Ideal) S_ FTy.f32 0#32) ix0 = (0 : EReal) := by
  show Ideal.ofBits .f32 0#32 = 0
  simp [Ideal.ofBits, Ideal.ieee]

/-- The decay table of direction 0. -/
theorem decay0 (x6 : FVec Ideal S2x8 .f32) (hh : Fin 8) (i j : Fin 4352) :
    val_main_v28 (F := Ideal) x6 (ix3 hh i j) = if j.val ≤ i.val then gam (x6 (ix2 0 hh)) (i.val - j.val) else 0 := by
  pointwise [val_main_v28, val_main_call0_v0, val_main_call0_v1, val_main_call0_v2, val_main_cst_1, val_main_cst_2, val_main_cst_3, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v5, val_main_v4]
  exact decay_step _ _ zero_word i.val j.val i.isLt j.isLt

/-- The decay table of direction 1. -/
theorem decay1 (x6 : FVec Ideal S2x8 .f32) (hh : Fin 8) (i j : Fin 4352) :
    val_main_v69 (F := Ideal) x6 (ix3 hh i j) = if j.val ≤ i.val then gam (x6 (ix2 1 hh)) (i.val - j.val) else 0 := by
  pointwise [val_main_v69, val_main_call1_v0, val_main_call1_v1, val_main_call1_v2, val_main_cst_4, val_main_cst_5, val_main_cst_6, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v5, val_main_v4]
  exact decay_step _ _ zero_word i.val j.val i.isLt j.isLt

end Cert.Retention
-- ==== Proof.Ref.lean ====
module

public import proofs.«01_k».proof.Proof.RefSeq

@[expose] public section

set_option maxRecDepth 16384

noncomputable section

namespace Cert.Retention

open Cert.ReferenceIdeal Cert.ReferenceIdeal.Gen Cert.ReferenceIdeal.Read Idealize.ShloMosaic Idealize.ShloMosaic.TcCoe Idealize.SL.Sem

theorem eighth : Ideal.ofBits .f32 0x3E000000#32 = ((1 / 8 : ℝ) : EReal) := by
  simp [Ideal.ofBits, Ideal.ieee, -EReal.coe_mul]; norm_num

/-- The reference's sum over all steps is one over the steps up to the query's. -/
theorem ref_sum (i : Fin 4352) (Q : Fin 64 → ℝ) (K : ℕ → Fin 64 → ℝ) (V g : ℕ → ℝ) :
    ∑ j : Fin 4352, (V j.val : EReal) * ((∑ k : Fin 64, (Q k : EReal) * ((K j.val k : EReal) * ((1 / 8 : ℝ) : EReal)))
        * (if j.val ≤ i.val then (g (i.val - j.val) : EReal) else 0))
      = ((∑ j ∈ Finset.range (i.val + 1), (∑ k : Fin 64, Q k * (1 / 8) * K j k) * g (i.val - j) * V j : ℝ) : EReal) := by
  simp only [← EReal.coe_mul, coe_ite, ← coe_sum]
  refine congrArg Real.toEReal ?_
  rw [Fin.sum_univ_eq_sum_range (fun j => V j * ((∑ k : Fin 64, Q k * (K j k * (1 / 8))) * (if j ≤ i.val then g (i.val - j) else 0))) 4352]
  have hs : ∀ j, V j * ((∑ k : Fin 64, Q k * (K j k * (1 / 8))) * (if j ≤ i.val then g (i.val - j) else 0))
      = if j ≤ i.val then (∑ k : Fin 64, Q k * (1 / 8) * K j k) * g (i.val - j) * V j else 0 := by
    intro j
    by_cases h : j ≤ i.val
    · rw [if_pos h, if_pos h, show (∑ k : Fin 64, Q k * (K j k * (1 / 8))) = ∑ k : Fin 64, Q k * (1 / 8) * K j k from
        Finset.sum_congr rfl fun k _ => by ring]
      ring
    · rw [if_neg h, if_neg h, mul_zero, mul_zero]
  rw [Finset.sum_congr rfl fun j _ => hs j, ← Finset.sum_filter]
  refine Finset.sum_congr ?_ fun _ _ => rfl
  ext j
  have := i.isLt
  simp only [Finset.mem_filter, Finset.mem_range]
  omega

theorem scale_lat (x1 : FVec Ideal S4x4096x8x64 .f32) (x : S4x4096x8x64.Idx) :
    val_main_v1 (F := Ideal) x1 x = x1 x * Ideal.ofBits .f32 0x3E000000#32 := rfl

theorem scale_ctx (x4 : FVec Ideal S4x256x8x64 .f32) (x : S4x256x8x64.Idx) :
    val_main_v3 (F := Ideal) x4 x = x4 x * Ideal.ofBits .f32 0x3E000000#32 := rfl

variable (x0 x1 x2 : FVec Ideal S4x4096x8x64 .f32) (x3 x4 x5 : FVec Ideal S4x256x8x64 .f32) (x6 : FVec Ideal S2x8 .f32)

/-- The retention of a head at step `p` of a direction's sequence, over real sequences of queries, keys and values. -/
def refR (Q K V : ℕ → Fin 512 → ℝ) (ρ : EReal) (p : ℕ) (hh : Fin 8) (e : Fin 64) : ℝ :=
  ∑ n ∈ Finset.range (p + 1), (∑ k : Fin 64, Q p (hcol hh k) * (1 / 8) * K n (hcol hh k)) * gr ρ (p - n) * V n (hcol hh e)

theorem q0 (b : Fin 4) (n : Fin 4352) (hh : Fin 8) (e : Fin 64) :
    val_main_v6 (F := Ideal) x0 x3 (ix4 b n hh e) = seqF 0 x0 x3 b.val n.val (hcol hh e) := cat_seq x3 x0 b n hh e

theorem k0 (b : Fin 4) (n : Fin 4352) (hh : Fin 8) (e : Fin 64) :
    val_main_v7 (F := Ideal) x1 x4 (ix4 b n hh e) = seqF 0 x1 x4 b.val n.val (hcol hh e) * Ideal.ofBits .f32 0x3E000000#32 :=
  (cat_seq (val_main_v3 (F := Ideal) x4) (val_main_v1 (F := Ideal) x1) b n hh e).trans
    (seq_mul 0 x1 _ x4 _ _ (scale_lat x1) (scale_ctx x4) _ _ _)

theorem v0 (b : Fin 4) (n : Fin 4352) (hh : Fin 8) (e : Fin 64) :
    val_main_v8 (F := Ideal) x2 x5 (ix4 b n hh e) = seqF 0 x2 x5 b.val n.val (hcol hh e) := cat_seq x5 x2 b n hh e

/-- Direction 0's result, step by step. -/
theorem ref0 (b : Fin 4) (i : Fin 4352) (hh : Fin 8) (e : Fin 64) (Q K V : ℕ → Fin 512 → ℝ)
    (hq : ∀ n col, seqF 0 x0 x3 b.val n col = (Q n col : EReal)) (hk : ∀ n col, seqF 0 x1 x4 b.val n col = (K n col : EReal))
    (hv : ∀ n col, seqF 0 x2 x5 b.val n col = (V n col : EReal)) :
    val_main_v34 (F := Ideal) x0 x1 x2 x3 x4 x5 x6 (ix4 b i hh e) = (refR Q K V (x6 (ix2 0 hh)) i.val hh e : EReal) := by
  have hsc : ∀ j : Fin 4352, val_main_v29 (F := Ideal) x0 x1 x3 x4 (ix4 b hh i j)
      = ∑ k : Fin 64, (Q i.val (hcol hh k) : EReal) * ((K j.val (hcol hh k) : EReal) * ((1 / 8 : ℝ) : EReal)) := by
    intro j
    rw [val_main_v29_apply]
    refine Finset.sum_congr rfl fun k _ => ?_
    rw [show lidx_main_v29 (ix4 b hh i j) k = ix4 b i hh k by blk_ext, show ridx_main_v29 (ix4 b hh i j) k = ix4 b j hh k by blk_ext,
      q0, k0, hq, hk, eighth]
  have hd : ∀ j : Fin 4352, val_main_v31 (F := Ideal) x6 (ix4 b hh i j) = val_main_v28 (F := Ideal) x6 (ix3 hh i j) := by
    intro j
    pointwise [val_main_v31, val_main_v30]
  rw [val_main_v34_apply, show idx_main_v34 (ix4 b i hh e) = ix4 b hh e i by blk_ext, val_main_v33_apply]
  unfold refR
  refine Eq.trans (Finset.sum_congr rfl fun j _ => ?_) (ref_sum i (fun k => Q i.val (hcol hh k)) (fun n k => K n (hcol hh k)) (fun n => V n (hcol hh e)) (gr (x6 (ix2 0 hh))))
  rw [show lidx_main_v33 (ix4 b hh e i) j = ix4 b j hh e by blk_ext, show ridx_main_v33 (ix4 b hh e i) j = ix4 b hh i j by blk_ext,
    v0, hv, val_main_v32_apply, hsc, hd, decay0, gam_eq]
  rfl

theorem ctx0 (b : Fin 4) (n : Fin 256) (hh : Fin 8) (e : Fin 64) (p : Fin 4352) (hp : p.val = n.val) :
    val_main_v35 (F := Ideal) x0 x1 x2 x3 x4 x5 x6 (ix4 b n hh e) = val_main_v34 (F := Ideal) x0 x1 x2 x3 x4 x5 x6 (ix4 b p hh e) := by
  rw [val_main_v35_apply]
  refine congrArg _ ?_
  blk_ext

theorem lat0 (b : Fin 4) (n : Fin 4096) (hh : Fin 8) (e : Fin 64) (p : Fin 4352) (hp : p.val = 256 + n.val) :
    val_main_v36 (F := Ideal) x0 x1 x2 x3 x4 x5 x6 (ix4 b n hh e) = val_main_v34 (F := Ideal) x0 x1 x2 x3 x4 x5 x6 (ix4 b p hh e) := by
  rw [val_main_v36_apply]
  refine congrArg _ ?_
  blk_ext

/-- Direction 0's result, row by row. -/
theorem rows0 (n : Fin 17408) (col : Fin 512) (p r : Fin 4352) (hp : p.val = 256 + n.val % 4096) (hr : r.val = (n.val - 16384) % 256) :
    val_main_v40 (F := Ideal) x0 x1 x2 x3 x4 x5 x6 (ix2 n col)
      = if h : n.val < 16384 then
          val_main_v34 (F := Ideal) x0 x1 x2 x3 x4 x5 x6 (ix4 ⟨n.val / 4096, by omega⟩ p ⟨col.val / 64, by omega⟩ ⟨col.val % 64, by omega⟩)
        else
          val_main_v34 (F := Ideal) x0 x1 x2 x3 x4 x5 x6 (ix4 ⟨(n.val - 16384) / 256, by omega⟩ r ⟨col.val / 64, by omega⟩ ⟨col.val % 64, by omega⟩) := by
  unfold val_main_v40 val_main_v39 val_main_v37 val_main_v38
  have hc := ctx0 x0 x1 x2 x3 x4 x5 x6
  have hl := lat0 x0 x1 x2 x3 x4 x5 x6
  generalize val_main_v36 (F := Ideal) x0 x1 x2 x3 x4 x5 x6 = Y at hl ⊢
  generalize val_main_v35 (F := Ideal) x0 x1 x2 x3 x4 x5 x6 = Z at hc ⊢
  generalize val_main_v34 (F := Ideal) x0 x1 x2 x3 x4 x5 x6 = W at hc hl ⊢
  pointwise
  by_cases h : n.val < 16384
  · rw [dif_pos h, dif_pos h]
    exact hl _ _ _ _ p hp
  · rw [dif_neg h, dif_neg h]
    exact hc _ _ _ _ r hr

theorem q1 (b : Fin 4) (n : Fin 4352) (hh : Fin 8) (e : Fin 64) :
    val_main_v43 (F := Ideal) x0 x3 (ix4 b n hh e) = seqF 1 x0 x3 b.val n.val (hcol hh e) := cat_rev x3 x0 b n hh e

theorem k1 (b : Fin 4) (n : Fin 4352) (hh : Fin 8) (e : Fin 64) :
    val_main_v46 (F := Ideal) x1 x4 (ix4 b n hh e) = seqF 1 x1 x4 b.val n.val (hcol hh e) * Ideal.ofBits .f32 0x3E000000#32 :=
  (cat_rev (val_main_v3 (F := Ideal) x4) (val_main_v1 (F := Ideal) x1) b n hh e).trans
    (seq_mul 1 x1 _ x4 _ _ (scale_lat x1) (scale_ctx x4) _ _ _)

theorem v1 (b : Fin 4) (n : Fin 4352) (hh : Fin 8) (e : Fin 64) :
    val_main_v49 (F := Ideal) x2 x5 (ix4 b n hh e) = seqF 1 x2 x5 b.val n.val (hcol hh e) := cat_rev x5 x2 b n hh e

/-- Direction 1's result, step by step. -/
theorem ref1 (b : Fin 4) (i : Fin 4352) (hh : Fin 8) (e : Fin 64) (Q K V : ℕ → Fin 512 → ℝ)
    (hq : ∀ n col, seqF 1 x0 x3 b.val n col = (Q n col : EReal)) (hk : ∀ n col, seqF 1 x1 x4 b.val n col = (K n col : EReal))
    (hv : ∀ n col, seqF 1 x2 x5 b.val n col = (V n col : EReal)) :
    val_main_v75 (F := Ideal) x0 x1 x2 x3 x4 x5 x6 (ix4 b i hh e) = (refR Q K V (x6 (ix2 1 hh)) i.val hh e : EReal) := by
  have hsc : ∀ j : Fin 4352, val_main_v70 (F := Ideal) x0 x1 x3 x4 (ix4 b hh i j)
      = ∑ k : Fin 64, (Q i.val (hcol hh k) : EReal) * ((K j.val (hcol hh k) : EReal) * ((1 / 8 : ℝ) : EReal)) := by
    intro j
    rw [val_main_v70_apply]
    refine Finset.sum_congr rfl fun k _ => ?_
    rw [show lidx_main_v70 (ix4 b hh i j) k = ix4 b i hh k by blk_ext, show ridx_main_v70 (ix4 b hh i j) k = ix4 b j hh k by blk_ext,
      q1, k1, hq, hk, eighth]
  have hd : ∀ j : Fin 4352, val_main_v72 (F := Ideal) x6 (ix4 b hh i j) = val_main_v69 (F := Ideal) x6 (ix3 hh i j) := by
    intro j
    pointwise [val_main_v72, val_main_v71]
  rw [val_main_v75_apply, show idx_main_v75 (ix4 b i hh e) = ix4 b hh e i by blk_ext, val_main_v74_apply]
  unfold refR
  refine Eq.trans (Finset.sum_congr rfl fun j _ => ?_) (ref_sum i (fun k => Q i.val (hcol hh k)) (fun n k => K n (hcol hh k)) (fun n => V n (hcol hh e)) (gr (x6 (ix2 1 hh))))
  rw [show lidx_main_v74 (ix4 b hh e i) j = ix4 b j hh e by blk_ext, show ridx_main_v74 (ix4 b hh e i) j = ix4 b hh i j by blk_ext,
    v1, hv, val_main_v73_apply, hsc, hd, decay1, gam_eq]
  rfl

/-- Direction 1's result, row by row. -/
theorem rows1 (n : Fin 17408) (col : Fin 512) (p r : Fin 4352) (hp : p.val = 4351 - n.val % 4096) (hr : r.val = 255 - (n.val - 16384) % 256) :
    val_main_v83 (F := Ideal) x0 x1 x2 x3 x4 x5 x6 (ix2 n col)
      = if h : n.val < 16384 then
          val_main_v75 (F := Ideal) x0 x1 x2 x3 x4 x5 x6 (ix4 ⟨n.val / 4096, by omega⟩ p ⟨col.val / 64, by omega⟩ ⟨col.val % 64, by omega⟩)
        else
          val_main_v75 (F := Ideal) x0 x1 x2 x3 x4 x5 x6 (ix4 ⟨(n.val - 16384) / 256, by omega⟩ r ⟨col.val / 64, by omega⟩ ⟨col.val % 64, by omega⟩) := by
  pointwise [val_main_v83, val_main_v82, val_main_v81, val_main_v80, val_main_v79, val_main_v78, val_main_v77, val_main_v76]
  by_cases h : n.val < 16384
  · rw [dif_pos h, dif_pos h]
    refine congrArg _ ?_
    blk_ext
    all_goals (simp [Fin.val_rev]; try omega)
  · rw [dif_neg h, dif_neg h]
    refine congrArg _ ?_
    blk_ext
    all_goals (simp [Fin.val_rev]; try omega)
end Cert.Retention
-- ==== Proof.Equal.lean ====
module

public import proofs.«01_k».proof.Proof.Final
public import proofs.«01_k».proof.Proof.Ref

@[expose] public section

set_option maxRecDepth 16384

noncomputable section

namespace Cert.Retention

open Cert.KernelIdeal Cert.KernelIdeal.Gen Idealize.ShloMosaic Idealize.ShloMosaic.TcCoe Idealize.SL.Sem

variable (m : (ℓ : Loc nD τ sig) → Buf (Elt Ideal) ℓ)

/-- The two sides' sums are the same, written by column on one and by head and lane on the other. -/
theorem same_sum (c : Dev nD) (d : Fin 2) (b p : ℕ) (col : Fin 512) :
    refR (seqQ m c d.val b) (seqK m c d.val b) (seqV m c d.val b) (par m c d ⟨col.val / 64, by omega⟩) p ⟨col.val / 64, by omega⟩ ⟨col.val % 64, by omega⟩
      = retR m c d b p col := by
  have hc : hcol ⟨col.val / 64, by omega⟩ ⟨col.val % 64, by omega⟩ = col := Fin.ext (by simp [hcol]; omega)
  unfold refR retR
  rw [hc]
  rfl

/-- The reference's result of direction 0 is the kernel's. -/
theorem equal0 (c : Dev nD) (hf : Real6 m c) :
    Cert.ReferenceIdeal.Read.val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = resF m c 0 := by
  funext x
  obtain ⟨n, col, ex⟩ : ∃ (n : Fin 17408) (col : Fin 512), x = ix2 n col := ⟨x 0, x 1, by blk_ext⟩
  subst ex
  refine (rows0 _ _ _ _ _ _ _ n col ⟨256 + n.val % 4096, by omega⟩ ⟨(n.val - 16384) % 256, by omega⟩ rfl rfl).trans ?_
  have hq := fun b n col => seq_real 0 _ _ hf.a0 hf.a3 b n col
  have hk := fun b n col => seq_real 0 _ _ hf.a1 hf.a4 b n col
  have hv := fun b n col => seq_real 0 _ _ hf.a2 hf.a5 b n col
  show _ = ((retR m c 0 (batchOf n.val) (stepOf 0 n.val) col : ℝ) : EReal)
  unfold batchOf stepOf
  by_cases h : n.val < 16384
  · rw [dif_pos h, if_pos h, if_pos h, ← same_sum]
    exact ref0 _ _ _ _ _ _ _ _ _ _ _ _ _ _ (hq _) (hk _) (hv _)
  · rw [dif_neg h, if_neg h, if_neg h, ← same_sum]
    exact ref0 _ _ _ _ _ _ _ _ _ _ _ _ _ _ (hq _) (hk _) (hv _)

/-- The reference's result of direction 1 is the kernel's. -/
theorem equal1 (c : Dev nD) (hf : Real6 m c) :
    Cert.ReferenceIdeal.Read.val_main_v83 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) = resF m c 1 := by
  funext x
  obtain ⟨n, col, ex⟩ : ∃ (n : Fin 17408) (col : Fin 512), x = ix2 n col := ⟨x 0, x 1, by blk_ext⟩
  subst ex
  refine (rows1 _ _ _ _ _ _ _ n col ⟨4351 - n.val % 4096, by omega⟩ ⟨255 - (n.val - 16384) % 256, by omega⟩ rfl rfl).trans ?_
  have hq := fun b n col => seq_real 1 _ _ hf.a0 hf.a3 b n col
  have hk := fun b n col => seq_real 1 _ _ hf.a1 hf.a4 b n col
  have hv := fun b n col => seq_real 1 _ _ hf.a2 hf.a5 b n col
  show _ = ((retR m c 1 (batchOf n.val) (stepOf 1 n.val) col : ℝ) : EReal)
  unfold batchOf stepOf
  by_cases h : n.val < 16384
  · rw [dif_pos h, if_pos h, if_pos h, ← same_sum]
    exact ref1 _ _ _ _ _ _ _ _ _ _ _ _ _ _ (hq _) (hk _) (hv _)
  · rw [dif_neg h, if_neg h, if_neg h, ← same_sum]
    exact ref1 _ _ _ _ _ _ _ _ _ _ _ _ _ _ (hq _) (hk _) (hv _)

end Cert.Retention
-- ==== Proof.Gated.lean ====
module

public import Idealize.ShloMosaic.Lib.Pipeline.ValueKit

@[expose] public section

noncomputable section

namespace Cert.Gated

open Idealize.ShloMosaic

/-- One hidden unit of a gated feed-forward layer: the gate's product through SiLU, times the up projection's product. -/
def unit (x g u : Fin 2048 → EReal) : EReal :=
  (∑ k, x k * g k) * Ideal.logistic (∑ k, x k * g k) * ∑ k, x k * u k

/-- One entry of the layer's result: the row `x` through the gates `W · f` and the up projections `W · (7168 + f)`, then
    through one column `D` of the down projection. -/
def layer (x : Fin 2048 → EReal) (W : Fin 2048 → Fin 14336 → EReal) (D : Fin 7168 → EReal) : EReal :=
  ∑ f : Fin 7168, unit x (fun k => W k ⟨f.val, by omega⟩) (fun k => W k ⟨7168 + f.val, by omega⟩) * D f

/-- The part of `layer` the `s`-th chunk of 512 hidden units makes. -/
def chunk (x : Fin 2048 → EReal) (W : Fin 2048 → Fin 14336 → EReal) (D : Fin 7168 → EReal) (s : Fin 14) : EReal :=
  ∑ h : Fin 512, unit x (fun k => W k ⟨512 * s.val + h.val, by omega⟩) (fun k => W k ⟨7168 + (512 * s.val + h.val), by omega⟩)
    * D ⟨512 * s.val + h.val, by omega⟩

theorem sum_chunks (x : Fin 2048 → EReal) (W : Fin 2048 → Fin 14336 → EReal) (D : Fin 7168 → EReal) :
    ∑ s : Fin 14, chunk x W D s = layer x W D := by
  unfold chunk layer
  refine Fin.sum_mul_add_congr fun s k hl => ?_
  have e : s.val * 512 + k.val = 512 * s.val + k.val := by omega
  simp only [e]

end Cert.Gated
-- ==== Proof.DenseStep.lean ====
module

public import proofs.«01_k».proof.Proof.Gen.Kernel3Ideal.Value
public import proofs.«01_k».proof.Proof.Gated

@[expose] public section

set_option maxRecDepth 16384

noncomputable section

namespace Cert.Dense

open Cert.Kernel3Ideal Cert.Kernel3Ideal.Gen Cert.Gated Idealize.ShloMosaic Idealize.ShloMosaic.TcCoe Idealize.SL.Sem

theorem fill (j : S1024x2048.Idx) : k0_pay1 (F := Ideal) j = 0 := by pointwise [k0_pay1]

theorem cast_out (v : FVec Ideal S1024x2048 .f32) (j : S1024x2048.Idx) : k0_pay3 (F := Ideal) v j = v j := by pointwise [k0_pay3]

/-- What one grid point adds to the accumulator. -/
theorem step (x : FVec Ideal S1024x2048 .bf16) (g u : FVec Ideal S1x2048x512 .f32) (acc : FVec Ideal S1024x2048 .f32)
    (d : FVec Ideal S1x512x2048 .f32) (j : S1024x2048.Idx) :
    k0_pay2 (F := Ideal) x g u acc d j = acc j + ∑ h : Fin 512,
      unit (fun k => x (ix2 (j 0) k)) (fun k => g (ix3 0 k h)) (fun k => u (ix3 0 k h)) * d (ix3 0 h (j 1)) := by
  pointwise [k0_pay2]
  rfl

end Cert.Dense
-- ==== Proof.DenseArr.lean ====
module

public import proofs.«01_k».proof.Proof.DenseStep
public import Idealize.ShloMosaic.Lib.StableHlo.ReadAt
public import Idealize.ShloMosaic.Lib.Pipeline.ReadBack

@[expose] public section

set_option maxRecDepth 16384

noncomputable section

namespace Cert.Dense

open Cert.Kernel3Ideal Cert.Kernel3Ideal.Gen Cert.Gated Idealize.ShloMosaic Idealize.ShloMosaic.TcCoe Idealize.SL.Sem

variable (m : (ℓ : Loc nD τ sig) → Buf (Elt Ideal) ℓ)

/-- Row `n` of the latent tokens above the context tokens. -/
def row (lat : S4x4096x2048.Idx → EReal) (ctx : S4x256x2048.Idx → EReal) (n : Fin 17408) (k : Fin 2048) : EReal :=
  if h : n.val < 16384 then lat (ix3 ⟨n.val / 4096, by omega⟩ ⟨n.val % 4096, by omega⟩ k)
  else ctx (ix3 ⟨(n.val - 16384) / 256, by omega⟩ ⟨(n.val - 16384) % 256, by omega⟩ k)

/-- The rows the call is given. -/
theorem rows (c : Dev nD) (n : Fin 17408) (k : Fin 2048) : (V m c main_v3 : S17408x2048.Idx → EReal) (ix2 n k)
    = row (m ((c : Thread nD τ).loc main_arg0)) (m ((c : Thread nD τ).loc main_arg1)) n k := by
  after_reads_at
  unfold row
  by_cases hn : n.val < 16384
  · rw [dif_pos hn, dif_pos hn]
    after_reads_at
  · rw [dif_neg hn, dif_neg hn]
    after_reads_at

theorem idx : ∀ t : Fin cfg0.N, win0_0.index t = ![t.val / 14, 0] ∧ win0_1.index t = ![0, 0, t.val % 14]
    ∧ win0_2.index t = ![0, 0, 14 + t.val % 14] ∧ win0_3.index t = ![0, t.val % 14, 0] ∧ win0_4.index t = ![t.val / 14, 0] :=
  (by decide +kernel : ∀ t : Fin grid0.N, _)

/-- What the kernel's array ends holding. -/
def resF (c : Dev nD) (x : S17408x2048.Idx) : EReal :=
  layer (row (m ((c : Thread nD τ).loc main_arg0)) (m ((c : Thread nD τ).loc main_arg1)) (x 0))
    (fun k f => (m ((c : Thread nD τ).loc main_arg2) : S1x2048x14336.Idx → EReal) (ix3 0 k f))
    (fun f => (m ((c : Thread nD τ).loc main_arg3) : S1x7168x2048.Idx → EReal) (ix3 0 f (x 1)))

/-- What a grid point adds. -/
def part (c : Dev nD) (t : Fin cfg0.N) (j : S1024x2048.Idx) : EReal :=
  ∑ h : Fin 512, unit (fun k => (iblk m c 0 t : S1024x2048.Idx → EReal) (ix2 (j 0) k)) (fun k => (iblk m c 1 t : S1x2048x512.Idx → EReal) (ix3 0 k h))
    (fun k => (iblk m c 2 t : S1x2048x512.Idx → EReal) (ix3 0 k h)) * (iblk m c 3 t : S1x512x2048.Idx → EReal) (ix3 0 h (j 1))

/-- What a grid point adds, as a chunk of the layer's sum. -/
theorem term (c : Dev nD) (t : Fin cfg0.N) (j : S1024x2048.Idx) (n : Fin 17408) (s : Fin 14) (hn : n.val = t.val / 14 * 1024 + (j 0).val)
    (hs : t.val % 14 = s.val) :
    part m c t j = chunk (row (m ((c : Thread nD τ).loc main_arg0)) (m ((c : Thread nD τ).loc main_arg1)) n)
          (fun k f => (m ((c : Thread nD τ).loc main_arg2) : S1x2048x14336.Idx → EReal) (ix3 0 k f))
          (fun f => (m ((c : Thread nD τ).loc main_arg3) : S1x7168x2048.Idx → EReal) (ix3 0 f (j 1))) s := by
  obtain ⟨i0, i1, i2, i3, -⟩ := idx t
  have e0 : ∀ k : Fin 2048, (iblk m c 0 t : S1024x2048.Idx → EReal) (ix2 (j 0) k)
      = row (m ((c : Thread nD τ).loc main_arg0)) (m ((c : Thread nD τ).loc main_arg1)) n k := fun k => by
    refine Eq.trans ?_ (rows m c n k)
    blk_ext [iblk, i0]
  have e1 : ∀ (k : Fin 2048) (h : Fin 512), (iblk m c 1 t : S1x2048x512.Idx → EReal) (ix3 0 k h)
      = (m ((c : Thread nD τ).loc main_arg2) : S1x2048x14336.Idx → EReal) (ix3 0 k ⟨512 * s.val + h.val, by omega⟩) := fun k h => by
    refine Eq.trans ?_ (congrFun (V_main_arg2 m c) _)
    blk_ext [iblk, i1]
  have e2 : ∀ (k : Fin 2048) (h : Fin 512), (iblk m c 2 t : S1x2048x512.Idx → EReal) (ix3 0 k h)
      = (m ((c : Thread nD τ).loc main_arg2) : S1x2048x14336.Idx → EReal) (ix3 0 k ⟨7168 + (512 * s.val + h.val), by omega⟩) := fun k h => by
    refine Eq.trans ?_ (congrFun (V_main_arg2 m c) _)
    blk_ext [iblk, i2]
  have e3 : ∀ (h : Fin 512), (iblk m c 3 t : S1x512x2048.Idx → EReal) (ix3 0 h (j 1))
      = (m ((c : Thread nD τ).loc main_arg3) : S1x7168x2048.Idx → EReal) (ix3 0 ⟨512 * s.val + h.val, by omega⟩ (j 1)) := fun h => by
    refine Eq.trans ?_ (congrFun (V_main_arg3 m c) _)
    blk_ext [iblk, i3]
  unfold part chunk
  refine Finset.sum_congr rfl fun h _ => ?_
  rw [funext e0, funext fun k => e1 k h, funext fun k => e2 k h, e3]

/-- The accumulator after the point that starts a run, and after the others. -/
theorem acc_first (c : Dev nD) (t : Fin cfg0.N) (h : t.val % 14 = 0) (j : S1024x2048.Idx) :
    (outsAt0 m c t.val t.isLt).2 j = 0 + part m c t j := by
  rw [outsAt0_A m c t h (by omega)]
  frame_out
  rw [step, fill]
  rfl

theorem acc_next (c : Dev nD) (t : Fin cfg0.N) (h : ¬t.val % 14 = 0) (j : S1024x2048.Idx) :
    (outsAt0 m c t.val t.isLt).2 j = (outsAt0 m c (t.val - 1) (Nat.lt_of_le_of_lt (Nat.sub_le _ _) t.isLt)).2 j
      + part m c t j := by
  by_cases h1 : t.val % 14 = 13
  · rw [outsAt0_C m c t h h1]
    frame_out
    rw [step, read_unread_whole]
    rfl
  · rw [outsAt0_B m c t h h1]
    frame_out
    rw [step, read_unread_whole]
    rfl

/-- At a run's last point the block written back is the accumulator. -/
theorem out_last (c : Dev nD) (t : Fin cfg0.N) (h : t.val % 14 = 13) (j : S1024x2048.Idx) :
    (outsAt0 m c t.val t.isLt).1 j = (outsAt0 m c t.val t.isLt).2 j := by
  rw [outsAt0_C m c t (by omega) h]
  frame_out
  rw [cast_out]

/-- The block written back at the end of a run. -/
theorem out_at (c : Dev nD) (t : Fin cfg0.N) (h : t.val % 14 = 13) (j : S1024x2048.Idx) (x : S17408x2048.Idx)
    (h0 : (x 0).val = t.val / 14 * 1024 + (j 0).val) (h1 : x 1 = j 1) :
    (outsAt0 m c t.val t.isLt).1 j = resF m c x := by
  refine (out_last m c t h j).trans ?_
  refine (Pipeline.eq_sum_fin_of_reset_step_apply_of_flush (fun n h => (outsAt0 m c n h).2) 14 (fun _ => (0 : EReal)) (part m c)
    (acc_first m c) (acc_next m c) t h j).trans ?_
  rw [zero_add]
  unfold resF
  rw [h1, ← sum_chunks]
  refine Finset.sum_congr rfl fun s _ => term m c _ j (x 0) s ?_ ?_
  · show (x 0).val = (14 * (t.val / 14) + s.val) / 14 * 1024 + (j 0).val
    omega
  · show (14 * (t.val / 14) + s.val) % 14 = s.val
    omega

theorem arr4 (c : Dev nD) : (dats m 0 c).arrAt 4 (cfgs 0).N = resF m c := by
  refine (dats m 0 c).arrAt_eq_of_covers 4 _ (by decide +kernel) fun t hf y => ?_
  blk_simp
  rw [after0_4]
  refine out_at m c t ((flush0_4 t).mp hf) _ _ ?_ ?_
  · blk_simp [(idx t).2.2.2.2]
  · refine Fin.ext ?_
    blk_simp [(idx t).2.2.2.2]

end Cert.Dense
-- ==== Proof.DenseRef.lean ====
module

public import proofs.«01_k».proof.Proof.Gen.Reference3Ideal.Read
public import proofs.«01_k».proof.Proof.Gated

@[expose] public section

set_option maxRecDepth 16384

noncomputable section

namespace Cert.Dense

open Cert.Reference3Ideal Cert.Reference3Ideal.Gen Cert.Reference3Ideal.Read Cert.Gated Idealize.ShloMosaic Idealize.ShloMosaic.TcCoe Idealize.SL.Sem

theorem one_word : Ideal.ofBits .f32 0x3F800000#32 = 1 := by
  simp [Ideal.ofBits, Ideal.ieee, -EReal.coe_mul]; norm_num

variable (x0 : FVec Ideal S4x4096x2048 .f32) (x1 : FVec Ideal S4x256x2048 .f32) (x2 : FVec Ideal S1x2048x14336 .f32) (x3 : FVec Ideal S1x7168x2048 .f32)

theorem proj_lat (b : Fin 4) (n : Fin 4096) (f : Fin 14336) :
    val_main_v2 (F := Ideal) x0 x2 (ix3 b n f) = ∑ k : Fin 2048, x0 (ix3 b n k) * x2 (ix3 0 k f) := by
  pointwise [val_main_v2, val_main_v0]

theorem proj_ctx (b : Fin 4) (n : Fin 256) (f : Fin 14336) :
    val_main_v10 (F := Ideal) x1 x2 (ix3 b n f) = ∑ k : Fin 2048, x1 (ix3 b n k) * x2 (ix3 0 k f) := by
  pointwise [val_main_v10, val_main_v8]

theorem unit_lat (b : Fin 4) (n : Fin 4096) (f : Fin 7168) : val_main_v6 (F := Ideal) x0 x2 (ix3 b n f)
    = unit (fun k => x0 (ix3 b n k)) (fun k => x2 (ix3 0 k ⟨f.val, by omega⟩)) (fun k => x2 (ix3 0 k ⟨7168 + f.val, by omega⟩)) := by
  have e1 : val_main_v3 (F := Ideal) x0 x2 (ix3 b n f) = ∑ k : Fin 2048, x0 (ix3 b n k) * x2 (ix3 0 k ⟨f.val, by omega⟩) := by
    rw [val_main_v3_apply, ← proj_lat]
    exact congrArg _ (by blk_ext)
  have e2 : val_main_v4 (F := Ideal) x0 x2 (ix3 b n f) = ∑ k : Fin 2048, x0 (ix3 b n k) * x2 (ix3 0 k ⟨7168 + f.val, by omega⟩) := by
    rw [val_main_v4_apply, ← proj_lat]
    exact congrArg _ (by blk_ext)
  unfold unit Ideal.logistic
  rw [← e1, ← e2, ← one_word]
  rfl

theorem unit_ctx (b : Fin 4) (n : Fin 256) (f : Fin 7168) : val_main_v14 (F := Ideal) x1 x2 (ix3 b n f)
    = unit (fun k => x1 (ix3 b n k)) (fun k => x2 (ix3 0 k ⟨f.val, by omega⟩)) (fun k => x2 (ix3 0 k ⟨7168 + f.val, by omega⟩)) := by
  have e1 : val_main_v11 (F := Ideal) x1 x2 (ix3 b n f) = ∑ k : Fin 2048, x1 (ix3 b n k) * x2 (ix3 0 k ⟨f.val, by omega⟩) := by
    rw [val_main_v11_apply, ← proj_ctx]
    exact congrArg _ (by blk_ext)
  have e2 : val_main_v12 (F := Ideal) x1 x2 (ix3 b n f) = ∑ k : Fin 2048, x1 (ix3 b n k) * x2 (ix3 0 k ⟨7168 + f.val, by omega⟩) := by
    rw [val_main_v12_apply, ← proj_ctx]
    exact congrArg _ (by blk_ext)
  unfold unit Ideal.logistic
  rw [← e1, ← e2, ← one_word]
  rfl

theorem layer_lat (b : Fin 4) (n : Fin 4096) (q : Fin 2048) : val_main_v7 (F := Ideal) x0 x2 x3 (ix3 b n q)
    = layer (fun k => x0 (ix3 b n k)) (fun k f => x2 (ix3 0 k f)) (fun f => x3 (ix3 0 f q)) := by
  have e : val_main_v7 (F := Ideal) x0 x2 x3 (ix3 b n q) = ∑ f : Fin 7168, val_main_v6 (F := Ideal) x0 x2 (ix3 b n f) * x3 (ix3 0 f q) := by
    pointwise [val_main_v7, val_main_v1]
  rw [e]
  exact Finset.sum_congr rfl fun f _ => by rw [unit_lat]

theorem layer_ctx (b : Fin 4) (n : Fin 256) (q : Fin 2048) : val_main_v15 (F := Ideal) x1 x2 x3 (ix3 b n q)
    = layer (fun k => x1 (ix3 b n k)) (fun k f => x2 (ix3 0 k f)) (fun f => x3 (ix3 0 f q)) := by
  have e : val_main_v15 (F := Ideal) x1 x2 x3 (ix3 b n q) = ∑ f : Fin 7168, val_main_v14 (F := Ideal) x1 x2 (ix3 b n f) * x3 (ix3 0 f q) := by
    pointwise [val_main_v15, val_main_v9]
  rw [e]
  exact Finset.sum_congr rfl fun f _ => by rw [unit_ctx]

/-- The reference's result, row by row. -/
theorem ref_at (n : Fin 17408) (q : Fin 2048) : val_main_v19 (F := Ideal) x0 x1 x2 x3 (ix2 n q)
    = if h : n.val < 16384 then layer (fun k => x0 (ix3 ⟨n.val / 4096, by omega⟩ ⟨n.val % 4096, by omega⟩ k)) (fun k f => x2 (ix3 0 k f)) (fun f => x3 (ix3 0 f q))
      else layer (fun k => x1 (ix3 ⟨(n.val - 16384) / 256, by omega⟩ ⟨(n.val - 16384) % 256, by omega⟩ k)) (fun k f => x2 (ix3 0 k f)) (fun f => x3 (ix3 0 f q)) := by
  have e : val_main_v19 (F := Ideal) x0 x1 x2 x3 (ix2 n q)
      = if h : n.val < 16384 then val_main_v7 (F := Ideal) x0 x2 x3 (ix3 ⟨n.val / 4096, by omega⟩ ⟨n.val % 4096, by omega⟩ q)
        else val_main_v15 (F := Ideal) x1 x2 x3 (ix3 ⟨(n.val - 16384) / 256, by omega⟩ ⟨(n.val - 16384) % 256, by omega⟩ q) := by
    unfold val_main_v19 val_main_v18 val_main_v16 val_main_v17
    generalize val_main_v7 (F := Ideal) x0 x2 x3 = y
    generalize val_main_v15 (F := Ideal) x1 x2 x3 = z
    pointwise
  rw [e]
  by_cases h : n.val < 16384
  · rw [dif_pos h, dif_pos h, layer_lat]
  · rw [dif_neg h, dif_neg h, layer_ctx]

end Cert.Dense
-- ==== Proof.DenseClaim.lean ====
module

public import proofs.«01_k».proof.Defs
public import proofs.«01_k».proof.Proof.Gen.Kernel3Ideal
public import proofs.«01_k».proof.Proof.Gen.Kernel3Ideal.Frame
public import proofs.«01_k».proof.Proof.Gen.Reference3Ideal.Run
public import proofs.«01_k».proof.Proof.DenseArr
public import proofs.«01_k».proof.Proof.DenseRef
public import Idealize.ShloMosaic.Adequacy
public import Idealize.ShloMosaic.Init
public import Idealize.ShloMosaic.Lib.Claim

@[expose] public section

set_option maxRecDepth 16384

noncomputable section

namespace Cert.Dense

open Idealize.ShloMosaic Idealize.ShloMosaic.TcCoe Idealize.SL.Sem

section
open Cert.Kernel3Ideal Cert.Kernel3Ideal.Gen Cert.Gated

/-- The reference's result is the kernel's. -/
theorem equal (m : (ℓ : Loc nD τ sig) → Buf (Elt Ideal) ℓ) (c : Dev nD) :
    Cert.Reference3Ideal.Read.val_main_v19 (F := Ideal) (m ((c : Thread nD τ).loc main_arg0)) (m ((c : Thread nD τ).loc main_arg1))
      (m ((c : Thread nD τ).loc main_arg2)) (m ((c : Thread nD τ).loc main_arg3)) = resF m c := by
  funext x
  obtain ⟨n, q, ex⟩ : ∃ (n : Fin 17408) (q : Fin 2048), x = ix2 n q := ⟨x 0, x 1, by blk_ext⟩
  subst ex
  refine (ref_at _ _ _ _ n q).trans ?_
  show _ = layer (fun k => row _ _ n k) _ _
  unfold row
  by_cases h : n.val < 16384
  · simp only [dif_pos h]
    rfl
  · simp only [dif_neg h]
    rfl

end

/-- The reference ends with its arguments unchanged; it has no counters. -/
theorem reference_frame : Cert.quiescent_Reference3Ideal := by
  intro m ρ _
  exact (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference's term is what the kernel's array ends holding, when the arguments agree. -/
theorem result (m : (ℓ : Loc Cert.Kernel3Ideal.nD Cert.Kernel3Ideal.τ Cert.Kernel3Ideal.sig) → Buf (Elt Ideal) ℓ)
    (c : Dev Cert.Kernel3Ideal.nD)
    (x3 : (⟨Cert.Reference3Ideal.S1x7168x2048, .f32⟩ : BufTy).Contents (Elt Ideal))
    (h : x3 = m ((c.tc : Thread Cert.Kernel3Ideal.nD Cert.Kernel3Ideal.τ).loc Cert.Kernel3Ideal.main_arg3)) :
    Cert.Reference3Ideal.Read.val_main_v19 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        x3 = (Cert.Kernel3Ideal.Gen.dats m 0 c).arrAt 4 (Cert.Kernel3Ideal.cfgs 0).N := by
  subst h
  rw [arr4 m c, ← equal m c]

/-- The kernel's result is the reference's. -/
theorem values : Cert.algebraic_Kernel3Ideal_Reference3Ideal := by
  pair_intro
  · run_from Cert.Kernel3Ideal.Gen.run_main m g
  · run_from Cert.Reference3Ideal.Value.run m' g'
    have a := (hagree c).2.2.2
    exact (Cert.Reference3Ideal.Read.val_main_v19_eq (F := Ideal) _ _ _ _).trans (result m c _ a)

end Cert.Dense
-- ==== Proof.ExpertOk.lean ====
module

public import proofs.«01_k».proof.Defs
public import proofs.«01_k».proof.Proof.Finite
public import proofs.«01_k».proof.Proof.Gen.Kernel2.Frame
public import proofs.«01_k».proof.Proof.Gen.Kernel2Ideal.Frame
public import proofs.«01_k».proof.Proof.Gen.Pre_experts

@[expose] public section

set_option maxRecDepth 16384

noncomputable section

namespace Cert.Experts

open Idealize.ShloMosaic Idealize.ShloMosaic.TcCoe Idealize.SL.Sem

theorem of_bit {b : Bool} (h : BitVec.ofBool b = 1#1) : b = true := by
  cases b
  · exact absurd h (by decide)
  · rfl

/-- A signed word from zero to seven is an expert's number. -/
theorem word_lt (v : BitVec 32) (e : IntOp.andi (IntOp.cmpi .sge v 0#32) (IntOp.cmpi .slt v 8#32) = 1#1) : v.toNat < 8 := by
  obtain ⟨e0, e1⟩ := Cert.Retention.and_one e
  have h0 := of_bit e0
  have h1 := of_bit e1
  simp only [BitVec.sle_eq_decide, BitVec.slt_eq_decide, decide_eq_true_eq, BitVec.toInt_eq_toNat_cond, BitVec.toNat_ofNat,
    Nat.reducePow, Nat.reduceMod] at h0 h1
  omega

/-- What the precondition says of the experts' table. -/
theorem expert_lt [Cert.Pre_experts.Facts] {F : FTy → Type} [FloatOps F] (x : FVec F Cert.Pre_experts.S40960x2048 .f32)
    (wu : FVec F Cert.Pre_experts.S8x2048x14336 .f32) (wd : FVec F Cert.Pre_experts.S8x7168x2048 .f32)
    (te tv : IVec Cert.Pre_experts.S40 32) (h : Cert.Pre_experts.fn x wu wd te tv = fun _ => 1#1) (r : Cert.Pre_experts.S40.Idx) :
    (te r).toNat < 8 := by
  have e := congrFun h ix0
  unfold Cert.Pre_experts.fn at e
  exact word_lt _ (Host.reduce_andi_all _ _ _ _ _ e r)

/-- A block of an expert's gate and up projections is inside the array and whole words. -/
theorem in_up (f : Fin 3 → ℕ) (h0 : f 0 < 8) (h1 : f 1 = 0) (h2 : f 2 < 28) :
    ∃ h : (∀ a, (f a + 1) * (⟨3, ![1, 2048, 512]⟩ : Shape).size a ≤ (⟨3, ![8, 2048, 14336]⟩ : Shape).size a),
      EltTy.bits .bf16 = 32 ∨ (Rect.block (s := ⟨3, ![8, 2048, 14336]⟩) (⟨3, ![1, 2048, 512]⟩ : Shape).size f h).WholeWords (EltTy.packing .bf16) := by
  refine ⟨fun a => ?_, .inr (.inr ⟨by decide, rfl, ?_, rfl⟩)⟩
  · fin_cases a
    · show (f 0 + 1) * 1 ≤ 8; omega
    · show (f 1 + 1) * 2048 ≤ 2048; omega
    · show (f 2 + 1) * 512 ≤ 14336; omega
  · show f 1 * 2048 = 0
    rw [h1]

/-- A block of an expert's down projection likewise. -/
theorem in_down (f : Fin 3 → ℕ) (h0 : f 0 < 8) (h1 : f 1 < 14) (h2 : f 2 = 0) :
    ∃ h : (∀ a, (f a + 1) * (⟨3, ![1, 512, 2048]⟩ : Shape).size a ≤ (⟨3, ![8, 7168, 2048]⟩ : Shape).size a),
      EltTy.bits .bf16 = 32 ∨ (Rect.block (s := ⟨3, ![8, 7168, 2048]⟩) (⟨3, ![1, 512, 2048]⟩ : Shape).size f h).WholeWords (EltTy.packing .bf16) := by
  refine ⟨fun a => ?_, .inr (.inl (.inr ⟨by decide, rfl, .inl ⟨?_, ?_⟩⟩))⟩
  · fin_cases a
    · show (f 0 + 1) * 1 ≤ 8; omega
    · show (f 1 + 1) * 512 ≤ 7168; omega
    · show (f 2 + 1) * 2048 ≤ 2048; omega
  · show 2 ∣ f 1 * 512
    omega
  · show 2 ∣ 512
    decide

/-- The chunk a grid point's maps name. -/
theorem chunk_lt (v : BitVec 32) (b : BitVec 1) (n : ℕ) (h : n < 14) : (Scalar.select b (BitVec.ofNat 32 n) 13#32).toNat < 14 := by
  unfold Scalar.select
  split
  · rw [BitVec.toNat_ofNat]; omega
  · decide

theorem chunk_up_lt (v : BitVec 32) (h : v.toNat < 14) : (Scalar.addi 14#32 v).toNat < 28 := by
  show (14#32 + v).toNat < 28
  rw [BitVec.toNat_add]
  have : (14#32).toNat = 14 := rfl
  omega

/-- Under the precondition every block of the expert call is inside its array, for the kernel as compiled, -/
theorem ok_bits (m : (ℓ : Loc Cert.Kernel2.nD Cert.Kernel2.τ Cert.Kernel2.sig) → Buf (Elt Bits) ℓ) (h : Cert.Pre_Kernel2 m) :
    Cert.Kernel2.Gen.Ok m := by
  have hv : ∀ r : Cert.Kernel2.S40.Idx, BitVec.toNat (w := 32) (Cert.Kernel2.Gen.tbl m 0 r) < 8 := fun r => by
    show BitVec.toNat (w := 32) (Cert.Kernel2.Gen.V m (0 : Dev Cert.Kernel2.nD) Cert.Kernel2.main_arg3 r) < 8
    rw [Cert.Kernel2.Gen.V_main_arg3]
    exact expert_lt _ _ _ _ _ (h 0) r
  refine ⟨fun i => in_up _ (hv _) rfl ?_, fun i => in_up _ (hv _) rfl ?_, fun i => in_down _ (hv _) ?_ rfl⟩
  · exact (chunk_lt 0 _ _ (i 1).isLt).trans (by decide)
  · exact chunk_up_lt _ (chunk_lt 0 _ _ (i 1).isLt)
  · exact chunk_lt 0 _ _ (i 1).isLt

/-- and for its idealization. -/
theorem ok_ideal (m : (ℓ : Loc Cert.Kernel2Ideal.nD Cert.Kernel2Ideal.τ Cert.Kernel2Ideal.sig) → Buf (Elt Ideal) ℓ) (h : Cert.Pre_Kernel2Ideal m) :
    Cert.Kernel2Ideal.Gen.Ok m := by
  have hv : ∀ r : Cert.Kernel2Ideal.S40.Idx, BitVec.toNat (w := 32) (Cert.Kernel2Ideal.Gen.tbl m 0 r) < 8 := fun r => by
    show BitVec.toNat (w := 32) (Cert.Kernel2Ideal.Gen.V m (0 : Dev Cert.Kernel2Ideal.nD) Cert.Kernel2Ideal.main_arg3 r) < 8
    rw [Cert.Kernel2Ideal.Gen.V_main_arg3]
    exact expert_lt _ _ _ _ _ (h 0) r
  refine ⟨fun i => in_up _ (hv _) rfl ?_, fun i => in_up _ (hv _) rfl ?_, fun i => in_down _ (hv _) ?_ rfl⟩
  · exact (chunk_lt 0 _ _ (i 1).isLt).trans (by decide)
  · exact chunk_up_lt _ (chunk_lt 0 _ _ (i 1).isLt)
  · exact chunk_lt 0 _ _ (i 1).isLt

end Cert.Experts
-- ==== Proof.ExpertStep.lean ====
module

public import proofs.«01_k».proof.Proof.ExpertOk
public import proofs.«01_k».proof.Proof.Gated

@[expose] public section

set_option maxRecDepth 16384

noncomputable section

namespace Cert.Experts

open Cert.Kernel2Ideal Cert.Kernel2Ideal.Gen Cert.Gated Idealize.ShloMosaic Idealize.ShloMosaic.TcCoe Idealize.SL.Sem

theorem fill (j : S1024x2048.Idx) : k0_pay1 (F := Ideal) j = 0 := by pointwise [k0_pay1]

/-- What a grid point of a valid tile adds to the accumulator. -/
theorem step (x : FVec Ideal S1024x2048 .bf16) (g u : FVec Ideal S1x2048x512 .bf16) (acc : FVec Ideal S1024x2048 .f32)
    (d : FVec Ideal S1x512x2048 .bf16) (j : S1024x2048.Idx) :
    k0_pay2 (F := Ideal) x g u acc d j = acc j + ∑ h : Fin 512,
      unit (fun k => x (ix2 (j 0) k)) (fun k => g (ix3 0 k h)) (fun k => u (ix3 0 k h)) * d (ix3 0 h (j 1)) := by
  pointwise [k0_pay2]
  rfl

variable (m : (ℓ : Loc nD τ sig) → Buf (Elt Ideal) ℓ)

/-- The expert of tile `i`, and whether the tile is valid, as the tables have them. -/
def expert (i : Fin 40) : BitVec 32 := (m (((0 : Dev nD) : Thread nD τ).loc main_arg3) : S40.Idx → BitVec 32) (ix1 i)

def live (i : Fin 40) : Prop :=
  IntOp.cmpi .sgt ((m (((0 : Dev nD) : Thread nD τ).loc main_arg4) : S40.Idx → BitVec 32) (ix1 i)) 0#32 = 1#1

theorem coords_at : ∀ t : Fin grid0.N, (grid0.coords t 0).val = t.val / 14 ∧ (grid0.coords t 1).val = t.val % 14 := by decide +kernel

/-- The tile of a grid point. -/
def tile (t : Fin grid0.N) : Fin 40 := ⟨t.val / 14, by have h : t.val < 560 := Nat.lt_of_lt_of_eq t.isLt N_0; omega⟩

/-- The table entry a grid point reads is its tile's. -/
theorem entry_at (t : Fin grid0.N) (h : S1.numel = 1) :
    (Rect.unit (s := S40) (k0_off1 (grid0.coords t)) S1.size (k0_off1_inb (grid0.coords t))).emb (Shape.Idx.first (h.symm ▸ Nat.one_pos)) = ix1 (tile t) := by
  refine funext fun a => Fin.ext ?_
  have e := (coords_at t).1
  have l : t.val < 560 := Nat.lt_of_lt_of_eq t.isLt N_0
  have ea : a = 0 := Subsingleton.elim _ _
  subst ea
  show (BitVec.ofNat 32 (grid0.coords t 0).val).toNat + 0 * 1 = t.val / 14
  rw [e, BitVec.toNat_ofNat]
  omega

theorem table0 (t : Fin grid0.N) : tbl m 0 (ix1 (tile t)) = expert m (tile t) := congrFun (V_main_arg3 m 0) _

theorem table1 (t : Fin grid0.N) : tbl m 1 (ix1 (tile t)) = (m (((0 : Dev nD) : Thread nD τ).loc main_arg4) : S40.Idx → BitVec 32) (ix1 (tile t)) :=
  congrFun (V_main_arg4 m 0) _

end Cert.Experts
-- ==== Proof.ExpertIdx.lean ====
module

public import proofs.«01_k».proof.Proof.ExpertStep
public import Idealize.ShloMosaic.Lib.StableHlo.ReadAt

@[expose] public section

set_option maxRecDepth 16384

noncomputable section

namespace Cert.Experts

open Cert.Kernel2Ideal Cert.Kernel2Ideal.Gen Cert.Gated Idealize.ShloMosaic Idealize.ShloMosaic.TcCoe Idealize.SL.Sem

variable (m : (ℓ : Loc nD τ sig) → Buf (Elt Ideal) ℓ) (hO : Ok m)

/-- The condition under which the body adds, at a grid point. -/
theorem cond_iff (t : Fin grid0.N) :
    cond0_1 (grid0.coords t) (tbM0_1.view.readAt (Elt Ideal) (Rect.unit (s := S40) (k0_off1 (grid0.coords t)) S1.size (k0_off1_inb (grid0.coords t))).toLoadRect (tbl m 1) (Shape.Idx.first (numel1_S1.symm ▸ Nat.one_pos)))
      ↔ live m (tile t) := by
  have e : tbM0_1.view.readAt (Elt Ideal) (Rect.unit (s := S40) (k0_off1 (grid0.coords t)) S1.size (k0_off1_inb (grid0.coords t))).toLoadRect (tbl m 1) (Shape.Idx.first (numel1_S1.symm ▸ Nat.one_pos))
      = (m (((0 : Dev nD) : Thread nD τ).loc main_arg4) : S40.Idx → BitVec 32) (ix1 (tile t)) := by
    refine Eq.trans ?_ (table1 m t)
    exact congrArg (tbl m 1) (entry_at t numel1_S1)
  rw [e]
  unfold live
  generalize (m (((0 : Dev nD) : Thread nD τ).loc main_arg4) : S40.Idx → BitVec 32) (ix1 (tile t)) = v
  show Scalar.cmpi .ne (Scalar.extui (IntOp.cmpi .sgt v 0#32)) 0#32 = 1#1 ↔ IntOp.cmpi .sgt v 0#32 = 1#1
  generalize IntOp.cmpi .sgt v 0#32 = b
  revert b
  decide

theorem idx0 : ∀ t : Fin grid0.N, cc0_transform_0 (grid0.coords t) = ![t.val / 14, 0] := by decide +kernel

theorem idx4 : ∀ t : Fin grid0.N, cc0_transform_4 (grid0.coords t) = ![t.val / 14, 0] := by decide +kernel

/-- The chunk a point of a valid tile names is its own. -/
theorem chunk_live (v : BitVec 32) (n k : ℕ) (e : n = k) (hk : k < 14) (h : IntOp.cmpi .sgt v 0#32 = 1#1) :
    (Scalar.select (Scalar.cmpi .sgt v 0#32) (BitVec.ofNat 32 n) 13#32).toNat = k := by
  have h' : Scalar.cmpi .sgt v 0#32 = 1#1 := h
  rw [h', e]
  show (BitVec.ofNat 32 k).toNat = k
  rw [BitVec.toNat_ofNat]
  omega

theorem chunk_up (v : BitVec 32) (n k : ℕ) (e : n = k) (hk : k < 14) (h : IntOp.cmpi .sgt v 0#32 = 1#1) :
    (Scalar.addi 14#32 (Scalar.select (Scalar.cmpi .sgt v 0#32) (BitVec.ofNat 32 n) 13#32)).toNat = 14 + k := by
  have e' := chunk_live v n k e hk h
  show (14#32 + Scalar.select (Scalar.cmpi .sgt v 0#32) (BitVec.ofNat 32 n) 13#32).toNat = 14 + k
  rw [BitVec.toNat_add, e']
  have : (14#32).toNat = 14 := rfl
  omega

theorem at0 (t : Fin grid0.N) :
    (tbl m).at 0 (Rect.unit (s := S40) (k0_off1 (grid0.coords t)) S1.size (k0_off1_inb (grid0.coords t))) numel1_S1 = expert m (tile t) :=
  (congrArg (tbl m 0) (entry_at t numel1_S1)).trans (table0 m t)

theorem at1 (t : Fin grid0.N) :
    (tbl m).at 1 (Rect.unit (s := S40) (k0_off1 (grid0.coords t)) S1.size (k0_off1_inb (grid0.coords t))) numel1_S1
      = (m (((0 : Dev nD) : Thread nD τ).loc main_arg4) : S40.Idx → BitVec 32) (ix1 (tile t)) :=
  (congrArg (tbl m 1) (entry_at t numel1_S1)).trans (table1 m t)

/-- The chunk two of the maps name, and the one the up projection's names. -/
theorem pick (t : Fin grid0.N) (h : live m (tile t)) :
    (Scalar.select (Scalar.cmpi .sgt ((tbl m).at 1 (Rect.unit (s := S40) (k0_off1 (grid0.coords t)) S1.size (k0_off1_inb (grid0.coords t))) numel1_S1) 0#32)
      (BitVec.ofNat 32 (grid0.coords t 1).val) 13#32).toNat = t.val % 14 := by
  rw [at1 m t]
  exact chunk_live _ _ _ (coords_at t).2 (Nat.mod_lt _ (by decide)) h

theorem pick_up (t : Fin grid0.N) (h : live m (tile t)) :
    (Scalar.addi 14#32 (Scalar.select (Scalar.cmpi .sgt ((tbl m).at 1 (Rect.unit (s := S40) (k0_off1 (grid0.coords t)) S1.size (k0_off1_inb (grid0.coords t))) numel1_S1) 0#32)
      (BitVec.ofNat 32 (grid0.coords t 1).val) 13#32)).toNat = 14 + t.val % 14 := by
  rw [at1 m t]
  exact chunk_up _ _ _ (coords_at t).2 (Nat.mod_lt _ (by decide)) h

theorem vec3 (a b c a' b' c' : ℕ) (ha : a = a') (hb : b = b') (hc : c = c') : (![a, b, c] : Fin 3 → ℕ) = ![a', b', c'] := by
  rw [ha, hb, hc]

theorem idx1 (t : Fin grid0.N) (h : live m (tile t)) : cc0_transform_1 k0_off1_inb numel1_S1 (tbl m) (grid0.coords t)
    = ![(expert m (tile t)).toNat, 0, t.val % 14] :=
  vec3 _ _ _ _ _ _ (congrArg BitVec.toNat (at0 m t)) rfl (pick m t h)

theorem idx2 (t : Fin grid0.N) (h : live m (tile t)) : cc0_transform_2 k0_off1_inb numel1_S1 (tbl m) (grid0.coords t)
    = ![(expert m (tile t)).toNat, 0, 14 + t.val % 14] :=
  vec3 _ _ _ _ _ _ (congrArg BitVec.toNat (at0 m t)) rfl (pick_up m t h)

theorem idx3 (t : Fin grid0.N) (h : live m (tile t)) : cc0_transform_3 k0_off1_inb numel1_S1 (tbl m) (grid0.coords t)
    = ![(expert m (tile t)).toNat, t.val % 14, 0] :=
  vec3 _ _ _ _ _ _ (congrArg BitVec.toNat (at0 m t)) (pick m t h) rfl

end Cert.Experts
-- ==== Proof.ExpertPart.lean ====
module

public import proofs.«01_k».proof.Proof.ExpertIdx
public import Idealize.ShloMosaic.Lib.Pipeline.ReadBack

@[expose] public section

set_option maxRecDepth 16384

noncomputable section

namespace Cert.Experts

open Cert.Kernel2Ideal Cert.Kernel2Ideal.Gen Cert.Gated Idealize.ShloMosaic Idealize.ShloMosaic.TcCoe Idealize.SL.Sem

variable (m : (ℓ : Loc nD τ sig) → Buf (Elt Ideal) ℓ) (hO : Ok m)

/-- The rows and weights the call is given are the arguments; rounding them is the identity on extended reals. -/
theorem rows (c : Dev nD) (x : S40960x2048.Idx) :
    (V m c main_v0 : S40960x2048.Idx → EReal) x = (m ((c : Thread nD τ).loc main_arg0) : S40960x2048.Idx → EReal) x := by
  after_reads_at

theorem ups (c : Dev nD) (x : S8x2048x14336.Idx) :
    (V m c main_v1 : S8x2048x14336.Idx → EReal) x = (m ((c : Thread nD τ).loc main_arg1) : S8x2048x14336.Idx → EReal) x := by
  after_reads_at

theorem downs (c : Dev nD) (x : S8x7168x2048.Idx) :
    (V m c main_v2 : S8x7168x2048.Idx → EReal) x = (m ((c : Thread nD τ).loc main_arg2) : S8x7168x2048.Idx → EReal) x := by
  after_reads_at

/-- The expert of tile `i`, as an index of the weights. -/
def pickE (i : Fin 40) : Fin 8 := ⟨(expert m i).toNat % 8, by omega⟩

/-- One row's result through the expert of tile `i`. -/
def through (c : Dev nD) (i : Fin 40) (n : Fin 40960) (q : Fin 2048) : EReal :=
  layer (fun k => (m ((c : Thread nD τ).loc main_arg0) : S40960x2048.Idx → EReal) (ix2 n k))
    (fun k f => (m ((c : Thread nD τ).loc main_arg1) : S8x2048x14336.Idx → EReal) (ix3 (pickE m i) k f))
    (fun f => (m ((c : Thread nD τ).loc main_arg2) : S8x7168x2048.Idx → EReal) (ix3 (pickE m i) f q))

/-- The blocks a grid point is given. -/
def blk0 (c : Dev nD) (t : Fin (cfgM m hO).N) : S1024x2048.Idx → EReal := iblk m hO c 0 t

def blk1 (c : Dev nD) (t : Fin (cfgM m hO).N) : S1x2048x512.Idx → EReal := iblk m hO c 1 t

def blk2 (c : Dev nD) (t : Fin (cfgM m hO).N) : S1x2048x512.Idx → EReal := iblk m hO c 2 t

def blk3 (c : Dev nD) (t : Fin (cfgM m hO).N) : S1x512x2048.Idx → EReal := iblk m hO c 3 t

/-- What a grid point of a valid tile adds. -/
def part (c : Dev nD) (t : Fin (cfgM m hO).N) (j : S1024x2048.Idx) : EReal :=
  ∑ h : Fin 512, unit (fun k => blk0 m hO c t (ix2 (j 0) k)) (fun k => blk1 m hO c t (ix3 0 k h))
    (fun k => blk2 m hO c t (ix3 0 k h)) * blk3 m hO c t (ix3 0 h (j 1))

/-- What a grid point of a valid tile adds, as a chunk of the layer's sum. -/
theorem term (hv : ∀ i, (expert m i).toNat < 8) (c : Dev nD) (t : Fin (cfgM m hO).N) (hl : live m (tile t)) (j : S1024x2048.Idx) (n : Fin 40960) (s : Fin 14)
    (hn : n.val = t.val / 14 * 1024 + (j 0).val) (hs : t.val % 14 = s.val) :
    part m hO c t j = chunk (fun k => (m ((c : Thread nD τ).loc main_arg0) : S40960x2048.Idx → EReal) (ix2 n k))
      (fun k f => (m ((c : Thread nD τ).loc main_arg1) : S8x2048x14336.Idx → EReal) (ix3 (pickE m (tile t)) k f))
      (fun f => (m ((c : Thread nD τ).loc main_arg2) : S8x7168x2048.Idx → EReal) (ix3 (pickE m (tile t)) f (j 1))) s := by
  have i0 : ((cfgM m hO).win 0).index t = ![t.val / 14, 0] := idx0 t
  have i1 : ((cfgM m hO).win 1).index t = ![(expert m (tile t)).toNat, 0, t.val % 14] := idx1 m t hl
  have i2 : ((cfgM m hO).win 2).index t = ![(expert m (tile t)).toNat, 0, 14 + t.val % 14] := idx2 m t hl
  have i3 : ((cfgM m hO).win 3).index t = ![(expert m (tile t)).toNat, t.val % 14, 0] := idx3 m t hl
  have he : (pickE m (tile t)).val = (expert m (tile t)).toNat := Nat.mod_eq_of_lt (hv _)
  have e0 : ∀ k : Fin 2048, blk0 m hO c t (ix2 (j 0) k)
      = (m ((c : Thread nD τ).loc main_arg0) : S40960x2048.Idx → EReal) (ix2 n k) := fun k => by
    refine Eq.trans ?_ (rows m c _)
    blk_ext [blk0, iblk, i0]
  have e1 : ∀ (k : Fin 2048) (h : Fin 512), blk1 m hO c t (ix3 0 k h)
      = (m ((c : Thread nD τ).loc main_arg1) : S8x2048x14336.Idx → EReal) (ix3 (pickE m (tile t)) k ⟨512 * s.val + h.val, by omega⟩) := fun k h => by
    refine Eq.trans ?_ (ups m c _)
    blk_ext [blk1, iblk, i1]
  have e2 : ∀ (k : Fin 2048) (h : Fin 512), blk2 m hO c t (ix3 0 k h)
      = (m ((c : Thread nD τ).loc main_arg1) : S8x2048x14336.Idx → EReal) (ix3 (pickE m (tile t)) k ⟨7168 + (512 * s.val + h.val), by omega⟩) := fun k h => by
    refine Eq.trans ?_ (ups m c _)
    blk_ext [blk2, iblk, i2]
  have e3 : ∀ (h : Fin 512), blk3 m hO c t (ix3 0 h (j 1))
      = (m ((c : Thread nD τ).loc main_arg2) : S8x7168x2048.Idx → EReal) (ix3 (pickE m (tile t)) ⟨512 * s.val + h.val, by omega⟩ (j 1)) := fun h => by
    refine Eq.trans ?_ (downs m c _)
    blk_ext [blk3, iblk, i3]
  unfold part chunk
  refine Finset.sum_congr rfl fun h _ => ?_
  rw [funext e0, funext fun k => e1 k h, funext fun k => e2 k h, e3]

end Cert.Experts
-- ==== Proof.ExpertArr.lean ====
module

public import proofs.«01_k».proof.Proof.ExpertPart
public import Idealize.ShloMosaic.Lib.Pipeline.Covers

@[expose] public section

set_option maxRecDepth 16384

noncomputable section

namespace Cert.Experts

open Cert.Kernel2Ideal Cert.Kernel2Ideal.Gen Cert.Gated Idealize.ShloMosaic Idealize.ShloMosaic.TcCoe Idealize.SL.Sem

variable (m : (ℓ : Loc nD τ sig) → Buf (Elt Ideal) ℓ) (hO : Ok m)

instance (i : Fin 40) : Decidable (live m i) := by unfold live; infer_instance

/-- What a grid point adds: nothing in a tile that is not valid. -/
def adds (c : Dev nD) (t : Fin (cfgM m hO).N) (j : S1024x2048.Idx) : EReal := if live m (tile t) then part m hO c t j else 0

/-- `step` with its operands named. -/
theorem step_of (x x' : FVec Ideal S1024x2048 .bf16) (g g' u u' : FVec Ideal S1x2048x512 .bf16) (acc acc' : FVec Ideal S1024x2048 .f32)
    (d d' : FVec Ideal S1x512x2048 .bf16) (j : S1024x2048.Idx) (ex : x = x') (eg : g = g') (eu : u = u') (ea : acc = acc') (ed : d = d') :
    k0_pay2 (F := Ideal) x g u acc d j = acc' j + ∑ h : Fin 512,
      unit (fun k => x' (ix2 (j 0) k)) (fun k => g' (ix3 0 k h)) (fun k => u' (ix3 0 k h)) * d' (ix3 0 h (j 1)) := by
  subst ex eg eu ea ed
  exact step x g u acc d j

theorem acc_A (c : Dev nD) (t : Fin (cfgM m hO).N) (h : t.val % 14 = 0) (hl : live m (tile t)) (j : S1024x2048.Idx) :
    (outsAt0 m hO c t.val t.isLt).2 j = 0 + part m hO c t j := by
  rw [outsAt0_A m hO c t h ((cond_iff m t).mpr hl) (by omega)]
  frame_out
  refine (step_of _ (blk0 m hO c t) _ (blk1 m hO c t) _ (blk2 m hO c t) _ k0_pay1 _ (blk3 m hO c t) j ((hs0_0 m hO t).read_unread _)
    ((hs0_1 m hO t).read_unread _) ((hs0_2 m hO t).read_unread _) rfl ((hs0_3 m hO t).read_unread _)).trans ?_
  rw [fill]
  rfl

theorem acc_B (c : Dev nD) (t : Fin (cfgM m hO).N) (h : t.val % 14 = 0) (hl : ¬live m (tile t)) (j : S1024x2048.Idx) :
    (outsAt0 m hO c t.val t.isLt).2 j = 0 := by
  rw [outsAt0_B m hO c t h (fun e => hl ((cond_iff m t).mp e)) (by omega)]
  frame_out
  exact fill j

theorem acc_C (c : Dev nD) (t : Fin (cfgM m hO).N) (h : ¬t.val % 14 = 0) (hl : live m (tile t)) (h1 : ¬t.val % 14 = 13) (j : S1024x2048.Idx) :
    (outsAt0 m hO c t.val t.isLt).2 j = (outsAt0 m hO c (t.val - 1) (Nat.lt_of_le_of_lt (Nat.sub_le _ _) t.isLt)).2 j + part m hO c t j := by
  rw [outsAt0_C m hO c t h ((cond_iff m t).mpr hl) h1]
  frame_out
  exact step_of _ (blk0 m hO c t) _ (blk1 m hO c t) _ (blk2 m hO c t) _ _ _ (blk3 m hO c t) j ((hs0_0 m hO t).read_unread _)
    ((hs0_1 m hO t).read_unread _) ((hs0_2 m hO t).read_unread _) (read_unread_whole _ _ _) ((hs0_3 m hO t).read_unread _)

theorem acc_D (c : Dev nD) (t : Fin (cfgM m hO).N) (h : ¬t.val % 14 = 0) (hl : ¬live m (tile t)) (h1 : ¬t.val % 14 = 13) (j : S1024x2048.Idx) :
    (outsAt0 m hO c t.val t.isLt).2 j = (outsAt0 m hO c (t.val - 1) (Nat.lt_of_le_of_lt (Nat.sub_le _ _) t.isLt)).2 j := by
  rw [outsAt0_D m hO c t h (fun e => hl ((cond_iff m t).mp e)) h1]
  rfl

theorem acc_E (c : Dev nD) (t : Fin (cfgM m hO).N) (h : ¬t.val % 14 = 0) (hl : live m (tile t)) (h1 : t.val % 14 = 13) (j : S1024x2048.Idx) :
    (outsAt0 m hO c t.val t.isLt).2 j = (outsAt0 m hO c (t.val - 1) (Nat.lt_of_le_of_lt (Nat.sub_le _ _) t.isLt)).2 j + part m hO c t j := by
  rw [outsAt0_E m hO c t h ((cond_iff m t).mpr hl) h1]
  frame_out
  exact step_of _ (blk0 m hO c t) _ (blk1 m hO c t) _ (blk2 m hO c t) _ _ _ (blk3 m hO c t) j ((hs0_0 m hO t).read_unread _)
    ((hs0_1 m hO t).read_unread _) ((hs0_2 m hO t).read_unread _) (read_unread_whole _ _ _) ((hs0_3 m hO t).read_unread _)

theorem acc_F (c : Dev nD) (t : Fin (cfgM m hO).N) (h : ¬t.val % 14 = 0) (hl : ¬live m (tile t)) (h1 : t.val % 14 = 13) (j : S1024x2048.Idx) :
    (outsAt0 m hO c t.val t.isLt).2 j = (outsAt0 m hO c (t.val - 1) (Nat.lt_of_le_of_lt (Nat.sub_le _ _) t.isLt)).2 j := by
  rw [outsAt0_F m hO c t h (fun e => hl ((cond_iff m t).mp e)) h1]
  rfl

theorem adds_live (c : Dev nD) (t : Fin (cfgM m hO).N) (hl : live m (tile t)) (j : S1024x2048.Idx) : adds m hO c t j = part m hO c t j := if_pos hl

theorem adds_dead (c : Dev nD) (t : Fin (cfgM m hO).N) (hl : ¬live m (tile t)) (j : S1024x2048.Idx) : adds m hO c t j = 0 := if_neg hl

/-- The accumulator after the point that starts a tile, and after the others. -/
theorem acc_first (c : Dev nD) (t : Fin (cfgM m hO).N) (h : t.val % 14 = 0) (j : S1024x2048.Idx) :
    (outsAt0 m hO c t.val t.isLt).2 j = 0 + adds m hO c t j := by
  by_cases hl : live m (tile t)
  · rw [adds_live m hO c t hl j]
    exact acc_A m hO c t h hl j
  · rw [adds_dead m hO c t hl j, add_zero]
    exact acc_B m hO c t h hl j

theorem acc_next (c : Dev nD) (t : Fin (cfgM m hO).N) (h : ¬t.val % 14 = 0) (j : S1024x2048.Idx) :
    (outsAt0 m hO c t.val t.isLt).2 j = (outsAt0 m hO c (t.val - 1) (Nat.lt_of_le_of_lt (Nat.sub_le _ _) t.isLt)).2 j
      + adds m hO c t j := by
  by_cases hl : live m (tile t)
  · rw [adds_live m hO c t hl j]
    by_cases h1 : t.val % 14 = 13
    · exact acc_E m hO c t h hl h1 j
    · exact acc_C m hO c t h hl h1 j
  · rw [adds_dead m hO c t hl j, add_zero]
    by_cases h1 : t.val % 14 = 13
    · exact acc_F m hO c t h hl h1 j
    · exact acc_D m hO c t h hl h1 j

/-- At a tile's last point the block written back is the accumulator. -/
theorem out_last (c : Dev nD) (t : Fin (cfgM m hO).N) (h : t.val % 14 = 13) (j : S1024x2048.Idx) :
    (outsAt0 m hO c t.val t.isLt).1 j = (outsAt0 m hO c t.val t.isLt).2 j := by
  by_cases hl : live m (tile t)
  · rw [outsAt0_E m hO c t (by omega) ((cond_iff m t).mpr hl) h]
    frame_out
  · rw [outsAt0_F m hO c t (by omega) (fun e => hl ((cond_iff m t).mp e)) h]
    frame_out
    rw [read_unread_whole]
    rfl

/-- The tile of a row. -/
def tileOf (n : Fin 40960) : Fin 40 := ⟨n.val / 1024, by omega⟩

/-- What the kernel's array ends holding. -/
def resE (c : Dev nD) (x : S40960x2048.Idx) : EReal :=
  if live m (tileOf (x 0)) then through m c (tileOf (x 0)) (x 0) (x 1) else 0

/-- The block written back at the end of a tile. -/
theorem out_at (hv : ∀ i, (expert m i).toNat < 8) (c : Dev nD) (t : Fin (cfgM m hO).N) (h : t.val % 14 = 13) (j : S1024x2048.Idx) (x : S40960x2048.Idx)
    (h0 : (x 0).val = t.val / 14 * 1024 + (j 0).val) (h1 : x 1 = j 1) :
    (outsAt0 m hO c t.val t.isLt).1 j = resE m c x := by
  refine (out_last m hO c t h j).trans ?_
  refine (Pipeline.eq_sum_fin_of_reset_step_apply_of_flush (fun n h => (outsAt0 m hO c n h).2) 14 (fun _ => (0 : EReal)) (adds m hO c)
    (acc_first m hO c) (acc_next m hO c) t h j).trans ?_
  rw [zero_add]
  have hj : (j 0).val < 1024 := (j 0).isLt
  have ht : t.val < 560 := Nat.lt_of_lt_of_eq t.isLt N_0
  have hN : grid0.N = 560 := N_0
  have et : tileOf (x 0) = tile t := Fin.ext (by show (x 0).val / 1024 = t.val / 14; omega)
  have es : ∀ (s : Fin 14) (l : 14 * (t.val / 14) + s.val < (cfgM m hO).N), tile ⟨14 * (t.val / 14) + s.val, l⟩ = tile t := fun s l =>
    Fin.ext (by show (14 * (t.val / 14) + s.val) / 14 = t.val / 14; omega)
  unfold resE
  rw [et]
  by_cases hl : live m (tile t)
  · rw [if_pos hl]
    unfold through
    rw [h1, ← sum_chunks]
    refine Finset.sum_congr rfl fun s _ => ?_
    have hs := es s (by omega)
    have hl' : live m (tile ⟨14 * (t.val / 14) + s.val, by omega⟩) := by rw [hs]; exact hl
    unfold adds
    rw [if_pos hl']
    refine (term m hO hv c _ hl' j (x 0) s ?_ ?_).trans ?_
    · show (x 0).val = (14 * (t.val / 14) + s.val) / 14 * 1024 + (j 0).val
      omega
    · show (14 * (t.val / 14) + s.val) % 14 = s.val
      omega
    · rw [hs]
  · rw [if_neg hl]
    refine Finset.sum_eq_zero fun s _ => ?_
    have hs := es s (by omega)
    unfold adds
    rw [hs, if_neg hl]

/-- Every block of the result is written. -/
theorem covers : ((cfgM m hO).win 4).Covers := by
  refine Pipeline.Window.covers_of_index_surj _ rfl (by exact (by decide : ∀ a : Fin 2, 0 < S1024x2048.size a)) fun β => ?_
  obtain ⟨b0, l0, e0⟩ : ∃ b : ℕ, b < 40 ∧ b = (β (show Fin ((cfgM m hO).win 4).shape.rank from (0 : Fin 2))).val := ⟨_, Nat.lt_of_lt_of_eq (β (show Fin ((cfgM m hO).win 4).shape.rank from (0 : Fin 2))).isLt (show (40960 + 1024 - 1) / 1024 = 40 by decide), rfl⟩
  obtain ⟨b1, l1, e1⟩ : ∃ b : ℕ, b < 1 ∧ b = (β (show Fin ((cfgM m hO).win 4).shape.rank from (1 : Fin 2))).val := ⟨_, Nat.lt_of_lt_of_eq (β (show Fin ((cfgM m hO).win 4).shape.rank from (1 : Fin 2))).isLt (show (2048 + 2048 - 1) / 2048 = 1 by decide), rfl⟩
  have hN : grid0.N = 560 := N_0
  have l : 14 * b0 < grid0.N := by omega
  have i4 : ((cfgM m hO).win 4).index ⟨14 * b0, l⟩ = ![14 * b0 / 14, 0] := idx4 ⟨14 * b0, l⟩
  refine ⟨⟨14 * b0, l⟩, fun (a : Fin 2) => ?_⟩
  rw [i4]
  fin_cases a
  · refine Eq.trans ?_ e0
    show 14 * b0 / 14 = b0
    omega
  · refine Eq.trans ?_ e1
    show 0 = b1
    omega

theorem arr4 (hv : ∀ i, (expert m i).toNat < 8) (c : Dev nD) : (dats m hO 0 c).arrAt 4 (cfgM m hO).N = resE m c := by
  refine (dats m hO 0 c).arrAt_eq_of_covers 4 _ (covers m hO) fun t hf y => ?_
  have i4 : ((cfgM m hO).win 4).index t = ![t.val / 14, 0] := idx4 t
  blk_simp
  rw [after0_4]
  refine out_at m hO hv c t ((flush0_4 (adm m hO) t).mp hf) _ _ ?_ ?_
  · blk_simp [i4]
  · refine Fin.ext ?_
    blk_simp [i4]

end Cert.Experts
-- ==== Proof.ExpertSum.lean ====
module

public import proofs.«01_k».proof.Proof.Gen.Reference2Ideal.Read
public import proofs.«01_k».proof.Proof.Gated
public import proofs.«01_k».proof.Proof.DenseRef

@[expose] public section

set_option maxRecDepth 16384

noncomputable section

namespace Cert.Experts

open Cert.Reference2Ideal Cert.Reference2Ideal.Gen Cert.Reference2Ideal.Read Cert.Gated Cert.Dense Idealize.ShloMosaic Idealize.ShloMosaic.TcCoe Idealize.SL.Sem

theorem zero_word : Ideal.ofBits .f32 0x00000000#32 = 0 := by
  simp [Ideal.ofBits, Ideal.ieee]

/-- A comparison's bit as a number, where a tile is valid; zero where it is not. -/
theorem coefficient (b : BitVec 1) (v w : BitVec 32) :
    Scalar.select b (FloatOps.uitofp (F := Ideal) .f32 (IntOp.cmpi .eq v w)) (0 : EReal) = if b = 1#1 then (if v = w then (1 : EReal) else 0) else 0 := by
  by_cases hb : b = 1#1
  · rw [if_pos hb]
    refine (if_pos hb).trans ?_
    by_cases h : v = w
    · rw [if_pos h, show IntOp.cmpi .eq v w = 1#1 by simp [IntOp.cmpi, h]]
      show ((((1#1 : BitVec 1).toNat : ℝ)) : EReal) = 1
      simp
    · rw [if_neg h, show IntOp.cmpi .eq v w = 0#1 by simp [IntOp.cmpi, beq_eq_false_iff_ne.mpr h]]
      show ((((0#1 : BitVec 1).toNat : ℝ)) : EReal) = 0
      simp
  · rw [if_neg hb]
    exact if_neg hb

/-- The coefficient of expert `e` on a row: one where the row's tile is valid and its expert is `e`, else zero. -/
theorem weight (x3 x4 : S40.Idx → BitVec 32) (n : Fin 40960) (e : Fin 8) :
    val_main_v10 (F := Ideal) x3 x4 (ix2 n e)
      = if IntOp.cmpi .sgt (x4 (ix1 ⟨n.val / 1024, by omega⟩)) 0#32 = 1#1 then
          (if x3 (ix1 ⟨n.val / 1024, by omega⟩) = BitVec.ofNat 32 e.val then (1 : EReal) else 0) else 0 := by
  have h4 : val_main_call1_v1 (F := Ideal) x4 (ix2 n e) = IntOp.cmpi .sgt (x4 (ix1 ⟨n.val / 1024, by omega⟩)) 0#32 := by
    pointwise [val_main_call1_v1, val_main_v8, val_main_v6, val_main_v7, val_main_c, val_main_v5, val_main_v4, val_main_v3]
  have h3 : val_main_call0_v4 (F := Ideal) x3 (ix2 n e) = IntOp.cmpi .eq (x3 (ix1 ⟨n.val / 1024, by omega⟩)) (BitVec.ofNat 32 e.val) := by
    pointwise [val_main_call0_v4, val_main_call0_v3, val_main_call0_v2, val_main_call0_v1, val_main_call0_v0, val_main_v2, val_main_v1, val_main_v0]
  have h2 : val_main_call1_v2 (F := Ideal) (ix2 n e) = (0 : EReal) := zero_word
  rw [val_main_v10_apply, h4, h2, val_main_v9_apply, h3]
  exact coefficient _ _ _

/-- An expert's gated layer on arrays: the projections, SiLU of the gates times the up projections, the down projection. -/
def proj (x : FVec Ideal S40960x2048 .f32) (W : FVec Ideal S2048x14336 .f32) : FVec Ideal S40960x14336 .f32 :=
  Host.dotGeneral dot_S40960x2048_S2048x14336_S40960x14336_1_0_0_1_n_n none x W

def gates (p : FVec Ideal S40960x14336 .f32) : FVec Ideal S40960x7168 .f32 :=
  extractStridedSlice S40960x7168 ![0, 0] p slices_S40960x14336_S40960x7168_0_0

def lifts (p : FVec Ideal S40960x14336 .f32) : FVec Ideal S40960x7168 .f32 :=
  extractStridedSlice S40960x7168 ![0, 7168] p slices_S40960x14336_S40960x7168_0_7168

def silu (g : FVec Ideal S40960x7168 .f32) : FVec Ideal S40960x7168 .f32 :=
  mulf g (Host.divf (broadcastInDim S40960x7168 ![] bcast_S_S40960x7168 (constant S_ .f32 0x3F800000#32))
    (addf (broadcastInDim S40960x7168 ![] bcast_S_S40960x7168 (constant S_ .f32 0x3F800000#32)) (Host.exp (Host.negf g))))

def hidden (p : FVec Ideal S40960x14336 .f32) : FVec Ideal S40960x7168 .f32 := mulf (silu (gates p)) (lifts p)

def gated (x : FVec Ideal S40960x2048 .f32) (W : FVec Ideal S2048x14336 .f32) (D : FVec Ideal S7168x2048 .f32) :
    FVec Ideal S40960x2048 .f32 :=
  Host.dotGeneral dot_S40960x7168_S7168x2048_S40960x2048_1_0_0_1_n_n none (hidden (proj x W)) D

variable (x : FVec Ideal S40960x2048 .f32) (W : FVec Ideal S2048x14336 .f32) (D : FVec Ideal S7168x2048 .f32)

theorem proj_at (n : Fin 40960) (f : Fin 14336) : proj x W (ix2 n f) = ∑ k : Fin 2048, x (ix2 n k) * W (ix2 k f) := by
  pointwise [proj]

theorem hidden_at (n : Fin 40960) (f : Fin 7168) : hidden (proj x W) (ix2 n f)
    = unit (fun k => x (ix2 n k)) (fun k => W (ix2 k ⟨f.val, by omega⟩)) (fun k => W (ix2 k ⟨7168 + f.val, by omega⟩)) := by
  have e1 : gates (proj x W) (ix2 n f) = ∑ k : Fin 2048, x (ix2 n k) * W (ix2 k ⟨f.val, by omega⟩) := by
    rw [← proj_at]
    generalize proj x W = p
    pointwise [gates]
  have e2 : lifts (proj x W) (ix2 n f) = ∑ k : Fin 2048, x (ix2 n k) * W (ix2 k ⟨7168 + f.val, by omega⟩) := by
    rw [← proj_at]
    generalize proj x W = p
    pointwise [lifts]
  unfold unit Ideal.logistic
  rw [← e1, ← e2, ← one_word]
  rfl

/-- One entry of an expert's gated layer. -/
theorem gated_at (n : Fin 40960) (q : Fin 2048) : gated x W D (ix2 n q)
    = layer (fun k => x (ix2 n k)) (fun k f => W (ix2 k f)) (fun f => D (ix2 f q)) := by
  have e : gated x W D (ix2 n q) = ∑ f : Fin 7168, hidden (proj x W) (ix2 n f) * D (ix2 f q) := by
    unfold gated
    generalize hidden (proj x W) = y
    pointwise
  rw [e]
  exact Finset.sum_congr rfl fun f _ => by rw [hidden_at]

end Cert.Experts
-- ==== Proof.ExpertRef.lean ====
module

public import proofs.«01_k».proof.Proof.ExpertSum

@[expose] public section

set_option maxRecDepth 16384

noncomputable section

namespace Cert.Experts

open Cert.Reference2Ideal Cert.Reference2Ideal.Gen Cert.Reference2Ideal.Read Cert.Gated Idealize.ShloMosaic Idealize.ShloMosaic.TcCoe Idealize.SL.Sem

variable (x0 : FVec Ideal S40960x2048 .f32) (x1 : FVec Ideal S8x2048x14336 .f32) (x2 : FVec Ideal S8x7168x2048 .f32) (x3 x4 : S40.Idx → BitVec 32)

/-- One entry of row `n` through expert `e`. -/
def out (n : Fin 40960) (q : Fin 2048) (e : Fin 8) : EReal :=
  layer (fun k => x0 (ix2 n k)) (fun k f => x1 (ix3 e k f)) (fun f => x2 (ix3 e f q))

/-- The coefficient of expert `e` on row `n`. -/
def coef (n : Fin 40960) (e : Fin 8) : EReal := val_main_v10 (F := Ideal) x3 x4 (ix2 n e)

theorem expert_0 (n : Fin 40960) (q : Fin 2048) :
    val_main_v22 (F := Ideal) x0 x1 x2 (ix2 n q) = out x0 x1 x2 n q 0 := by
  have e1 : ∀ (k : Fin 2048) (f : Fin 14336), val_main_v14 (F := Ideal) x1 (ix2 k f) = x1 (ix3 0 k f) := fun k f => by
    pointwise [val_main_v14, val_main_v13]
  have e2 : ∀ (f : Fin 7168), val_main_v16 (F := Ideal) x2 (ix2 f q) = x2 (ix3 0 f q) := fun f => by
    pointwise [val_main_v16, val_main_v15]
  refine (gated_at x0 (val_main_v14 (F := Ideal) x1) (val_main_v16 (F := Ideal) x2) n q).trans ?_
  unfold out
  rw [funext fun k => funext (e1 k), funext e2]

theorem share_0 (n : Fin 40960) (q : Fin 2048) :
    val_main_v24 (F := Ideal) x0 x1 x2 x3 x4 (ix2 n q) = coef x3 x4 n 0 * out x0 x1 x2 n q 0 := by
  have h : val_main_v23 (F := Ideal) x3 x4 (ix2 n q) = coef x3 x4 n 0 := by
    unfold val_main_v23 val_main_v12 coef
    generalize val_main_v10 (F := Ideal) x3 x4 = y
    pointwise
  rw [val_main_v24_apply, h, expert_0]
  rfl

theorem expert_1 (n : Fin 40960) (q : Fin 2048) :
    val_main_v36 (F := Ideal) x0 x1 x2 (ix2 n q) = out x0 x1 x2 n q 1 := by
  have e1 : ∀ (k : Fin 2048) (f : Fin 14336), val_main_v28 (F := Ideal) x1 (ix2 k f) = x1 (ix3 1 k f) := fun k f => by
    pointwise [val_main_v28, val_main_v27]
  have e2 : ∀ (f : Fin 7168), val_main_v30 (F := Ideal) x2 (ix2 f q) = x2 (ix3 1 f q) := fun f => by
    pointwise [val_main_v30, val_main_v29]
  refine (gated_at x0 (val_main_v28 (F := Ideal) x1) (val_main_v30 (F := Ideal) x2) n q).trans ?_
  unfold out
  rw [funext fun k => funext (e1 k), funext e2]

theorem share_1 (n : Fin 40960) (q : Fin 2048) :
    val_main_v38 (F := Ideal) x0 x1 x2 x3 x4 (ix2 n q) = coef x3 x4 n 1 * out x0 x1 x2 n q 1 := by
  have h : val_main_v37 (F := Ideal) x3 x4 (ix2 n q) = coef x3 x4 n 1 := by
    unfold val_main_v37 val_main_v26 coef
    generalize val_main_v10 (F := Ideal) x3 x4 = y
    pointwise
  rw [val_main_v38_apply, h, expert_1]
  rfl

theorem expert_2 (n : Fin 40960) (q : Fin 2048) :
    val_main_v50 (F := Ideal) x0 x1 x2 (ix2 n q) = out x0 x1 x2 n q 2 := by
  have e1 : ∀ (k : Fin 2048) (f : Fin 14336), val_main_v42 (F := Ideal) x1 (ix2 k f) = x1 (ix3 2 k f) := fun k f => by
    pointwise [val_main_v42, val_main_v41]
  have e2 : ∀ (f : Fin 7168), val_main_v44 (F := Ideal) x2 (ix2 f q) = x2 (ix3 2 f q) := fun f => by
    pointwise [val_main_v44, val_main_v43]
  refine (gated_at x0 (val_main_v42 (F := Ideal) x1) (val_main_v44 (F := Ideal) x2) n q).trans ?_
  unfold out
  rw [funext fun k => funext (e1 k), funext e2]

theorem share_2 (n : Fin 40960) (q : Fin 2048) :
    val_main_v52 (F := Ideal) x0 x1 x2 x3 x4 (ix2 n q) = coef x3 x4 n 2 * out x0 x1 x2 n q 2 := by
  have h : val_main_v51 (F := Ideal) x3 x4 (ix2 n q) = coef x3 x4 n 2 := by
    unfold val_main_v51 val_main_v40 coef
    generalize val_main_v10 (F := Ideal) x3 x4 = y
    pointwise
  rw [val_main_v52_apply, h, expert_2]
  rfl

theorem expert_3 (n : Fin 40960) (q : Fin 2048) :
    val_main_v64 (F := Ideal) x0 x1 x2 (ix2 n q) = out x0 x1 x2 n q 3 := by
  have e1 : ∀ (k : Fin 2048) (f : Fin 14336), val_main_v56 (F := Ideal) x1 (ix2 k f) = x1 (ix3 3 k f) := fun k f => by
    pointwise [val_main_v56, val_main_v55]
  have e2 : ∀ (f : Fin 7168), val_main_v58 (F := Ideal) x2 (ix2 f q) = x2 (ix3 3 f q) := fun f => by
    pointwise [val_main_v58, val_main_v57]
  refine (gated_at x0 (val_main_v56 (F := Ideal) x1) (val_main_v58 (F := Ideal) x2) n q).trans ?_
  unfold out
  rw [funext fun k => funext (e1 k), funext e2]

theorem share_3 (n : Fin 40960) (q : Fin 2048) :
    val_main_v66 (F := Ideal) x0 x1 x2 x3 x4 (ix2 n q) = coef x3 x4 n 3 * out x0 x1 x2 n q 3 := by
  have h : val_main_v65 (F := Ideal) x3 x4 (ix2 n q) = coef x3 x4 n 3 := by
    unfold val_main_v65 val_main_v54 coef
    generalize val_main_v10 (F := Ideal) x3 x4 = y
    pointwise
  rw [val_main_v66_apply, h, expert_3]
  rfl

theorem expert_4 (n : Fin 40960) (q : Fin 2048) :
    val_main_v78 (F := Ideal) x0 x1 x2 (ix2 n q) = out x0 x1 x2 n q 4 := by
  have e1 : ∀ (k : Fin 2048) (f : Fin 14336), val_main_v70 (F := Ideal) x1 (ix2 k f) = x1 (ix3 4 k f) := fun k f => by
    pointwise [val_main_v70, val_main_v69]
  have e2 : ∀ (f : Fin 7168), val_main_v72 (F := Ideal) x2 (ix2 f q) = x2 (ix3 4 f q) := fun f => by
    pointwise [val_main_v72, val_main_v71]
  refine (gated_at x0 (val_main_v70 (F := Ideal) x1) (val_main_v72 (F := Ideal) x2) n q).trans ?_
  unfold out
  rw [funext fun k => funext (e1 k), funext e2]

theorem share_4 (n : Fin 40960) (q : Fin 2048) :
    val_main_v80 (F := Ideal) x0 x1 x2 x3 x4 (ix2 n q) = coef x3 x4 n 4 * out x0 x1 x2 n q 4 := by
  have h : val_main_v79 (F := Ideal) x3 x4 (ix2 n q) = coef x3 x4 n 4 := by
    unfold val_main_v79 val_main_v68 coef
    generalize val_main_v10 (F := Ideal) x3 x4 = y
    pointwise
  rw [val_main_v80_apply, h, expert_4]
  rfl

theorem expert_5 (n : Fin 40960) (q : Fin 2048) :
    val_main_v92 (F := Ideal) x0 x1 x2 (ix2 n q) = out x0 x1 x2 n q 5 := by
  have e1 : ∀ (k : Fin 2048) (f : Fin 14336), val_main_v84 (F := Ideal) x1 (ix2 k f) = x1 (ix3 5 k f) := fun k f => by
    pointwise [val_main_v84, val_main_v83]
  have e2 : ∀ (f : Fin 7168), val_main_v86 (F := Ideal) x2 (ix2 f q) = x2 (ix3 5 f q) := fun f => by
    pointwise [val_main_v86, val_main_v85]
  refine (gated_at x0 (val_main_v84 (F := Ideal) x1) (val_main_v86 (F := Ideal) x2) n q).trans ?_
  unfold out
  rw [funext fun k => funext (e1 k), funext e2]

theorem share_5 (n : Fin 40960) (q : Fin 2048) :
    val_main_v94 (F := Ideal) x0 x1 x2 x3 x4 (ix2 n q) = coef x3 x4 n 5 * out x0 x1 x2 n q 5 := by
  have h : val_main_v93 (F := Ideal) x3 x4 (ix2 n q) = coef x3 x4 n 5 := by
    unfold val_main_v93 val_main_v82 coef
    generalize val_main_v10 (F := Ideal) x3 x4 = y
    pointwise
  rw [val_main_v94_apply, h, expert_5]
  rfl

theorem expert_6 (n : Fin 40960) (q : Fin 2048) :
    val_main_v106 (F := Ideal) x0 x1 x2 (ix2 n q) = out x0 x1 x2 n q 6 := by
  have e1 : ∀ (k : Fin 2048) (f : Fin 14336), val_main_v98 (F := Ideal) x1 (ix2 k f) = x1 (ix3 6 k f) := fun k f => by
    pointwise [val_main_v98, val_main_v97]
  have e2 : ∀ (f : Fin 7168), val_main_v100 (F := Ideal) x2 (ix2 f q) = x2 (ix3 6 f q) := fun f => by
    pointwise [val_main_v100, val_main_v99]
  refine (gated_at x0 (val_main_v98 (F := Ideal) x1) (val_main_v100 (F := Ideal) x2) n q).trans ?_
  unfold out
  rw [funext fun k => funext (e1 k), funext e2]

theorem share_6 (n : Fin 40960) (q : Fin 2048) :
    val_main_v108 (F := Ideal) x0 x1 x2 x3 x4 (ix2 n q) = coef x3 x4 n 6 * out x0 x1 x2 n q 6 := by
  have h : val_main_v107 (F := Ideal) x3 x4 (ix2 n q) = coef x3 x4 n 6 := by
    unfold val_main_v107 val_main_v96 coef
    generalize val_main_v10 (F := Ideal) x3 x4 = y
    pointwise
  rw [val_main_v108_apply, h, expert_6]
  rfl

theorem expert_7 (n : Fin 40960) (q : Fin 2048) :
    val_main_v120 (F := Ideal) x0 x1 x2 (ix2 n q) = out x0 x1 x2 n q 7 := by
  have e1 : ∀ (k : Fin 2048) (f : Fin 14336), val_main_v112 (F := Ideal) x1 (ix2 k f) = x1 (ix3 7 k f) := fun k f => by
    pointwise [val_main_v112, val_main_v111]
  have e2 : ∀ (f : Fin 7168), val_main_v114 (F := Ideal) x2 (ix2 f q) = x2 (ix3 7 f q) := fun f => by
    pointwise [val_main_v114, val_main_v113]
  refine (gated_at x0 (val_main_v112 (F := Ideal) x1) (val_main_v114 (F := Ideal) x2) n q).trans ?_
  unfold out
  rw [funext fun k => funext (e1 k), funext e2]

theorem share_7 (n : Fin 40960) (q : Fin 2048) :
    val_main_v122 (F := Ideal) x0 x1 x2 x3 x4 (ix2 n q) = coef x3 x4 n 7 * out x0 x1 x2 n q 7 := by
  have h : val_main_v121 (F := Ideal) x3 x4 (ix2 n q) = coef x3 x4 n 7 := by
    unfold val_main_v121 val_main_v110 coef
    generalize val_main_v10 (F := Ideal) x3 x4 = y
    pointwise
  rw [val_main_v122_apply, h, expert_7]
  rfl

/-- The sum over the experts picks the tile's own where the tile is valid. -/
theorem picked (n : Fin 40960) (q : Fin 2048) (hv : (x3 (ix1 ⟨n.val / 1024, by omega⟩)).toNat < 8) :
    ∑ e : Fin 8, coef x3 x4 n e * out x0 x1 x2 n q e
      = if IntOp.cmpi .sgt (x4 (ix1 ⟨n.val / 1024, by omega⟩)) 0#32 = 1#1 then
          out x0 x1 x2 n q ⟨(x3 (ix1 ⟨n.val / 1024, by omega⟩)).toNat % 8, by omega⟩ else 0 := by
  by_cases hl : IntOp.cmpi .sgt (x4 (ix1 ⟨n.val / 1024, by omega⟩)) 0#32 = 1#1
  · rw [if_pos hl]
    have hc : ∀ e : Fin 8, coef x3 x4 n e
        = if (⟨(x3 (ix1 ⟨n.val / 1024, by omega⟩)).toNat % 8, by omega⟩ : Fin 8) = e then (1 : EReal) else 0 := fun e => by
      unfold coef
      rw [weight, if_pos hl]
      refine if_congr ?_ rfl rfl
      rw [Fin.ext_iff, ← BitVec.toNat_inj, BitVec.toNat_ofNat]
      show _ ↔ _ % 8 = e.val
      have he := e.isLt
      omega
    simp only [hc, ite_mul, one_mul, zero_mul, Finset.sum_ite_eq, Finset.mem_univ, if_true]
  · rw [if_neg hl]
    refine Finset.sum_eq_zero fun e _ => ?_
    unfold coef
    rw [weight, if_neg hl, zero_mul]

/-- The reference's result, entry by entry. -/
theorem ref_at (n : Fin 40960) (q : Fin 2048) :
    val_main_v123 (F := Ideal) x0 x1 x2 x3 x4 (ix2 n q) = ∑ e : Fin 8, coef x3 x4 n e * out x0 x1 x2 n q e := by
  have h0 : val_main_v11 (F := Ideal) (ix2 n q) = (0 : EReal) := zero_word
  rw [val_main_v123_apply, val_main_v109_apply, val_main_v95_apply, val_main_v81_apply, val_main_v67_apply, val_main_v53_apply, val_main_v39_apply, val_main_v25_apply, h0,
    share_0, share_1, share_2, share_3, share_4, share_5, share_6, share_7, Fin.sum_univ_eight]
  exact congrArg (fun z : EReal => z + _ + _ + _ + _ + _ + _ + _) (zero_add _)

end Cert.Experts
-- ==== Proof.ExpertClaim.lean ====
module

public import proofs.«01_k».proof.Defs
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Pre_experts
public import proofs.«01_k».proof.Proof.ExpertOk
public import proofs.«01_k».proof.Proof.ExpertArr
public import proofs.«01_k».proof.Proof.ExpertRef
public import Idealize.ShloMosaic.Adequacy
public import Idealize.ShloMosaic.Init
public import Idealize.ShloMosaic.Lib.Claim

@[expose] public section

set_option maxRecDepth 16384

noncomputable section

namespace Cert.Experts

open Idealize.ShloMosaic Idealize.ShloMosaic.TcCoe Idealize.SL.Sem

section
open Cert.Kernel2Ideal Cert.Kernel2Ideal.Gen Cert.Gated

/-- The precondition bounds every tile's expert. -/
theorem expert_of (m : (ℓ : Loc nD τ sig) → Buf (Elt Ideal) ℓ) (h : Cert.Pre_Kernel2Ideal m) (i : Fin 40) : (expert m i).toNat < 8 :=
  expert_lt _ _ _ _ _ (h 0) (ix1 i)

/-- The reference's result is the kernel's. -/
theorem equal (m : (ℓ : Loc nD τ sig) → Buf (Elt Ideal) ℓ) (hv : ∀ i, (expert m i).toNat < 8) :
    Cert.Reference2Ideal.Read.val_main_v123 (F := Ideal) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4)) = resE m 0 := by
  funext x
  obtain ⟨n, q, ex⟩ : ∃ (n : Fin 40960) (q : Fin 2048), x = ix2 n q := ⟨x 0, x 1, by blk_ext⟩
  subst ex
  refine (ref_at _ _ _ _ _ n q).trans ((picked _ _ _ _ _ n q (hv (tileOf n))).trans ?_)
  rfl

/-- The kernel ends with the call's array written and its arguments unchanged. -/
theorem run (m : (ℓ : Loc nD τ sig) → Buf (Elt Ideal) ℓ) (ρ : Dev nD → PrngReg) (hO : Ok m) :
    θ_run (defs (F := Ideal)) (onTc (τ := τ) (main (F := Ideal))) ⟨m, fun _ => 0, ρ⟩ (fun r => ∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨(h.2 c).1 4, h.1 c⟩)
    (θ_run_and (unchanged m ρ hO) (run_main m ρ hO))

end

/-- The reference ends with its arguments unchanged; it has no counters. -/
theorem reference_frame : Cert.quiescent_Reference2Ideal := by
  intro m ρ _
  exact (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference's term is what the kernel's array ends holding, when the arguments agree. -/
theorem result (m : (ℓ : Loc Cert.Kernel2Ideal.nD Cert.Kernel2Ideal.τ Cert.Kernel2Ideal.sig) → Buf (Elt Ideal) ℓ)
    (hpre : Cert.Pre_Kernel2Ideal m) (c : Dev Cert.Kernel2Ideal.nD)
    (x0 : (⟨Cert.Reference2Ideal.S40960x2048, .f32⟩ : BufTy).Contents (Elt Ideal))
    (x1 : (⟨Cert.Reference2Ideal.S8x2048x14336, .f32⟩ : BufTy).Contents (Elt Ideal))
    (x2 : (⟨Cert.Reference2Ideal.S8x7168x2048, .f32⟩ : BufTy).Contents (Elt Ideal))
    (x3 x4 : (⟨Cert.Reference2Ideal.S40, .i32⟩ : BufTy).Contents (Elt Ideal))
    (h0 : x0 = m ((c.tc : Thread Cert.Kernel2Ideal.nD Cert.Kernel2Ideal.τ).loc Cert.Kernel2Ideal.main_arg0))
    (h1 : x1 = m ((c.tc : Thread Cert.Kernel2Ideal.nD Cert.Kernel2Ideal.τ).loc Cert.Kernel2Ideal.main_arg1))
    (h2 : x2 = m ((c.tc : Thread Cert.Kernel2Ideal.nD Cert.Kernel2Ideal.τ).loc Cert.Kernel2Ideal.main_arg2))
    (h3 : x3 = m ((c.tc : Thread Cert.Kernel2Ideal.nD Cert.Kernel2Ideal.τ).loc Cert.Kernel2Ideal.main_arg3))
    (h4 : x4 = m ((c.tc : Thread Cert.Kernel2Ideal.nD Cert.Kernel2Ideal.τ).loc Cert.Kernel2Ideal.main_arg4)) :
    Cert.Reference2Ideal.Read.val_main_v123 (F := Ideal) x0 x1 x2 x3 x4
      = (Cert.Kernel2Ideal.Gen.dats m (ok_ideal m hpre) 0 c).arrAt 4 (Cert.Kernel2Ideal.Gen.cfgM m (ok_ideal m hpre)).N := by
  obtain rfl : c = 0 := Subsingleton.elim _ _
  subst h0 h1 h2 h3 h4
  rw [arr4 m (ok_ideal m hpre) (expert_of m hpre) 0, ← equal m (expert_of m hpre)]

/-- The reference ends with its result read as a function of its arguments, which are unchanged. -/
theorem run_reference (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => ∀ c : Dev Cert.Reference2Ideal.nD,
      r.2.mem ((c.tc : Thread Cert.Reference2Ideal.nD Cert.Reference2Ideal.τ).loc Cert.Reference2Ideal.main_v123) = Cert.Reference2Ideal.Read.val_main_v123 (F := Ideal)
        (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))
        (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))
        (m ((c.tc : Thread Cert.Reference2Ideal.nD Cert.Reference2Ideal.τ).loc Cert.Reference2Ideal.main_arg4))
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)) :=
  (θ_run (Cert.Reference2Ideal.defs (F := Ideal)) _ _).mono
    (fun r h c => ⟨(h c).1.trans (Cert.Reference2Ideal.Read.val_main_v123_eq (F := Ideal) (StableHlo.launchContents m c)), (h c).2⟩)
    (Cert.Reference2Ideal.Value.run (F := Ideal) m ρ)

/-- The kernel's result is the reference's. -/
theorem values : Cert.algebraic_Kernel2Ideal_Reference2Ideal := by
  intro m g m' g' hpre hagree
  refine ⟨fun c => (Cert.Kernel2Ideal.Gen.dats m (ok_ideal m hpre) 0 c).arrAt 4 (Cert.Kernel2Ideal.Gen.cfgM m (ok_ideal m hpre)).N,
    run m g (ok_ideal m hpre), ?_⟩
  exact (θ_run (Cert.Reference2Ideal.defs (F := Ideal)) _ _).mono
    (fun r h c => ⟨(h c).1.trans (result m hpre c _ _ _ _ _ (hagree c).1 (hagree c).2.1 (hagree c).2.2.1 (hagree c).2.2.2.1
      (hagree c).2.2.2.2), (h c).2⟩)
    (run_reference m' g')

end Cert.Experts
-- ==== Proof.InCols.lean ====
module

public import Idealize.ShloMosaic.PureOps.Ideal
public import Mathlib.Data.EReal.Operations
public import Mathlib.Algebra.BigOperators.Fin

@[expose] public section

noncomputable section

namespace Cert.ProjIn

/-- The column of the weights that the stored column `q` comes from; 4896 where the stored column is zero. -/
def place (q : ℕ) : ℕ :=
  if q < 512 then q
  else if q < 1536 then q + 800
  else if q < 2560 then q + 1824
  else if q < 2624 then q - 2048
  else if q < 2752 then q - 2112
  else if q < 2880 then q - 2176
  else if q < 3008 then q - 2240
  else if q < 3072 then q - 2304
  else if q < 4096 then q - 736
  else if q < 4608 then q + 288
  else if q < 5120 then q - 3840
  else if q < 5184 then 4896
  else if q < 5216 then q - 3904
  else if q < 5312 then 4896
  else if q < 5328 then q - 4016
  else if q < 5344 then q - 4048
  else 4896

/-- A row of the columns of the weights, or zero past its end. -/
def pick (f : Fin 4896 → EReal) (s : ℕ) : EReal := if h : s < 4896 then f ⟨s, h⟩ else 0

theorem pick_at (f : Fin 4896 → EReal) (q : ℕ) (s : Fin 4896) (e : place q = s.val) : f s = pick f (place q) := by
  rw [e, pick, dif_pos s.isLt]

theorem pick_zero (f : Fin 4896 → EReal) (q : ℕ) (e : place q = 4896) : 0 = pick f (place q) := by
  rw [e, pick, dif_neg (by omega)]

theorem leaf0 (f : Fin 4896 → EReal) (q : ℕ) (lo : 0 ≤ q) (hi : q < 512) (s : Fin 4896) (e : s.val = q) : f s = pick f (place q) :=
  pick_at f q s (by rw [place, if_pos (by omega), e])

theorem leaf1 (f : Fin 4896 → EReal) (q : ℕ) (lo : 512 ≤ q) (hi : q < 1536) (s : Fin 4896) (e : s.val = q + 800) : f s = pick f (place q) :=
  pick_at f q s (by rw [place, if_neg (by omega), if_pos (by omega), e])

theorem leaf2 (f : Fin 4896 → EReal) (q : ℕ) (lo : 1536 ≤ q) (hi : q < 2560) (s : Fin 4896) (e : s.val = q + 1824) : f s = pick f (place q) :=
  pick_at f q s (by rw [place, if_neg (by omega), if_neg (by omega), if_pos (by omega), e])

theorem leaf3 (f : Fin 4896 → EReal) (q : ℕ) (lo : 2560 ≤ q) (hi : q < 2624) (s : Fin 4896) (e : s.val = q - 2048) : f s = pick f (place q) :=
  pick_at f q s (by rw [place, if_neg (by omega), if_neg (by omega), if_neg (by omega), if_pos (by omega), e])

theorem leaf4 (f : Fin 4896 → EReal) (q : ℕ) (lo : 2624 ≤ q) (hi : q < 2752) (s : Fin 4896) (e : s.val = q - 2112) : f s = pick f (place q) :=
  pick_at f q s (by rw [place, if_neg (by omega), if_neg (by omega), if_neg (by omega), if_neg (by omega), if_pos (by omega), e])

theorem leaf5 (f : Fin 4896 → EReal) (q : ℕ) (lo : 2752 ≤ q) (hi : q < 2880) (s : Fin 4896) (e : s.val = q - 2176) : f s = pick f (place q) :=
  pick_at f q s (by rw [place, if_neg (by omega), if_neg (by omega), if_neg (by omega), if_neg (by omega), if_neg (by omega), if_pos (by omega), e])

theorem leaf6 (f : Fin 4896 → EReal) (q : ℕ) (lo : 2880 ≤ q) (hi : q < 3008) (s : Fin 4896) (e : s.val = q - 2240) : f s = pick f (place q) :=
  pick_at f q s (by rw [place, if_neg (by omega), if_neg (by omega), if_neg (by omega), if_neg (by omega), if_neg (by omega), if_neg (by omega), if_pos (by omega), e])

theorem leaf7 (f : Fin 4896 → EReal) (q : ℕ) (lo : 3008 ≤ q) (hi : q < 3072) (s : Fin 4896) (e : s.val = q - 2304) : f s = pick f (place q) :=
  pick_at f q s (by rw [place, if_neg (by omega), if_neg (by omega), if_neg (by omega), if_neg (by omega), if_neg (by omega), if_neg (by omega), if_neg (by omega), if_pos (by omega), e])

theorem leaf8 (f : Fin 4896 → EReal) (q : ℕ) (lo : 3072 ≤ q) (hi : q < 4096) (s : Fin 4896) (e : s.val = q - 736) : f s = pick f (place q) :=
  pick_at f q s (by rw [place, if_neg (by omega), if_neg (by omega), if_neg (by omega), if_neg (by omega), if_neg (by omega), if_neg (by omega), if_neg (by omega), if_neg (by omega), if_pos (by omega), e])

theorem leaf9 (f : Fin 4896 → EReal) (q : ℕ) (lo : 4096 ≤ q) (hi : q < 4608) (s : Fin 4896) (e : s.val = q + 288) : f s = pick f (place q) :=
  pick_at f q s (by rw [place, if_neg (by omega), if_neg (by omega), if_neg (by omega), if_neg (by omega), if_neg (by omega), if_neg (by omega), if_neg (by omega), if_neg (by omega), if_neg (by omega), if_pos (by omega), e])

theorem leaf10 (f : Fin 4896 → EReal) (q : ℕ) (lo : 4608 ≤ q) (hi : q < 5120) (s : Fin 4896) (e : s.val = q - 3840) : f s = pick f (place q) :=
  pick_at f q s (by rw [place, if_neg (by omega), if_neg (by omega), if_neg (by omega), if_neg (by omega), if_neg (by omega), if_neg (by omega), if_neg (by omega), if_neg (by omega), if_neg (by omega), if_neg (by omega), if_pos (by omega), e])

theorem leaf11 (f : Fin 4896 → EReal) (q : ℕ) (lo : 5120 ≤ q) (hi : q < 5184) : 0 = pick f (place q) :=
  pick_zero f q (by rw [place, if_neg (by omega), if_neg (by omega), if_neg (by omega), if_neg (by omega), if_neg (by omega), if_neg (by omega), if_neg (by omega), if_neg (by omega), if_neg (by omega), if_neg (by omega), if_neg (by omega), if_pos (by omega)])

theorem leaf12 (f : Fin 4896 → EReal) (q : ℕ) (lo : 5184 ≤ q) (hi : q < 5216) (s : Fin 4896) (e : s.val = q - 3904) : f s = pick f (place q) :=
  pick_at f q s (by rw [place, if_neg (by omega), if_neg (by omega), if_neg (by omega), if_neg (by omega), if_neg (by omega), if_neg (by omega), if_neg (by omega), if_neg (by omega), if_neg (by omega), if_neg (by omega), if_neg (by omega), if_neg (by omega), if_pos (by omega), e])

theorem leaf13 (f : Fin 4896 → EReal) (q : ℕ) (lo : 5216 ≤ q) (hi : q < 5312) : 0 = pick f (place q) :=
  pick_zero f q (by rw [place, if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega)])

theorem leaf14 (f : Fin 4896 → EReal) (q : ℕ) (lo : 5312 ≤ q) (hi : q < 5328) (s : Fin 4896) (e : s.val = q - 4016) : f s = pick f (place q) :=
  pick_at f q s (by rw [place, if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega), e])

theorem leaf15 (f : Fin 4896 → EReal) (q : ℕ) (lo : 5328 ≤ q) (hi : q < 5344) (s : Fin 4896) (e : s.val = q - 4048) : f s = pick f (place q) :=
  pick_at f q s (by rw [place, if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_pos (by omega), e])

theorem leaf16 (f : Fin 4896 → EReal) (q : ℕ) (lo : 5344 ≤ q) (hi : q < 5376) : 0 = pick f (place q) :=
  pick_zero f q (by rw [place, if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega), if_neg (by omega)])

/-- A row times the stored columns is the stored columns of the row's products. -/
theorem pick_sum (x : Fin 2048 → EReal) (w : Fin 2048 → Fin 4896 → EReal) (s : ℕ) :
    ∑ k : Fin 2048, x k * pick (w k) s = pick (fun c => ∑ k : Fin 2048, x k * w k c) s := by
  unfold pick
  by_cases h : s < 4896
  · simp only [dif_pos h]
  · simp only [dif_neg h, mul_zero, Finset.sum_const_zero]

end Cert.ProjIn
-- ==== Proof.InArr.lean ====
module

public import Idealize.ShloMosaic.Lib.Pipeline.ValueKit
public import proofs.«01_k».proof.Proof.Gen.Kernel4Ideal.Value
public import proofs.«01_k».proof.Proof.InCols
public import Idealize.ShloMosaic.Lib.StableHlo.ReadAt
public import Idealize.ShloMosaic.Lib.Pipeline.ReadBack

@[expose] public section

set_option maxRecDepth 16384

noncomputable section

namespace Cert.ProjIn

open Cert.Kernel4Ideal Cert.Kernel4Ideal.Gen Idealize.ShloMosaic Idealize.ShloMosaic.TcCoe Idealize.SL.Sem

set_option maxHeartbeats 8000000

/-- Off the last of two axes a shortened index agrees with the index. -/
theorem off_axis₂ {n0 n2 n3 : ℕ} {n : Fin n0} {q : Fin n2} {e : Fin n3} {d : Fin 2} (hd : d ≠ 1) :
    ((ix2 n e) d).val = ((ix2 n q) d).val := by
  match d, hd with
  | ⟨0, _⟩, _ => rfl
  | ⟨1, _⟩, h => exact absurd rfl h

variable (m : (ℓ : Loc nD τ sig) → Buf (Elt Ideal) ℓ)

/-- Row `n` of the latent tokens above the context tokens. -/
def row (lat : S4x4096x2048.Idx → EReal) (ctx : S4x256x2048.Idx → EReal) (n : Fin 17408) (k : Fin 2048) : EReal :=
  if h : n.val < 16384 then lat (ix3 ⟨n.val / 4096, by omega⟩ ⟨n.val % 4096, by omega⟩ k)
  else ctx (ix3 ⟨(n.val - 16384) / 256, by omega⟩ ⟨(n.val - 16384) % 256, by omega⟩ k)

theorem rows (c : Dev nD) (n : Fin 17408) (k : Fin 2048) : (V m c main_v3 : S17408x2048.Idx → EReal) (ix2 n k)
    = row (m ((c : Thread nD τ).loc main_arg0)) (m ((c : Thread nD τ).loc main_arg1)) n k := by
  after_reads_at
  unfold row
  by_cases hn : n.val < 16384
  · rw [dif_pos hn, dif_pos hn]
    after_reads_at
  · rw [dif_neg hn, dif_neg hn]
    after_reads_at

/-- The weights the call is given: column `q` is the stored column `place q`, or zero. -/
theorem weights (c : Dev nD) (k : Fin 2048) (q : Fin 5376) : (V m c main_v37 : S2048x5376.Idx → EReal) (ix2 k q)
    = pick (fun s => (m ((c : Thread nD τ).loc main_arg2) : S2048x4896.Idx → EReal) (ix2 k s)) (place q.val) := by
  after_reads_simp
  clean_types
  refine (truncf_apply _ _ _ _).trans ?_
  by_cases h1 : q.val < 5312
  · refine Eq.trans (concatenate_apply_piece 1 _ _ (ix2 k q) 0 (by exact (show 0 < 2 by decide)) S2048x5312 _ rfl rfl 0 (by simp) (ix2 k (⟨q.val, by omega⟩ : Fin 5312))
      (fun d hd => off_axis₂ hd) (Nat.zero_add _)) ?_
    try simp only [Matrix.cons_val]
    after_reads_simp
    clean_types
    by_cases h2 : q.val < 512
    · refine Eq.trans (concatenate_apply_piece 1 _ _ (ix2 k (⟨q.val, by omega⟩ : Fin 5312)) 0 (by exact (show 0 < 16 by decide)) S2048x512 _ rfl rfl 0 (by simp) (ix2 k (⟨q.val, by omega⟩ : Fin 512))
        (fun d hd => off_axis₂ hd) (Nat.zero_add _)) ?_
      try simp only [Matrix.cons_val]
      first | after_reads_at | pointwise
      exact leaf0 (fun s => (m ((c : Thread nD τ).loc main_arg2) : S2048x4896.Idx → EReal) (ix2 k s)) _ (by omega) (by omega) ⟨_, _⟩ (by dsimp only <;> omega)
    by_cases h3 : q.val < 1024
    · refine Eq.trans (concatenate_apply_piece 1 _ _ (ix2 k (⟨q.val, by omega⟩ : Fin 5312)) 1 (by exact (show 1 < 16 by decide)) S2048x512 _ rfl rfl 512 (by simp) (ix2 k (⟨q.val - 512, by omega⟩ : Fin 512))
        (fun d hd => off_axis₂ hd) (Nat.add_sub_of_le (by omega))) ?_
      try simp only [Matrix.cons_val]
      first | after_reads_at | pointwise
      exact leaf1 (fun s => (m ((c : Thread nD τ).loc main_arg2) : S2048x4896.Idx → EReal) (ix2 k s)) _ (by omega) (by omega) ⟨_, _⟩ (by dsimp only <;> omega)
    by_cases h4 : q.val < 1536
    · refine Eq.trans (concatenate_apply_piece 1 _ _ (ix2 k (⟨q.val, by omega⟩ : Fin 5312)) 2 (by exact (show 2 < 16 by decide)) S2048x512 _ rfl rfl 1024 (by simp) (ix2 k (⟨q.val - 1024, by omega⟩ : Fin 512))
        (fun d hd => off_axis₂ hd) (Nat.add_sub_of_le (by omega))) ?_
      try simp only [Matrix.cons_val]
      first | after_reads_at | pointwise
      exact leaf1 (fun s => (m ((c : Thread nD τ).loc main_arg2) : S2048x4896.Idx → EReal) (ix2 k s)) _ (by omega) (by omega) ⟨_, _⟩ (by dsimp only <;> omega)
    by_cases h5 : q.val < 2048
    · refine Eq.trans (concatenate_apply_piece 1 _ _ (ix2 k (⟨q.val, by omega⟩ : Fin 5312)) 3 (by exact (show 3 < 16 by decide)) S2048x512 _ rfl rfl 1536 (by simp) (ix2 k (⟨q.val - 1536, by omega⟩ : Fin 512))
        (fun d hd => off_axis₂ hd) (Nat.add_sub_of_le (by omega))) ?_
      try simp only [Matrix.cons_val]
      first | after_reads_at | pointwise
      exact leaf2 (fun s => (m ((c : Thread nD τ).loc main_arg2) : S2048x4896.Idx → EReal) (ix2 k s)) _ (by omega) (by omega) ⟨_, _⟩ (by dsimp only <;> omega)
    by_cases h6 : q.val < 2560
    · refine Eq.trans (concatenate_apply_piece 1 _ _ (ix2 k (⟨q.val, by omega⟩ : Fin 5312)) 4 (by exact (show 4 < 16 by decide)) S2048x512 _ rfl rfl 2048 (by simp) (ix2 k (⟨q.val - 2048, by omega⟩ : Fin 512))
        (fun d hd => off_axis₂ hd) (Nat.add_sub_of_le (by omega))) ?_
      try simp only [Matrix.cons_val]
      first | after_reads_at | pointwise
      exact leaf2 (fun s => (m ((c : Thread nD τ).loc main_arg2) : S2048x4896.Idx → EReal) (ix2 k s)) _ (by omega) (by omega) ⟨_, _⟩ (by dsimp only <;> omega)
    by_cases h7 : q.val < 2816
    · refine Eq.trans (concatenate_apply_piece 1 _ _ (ix2 k (⟨q.val, by omega⟩ : Fin 5312)) 5 (by exact (show 5 < 16 by decide)) S2048x256 _ rfl rfl 2560 (by simp) (ix2 k (⟨q.val - 2560, by omega⟩ : Fin 256))
        (fun d hd => off_axis₂ hd) (Nat.add_sub_of_le (by omega))) ?_
      try simp only [Matrix.cons_val]
      after_reads_simp
      clean_types
      by_cases h8 : q.val - 2560 < 64
      · refine Eq.trans (concatenate_apply_piece 1 _ _ (ix2 k (⟨q.val - 2560, by omega⟩ : Fin 256)) 0 (by exact (show 0 < 4 by decide)) S2048x64 _ rfl rfl 0 (by simp) (ix2 k (⟨q.val - 2560, by omega⟩ : Fin 64))
          (fun d hd => off_axis₂ hd) (Nat.zero_add _)) ?_
        try simp only [Matrix.cons_val]
        first | after_reads_at | pointwise
        exact leaf3 (fun s => (m ((c : Thread nD τ).loc main_arg2) : S2048x4896.Idx → EReal) (ix2 k s)) _ (by omega) (by omega) ⟨_, _⟩ (by dsimp only <;> omega)
      by_cases h9 : q.val - 2560 < 128
      · refine Eq.trans (concatenate_apply_piece 1 _ _ (ix2 k (⟨q.val - 2560, by omega⟩ : Fin 256)) 1 (by exact (show 1 < 4 by decide)) S2048x64 _ rfl rfl 64 (by simp) (ix2 k (⟨q.val - 2560 - 64, by omega⟩ : Fin 64))
          (fun d hd => off_axis₂ hd) (Nat.add_sub_of_le (by omega))) ?_
        try simp only [Matrix.cons_val]
        first | after_reads_at | pointwise
        exact leaf4 (fun s => (m ((c : Thread nD τ).loc main_arg2) : S2048x4896.Idx → EReal) (ix2 k s)) _ (by omega) (by omega) ⟨_, _⟩ (by dsimp only <;> omega)
      by_cases h10 : q.val - 2560 < 192
      · refine Eq.trans (concatenate_apply_piece 1 _ _ (ix2 k (⟨q.val - 2560, by omega⟩ : Fin 256)) 2 (by exact (show 2 < 4 by decide)) S2048x64 _ rfl rfl 128 (by simp) (ix2 k (⟨q.val - 2560 - 128, by omega⟩ : Fin 64))
          (fun d hd => off_axis₂ hd) (Nat.add_sub_of_le (by omega))) ?_
        try simp only [Matrix.cons_val]
        first | after_reads_at | pointwise
        exact leaf4 (fun s => (m ((c : Thread nD τ).loc main_arg2) : S2048x4896.Idx → EReal) (ix2 k s)) _ (by omega) (by omega) ⟨_, _⟩ (by dsimp only <;> omega)
      refine Eq.trans (concatenate_apply_piece 1 _ _ (ix2 k (⟨q.val - 2560, by omega⟩ : Fin 256)) 3 (by exact (show 3 < 4 by decide)) S2048x64 _ rfl rfl 192 (by simp) (ix2 k (⟨q.val - 2560 - 192, by omega⟩ : Fin 64))
        (fun d hd => off_axis₂ hd) (Nat.add_sub_of_le (by omega))) ?_
      try simp only [Matrix.cons_val]
      first | after_reads_at | pointwise
      exact leaf5 (fun s => (m ((c : Thread nD τ).loc main_arg2) : S2048x4896.Idx → EReal) (ix2 k s)) _ (by omega) (by omega) ⟨_, _⟩ (by dsimp only <;> omega)
    by_cases h11 : q.val < 3072
    · refine Eq.trans (concatenate_apply_piece 1 _ _ (ix2 k (⟨q.val, by omega⟩ : Fin 5312)) 6 (by exact (show 6 < 16 by decide)) S2048x256 _ rfl rfl 2816 (by simp) (ix2 k (⟨q.val - 2816, by omega⟩ : Fin 256))
        (fun d hd => off_axis₂ hd) (Nat.add_sub_of_le (by omega))) ?_
      try simp only [Matrix.cons_val]
      after_reads_simp
      clean_types
      by_cases h12 : q.val - 2816 < 64
      · refine Eq.trans (concatenate_apply_piece 1 _ _ (ix2 k (⟨q.val - 2816, by omega⟩ : Fin 256)) 0 (by exact (show 0 < 4 by decide)) S2048x64 _ rfl rfl 0 (by simp) (ix2 k (⟨q.val - 2816, by omega⟩ : Fin 64))
          (fun d hd => off_axis₂ hd) (Nat.zero_add _)) ?_
        try simp only [Matrix.cons_val]
        first | after_reads_at | pointwise
        exact leaf5 (fun s => (m ((c : Thread nD τ).loc main_arg2) : S2048x4896.Idx → EReal) (ix2 k s)) _ (by omega) (by omega) ⟨_, _⟩ (by dsimp only <;> omega)
      by_cases h13 : q.val - 2816 < 128
      · refine Eq.trans (concatenate_apply_piece 1 _ _ (ix2 k (⟨q.val - 2816, by omega⟩ : Fin 256)) 1 (by exact (show 1 < 4 by decide)) S2048x64 _ rfl rfl 64 (by simp) (ix2 k (⟨q.val - 2816 - 64, by omega⟩ : Fin 64))
          (fun d hd => off_axis₂ hd) (Nat.add_sub_of_le (by omega))) ?_
        try simp only [Matrix.cons_val]
        first | after_reads_at | pointwise
        exact leaf6 (fun s => (m ((c : Thread nD τ).loc main_arg2) : S2048x4896.Idx → EReal) (ix2 k s)) _ (by omega) (by omega) ⟨_, _⟩ (by dsimp only <;> omega)
      by_cases h14 : q.val - 2816 < 192
      · refine Eq.trans (concatenate_apply_piece 1 _ _ (ix2 k (⟨q.val - 2816, by omega⟩ : Fin 256)) 2 (by exact (show 2 < 4 by decide)) S2048x64 _ rfl rfl 128 (by simp) (ix2 k (⟨q.val - 2816 - 128, by omega⟩ : Fin 64))
          (fun d hd => off_axis₂ hd) (Nat.add_sub_of_le (by omega))) ?_
        try simp only [Matrix.cons_val]
        first | after_reads_at | pointwise
        exact leaf6 (fun s => (m ((c : Thread nD τ).loc main_arg2) : S2048x4896.Idx → EReal) (ix2 k s)) _ (by omega) (by omega) ⟨_, _⟩ (by dsimp only <;> omega)
      refine Eq.trans (concatenate_apply_piece 1 _ _ (ix2 k (⟨q.val - 2816, by omega⟩ : Fin 256)) 3 (by exact (show 3 < 4 by decide)) S2048x64 _ rfl rfl 192 (by simp) (ix2 k (⟨q.val - 2816 - 192, by omega⟩ : Fin 64))
        (fun d hd => off_axis₂ hd) (Nat.add_sub_of_le (by omega))) ?_
      try simp only [Matrix.cons_val]
      first | after_reads_at | pointwise
      exact leaf7 (fun s => (m ((c : Thread nD τ).loc main_arg2) : S2048x4896.Idx → EReal) (ix2 k s)) _ (by omega) (by omega) ⟨_, _⟩ (by dsimp only <;> omega)
    by_cases h15 : q.val < 3584
    · refine Eq.trans (concatenate_apply_piece 1 _ _ (ix2 k (⟨q.val, by omega⟩ : Fin 5312)) 7 (by exact (show 7 < 16 by decide)) S2048x512 _ rfl rfl 3072 (by simp) (ix2 k (⟨q.val - 3072, by omega⟩ : Fin 512))
        (fun d hd => off_axis₂ hd) (Nat.add_sub_of_le (by omega))) ?_
      try simp only [Matrix.cons_val]
      first | after_reads_at | pointwise
      exact leaf8 (fun s => (m ((c : Thread nD τ).loc main_arg2) : S2048x4896.Idx → EReal) (ix2 k s)) _ (by omega) (by omega) ⟨_, _⟩ (by dsimp only <;> omega)
    by_cases h16 : q.val < 4096
    · refine Eq.trans (concatenate_apply_piece 1 _ _ (ix2 k (⟨q.val, by omega⟩ : Fin 5312)) 8 (by exact (show 8 < 16 by decide)) S2048x512 _ rfl rfl 3584 (by simp) (ix2 k (⟨q.val - 3584, by omega⟩ : Fin 512))
        (fun d hd => off_axis₂ hd) (Nat.add_sub_of_le (by omega))) ?_
      try simp only [Matrix.cons_val]
      first | after_reads_at | pointwise
      exact leaf8 (fun s => (m ((c : Thread nD τ).loc main_arg2) : S2048x4896.Idx → EReal) (ix2 k s)) _ (by omega) (by omega) ⟨_, _⟩ (by dsimp only <;> omega)
    by_cases h17 : q.val < 4608
    · refine Eq.trans (concatenate_apply_piece 1 _ _ (ix2 k (⟨q.val, by omega⟩ : Fin 5312)) 9 (by exact (show 9 < 16 by decide)) S2048x512 _ rfl rfl 4096 (by simp) (ix2 k (⟨q.val - 4096, by omega⟩ : Fin 512))
        (fun d hd => off_axis₂ hd) (Nat.add_sub_of_le (by omega))) ?_
      try simp only [Matrix.cons_val]
      first | after_reads_at | pointwise
      exact leaf9 (fun s => (m ((c : Thread nD τ).loc main_arg2) : S2048x4896.Idx → EReal) (ix2 k s)) _ (by omega) (by omega) ⟨_, _⟩ (by dsimp only <;> omega)
    by_cases h18 : q.val < 4992
    · refine Eq.trans (concatenate_apply_piece 1 _ _ (ix2 k (⟨q.val, by omega⟩ : Fin 5312)) 10 (by exact (show 10 < 16 by decide)) S2048x384 _ rfl rfl 4608 (by simp) (ix2 k (⟨q.val - 4608, by omega⟩ : Fin 384))
        (fun d hd => off_axis₂ hd) (Nat.add_sub_of_le (by omega))) ?_
      try simp only [Matrix.cons_val]
      first | after_reads_at | pointwise
      exact leaf10 (fun s => (m ((c : Thread nD τ).loc main_arg2) : S2048x4896.Idx → EReal) (ix2 k s)) _ (by omega) (by omega) ⟨_, _⟩ (by dsimp only <;> omega)
    by_cases h19 : q.val < 5120
    · refine Eq.trans (concatenate_apply_piece 1 _ _ (ix2 k (⟨q.val, by omega⟩ : Fin 5312)) 11 (by exact (show 11 < 16 by decide)) S2048x128 _ rfl rfl 4992 (by simp) (ix2 k (⟨q.val - 4992, by omega⟩ : Fin 128))
        (fun d hd => off_axis₂ hd) (Nat.add_sub_of_le (by omega))) ?_
      try simp only [Matrix.cons_val]
      first | after_reads_at | pointwise
      exact leaf10 (fun s => (m ((c : Thread nD τ).loc main_arg2) : S2048x4896.Idx → EReal) (ix2 k s)) _ (by omega) (by omega) ⟨_, _⟩ (by dsimp only <;> omega)
    by_cases h20 : q.val < 5184
    · refine Eq.trans (concatenate_apply_piece 1 _ _ (ix2 k (⟨q.val, by omega⟩ : Fin 5312)) 12 (by exact (show 12 < 16 by decide)) S2048x64 _ rfl rfl 5120 (by simp) (ix2 k (⟨q.val - 5120, by omega⟩ : Fin 64))
        (fun d hd => off_axis₂ hd) (Nat.add_sub_of_le (by omega))) ?_
      try simp only [Matrix.cons_val]
      first | after_reads_at | pointwise
      exact leaf11 _ _ (by omega) (by omega)
    by_cases h21 : q.val < 5216
    · refine Eq.trans (concatenate_apply_piece 1 _ _ (ix2 k (⟨q.val, by omega⟩ : Fin 5312)) 13 (by exact (show 13 < 16 by decide)) S2048x32 _ rfl rfl 5184 (by simp) (ix2 k (⟨q.val - 5184, by omega⟩ : Fin 32))
        (fun d hd => off_axis₂ hd) (Nat.add_sub_of_le (by omega))) ?_
      try simp only [Matrix.cons_val]
      first | after_reads_at | pointwise
      exact leaf12 (fun s => (m ((c : Thread nD τ).loc main_arg2) : S2048x4896.Idx → EReal) (ix2 k s)) _ (by omega) (by omega) ⟨_, _⟩ (by dsimp only <;> omega)
    by_cases h22 : q.val < 5248
    · refine Eq.trans (concatenate_apply_piece 1 _ _ (ix2 k (⟨q.val, by omega⟩ : Fin 5312)) 14 (by exact (show 14 < 16 by decide)) S2048x32 _ rfl rfl 5216 (by simp) (ix2 k (⟨q.val - 5216, by omega⟩ : Fin 32))
        (fun d hd => off_axis₂ hd) (Nat.add_sub_of_le (by omega))) ?_
      try simp only [Matrix.cons_val]
      first | after_reads_at | pointwise
      exact leaf13 _ _ (by omega) (by omega)
    refine Eq.trans (concatenate_apply_piece 1 _ _ (ix2 k (⟨q.val, by omega⟩ : Fin 5312)) 15 (by exact (show 15 < 16 by decide)) S2048x64 _ rfl rfl 5248 (by simp) (ix2 k (⟨q.val - 5248, by omega⟩ : Fin 64))
      (fun d hd => off_axis₂ hd) (Nat.add_sub_of_le (by omega))) ?_
    try simp only [Matrix.cons_val]
    first | after_reads_at | pointwise
    exact leaf13 _ _ (by omega) (by omega)
  refine Eq.trans (concatenate_apply_piece 1 _ _ (ix2 k q) 1 (by exact (show 1 < 2 by decide)) S2048x64 _ rfl rfl 5312 (by simp) (ix2 k (⟨q.val - 5312, by omega⟩ : Fin 64))
    (fun d hd => off_axis₂ hd) (Nat.add_sub_of_le (by omega))) ?_
  try simp only [Matrix.cons_val]
  after_reads_simp
  clean_types
  by_cases h23 : q.val - 5312 < 32
  · refine Eq.trans (concatenate_apply_piece 1 _ _ (ix2 k (⟨q.val - 5312, by omega⟩ : Fin 64)) 0 (by exact (show 0 < 2 by decide)) S2048x32 _ rfl rfl 0 (by simp) (ix2 k (⟨q.val - 5312, by omega⟩ : Fin 32))
      (fun d hd => off_axis₂ hd) (Nat.zero_add _)) ?_
    try simp only [Matrix.cons_val]
    after_reads_simp
    clean_types
    by_cases h24 : q.val - 5312 < 16
    · refine Eq.trans (concatenate_apply_piece 1 _ _ (ix2 k (⟨q.val - 5312, by omega⟩ : Fin 32)) 0 (by exact (show 0 < 2 by decide)) S2048x16 _ rfl rfl 0 (by simp) (ix2 k (⟨q.val - 5312, by omega⟩ : Fin 16))
        (fun d hd => off_axis₂ hd) (Nat.zero_add _)) ?_
      try simp only [Matrix.cons_val]
      first | after_reads_at | pointwise
      exact leaf14 (fun s => (m ((c : Thread nD τ).loc main_arg2) : S2048x4896.Idx → EReal) (ix2 k s)) _ (by omega) (by omega) ⟨_, _⟩ (by dsimp only <;> omega)
    refine Eq.trans (concatenate_apply_piece 1 _ _ (ix2 k (⟨q.val - 5312, by omega⟩ : Fin 32)) 1 (by exact (show 1 < 2 by decide)) S2048x16 _ rfl rfl 16 (by simp) (ix2 k (⟨q.val - 5312 - 16, by omega⟩ : Fin 16))
      (fun d hd => off_axis₂ hd) (Nat.add_sub_of_le (by omega))) ?_
    try simp only [Matrix.cons_val]
    first | after_reads_at | pointwise
    exact leaf15 (fun s => (m ((c : Thread nD τ).loc main_arg2) : S2048x4896.Idx → EReal) (ix2 k s)) _ (by omega) (by omega) ⟨_, _⟩ (by dsimp only <;> omega)
  refine Eq.trans (concatenate_apply_piece 1 _ _ (ix2 k (⟨q.val - 5312, by omega⟩ : Fin 64)) 1 (by exact (show 1 < 2 by decide)) S2048x32 _ rfl rfl 32 (by simp) (ix2 k (⟨q.val - 5312 - 32, by omega⟩ : Fin 32))
    (fun d hd => off_axis₂ hd) (Nat.add_sub_of_le (by omega))) ?_
  try simp only [Matrix.cons_val]
  first | after_reads_at | pointwise
  exact leaf16 _ _ (by omega) (by omega)

/-- One entry of a block: a row times a column of the weights. -/
theorem step (x : FVec Ideal S1024x2048 .bf16) (w : FVec Ideal S2048x1792 .bf16) (j : S1024x1792.Idx) :
    k0_pay1 (F := Ideal) x w j = ∑ k : Fin 2048, x (ix2 (j 0) k) * w (ix2 k (j 1)) := by
  pointwise [k0_pay1]

theorem idx : ∀ t : Fin cfg0.N, win0_0.index t = ![t.val / 3, 0] ∧ win0_1.index t = ![0, t.val % 3]
    ∧ win0_2.index t = ![t.val / 3, t.val % 3] :=
  (by decide +kernel : ∀ t : Fin grid0.N, _)

/-- What the kernel's array ends holding. -/
def resF (c : Dev nD) (x : S17408x5376.Idx) : EReal :=
  ∑ k : Fin 2048, row (m ((c : Thread nD τ).loc main_arg0)) (m ((c : Thread nD τ).loc main_arg1)) (x 0) k
    * pick (fun s => (m ((c : Thread nD τ).loc main_arg2) : S2048x4896.Idx → EReal) (ix2 k s)) (place (x 1).val)

/-- The block a grid point writes back. -/
theorem out_at (c : Dev nD) (t : Fin cfg0.N) (j : S1024x1792.Idx) (x : S17408x5376.Idx)
    (h0 : (x 0).val = t.val / 3 * 1024 + (j 0).val) (h1 : (x 1).val = t.val % 3 * 1792 + (j 1).val) :
    out0_2 (iblk m c 0 t) (iblk m c 1 t) j = resF m c x := by
  obtain ⟨i0, i1, -⟩ := idx t
  have e0 : ∀ k : Fin 2048, (iblk m c 0 t : S1024x2048.Idx → EReal) (ix2 (j 0) k)
      = row (m ((c : Thread nD τ).loc main_arg0)) (m ((c : Thread nD τ).loc main_arg1)) (x 0) k := fun k => by
    refine Eq.trans ?_ (rows m c (x 0) k)
    blk_ext [iblk, i0]
  have e1 : ∀ k : Fin 2048, (iblk m c 1 t : S2048x1792.Idx → EReal) (ix2 k (j 1))
      = pick (fun s => (m ((c : Thread nD τ).loc main_arg2) : S2048x4896.Idx → EReal) (ix2 k s)) (place (x 1).val) := fun k => by
    refine Eq.trans ?_ (weights m c k (x 1))
    blk_ext [iblk, i1]
  unfold out0_2
  frame_out
  rw [step]
  unfold resF
  refine Finset.sum_congr rfl fun k _ => ?_
  rw [e0, e1]

theorem arr2 (c : Dev nD) : (dats m 0 c).arrAt 2 (cfgs 0).N = resF m c := by
  refine (dats m 0 c).arrAt_eq_of_covers 2 _ (by decide +kernel) fun t hf y => ?_
  blk_simp
  rw [after0_2]
  refine out_at m c t _ _ ?_ ?_
  · blk_simp [(idx t).2.2]
  · blk_simp [(idx t).2.2]

end Cert.ProjIn
-- ==== Proof.InRef.lean ====
module

public import Idealize.ShloMosaic.Lib.Pipeline.ValueKit
public import proofs.«01_k».proof.Proof.Gen.Reference4Ideal.Read
public import proofs.«01_k».proof.Proof.InCols

@[expose] public section

set_option maxRecDepth 16384

noncomputable section

namespace Cert.ProjIn

open Cert.Reference4Ideal Cert.Reference4Ideal.Gen Cert.Reference4Ideal.Read Idealize.ShloMosaic Idealize.ShloMosaic.TcCoe Idealize.SL.Sem

variable (x0 : FVec Ideal S4x4096x2048 .f32) (x1 : FVec Ideal S4x256x2048 .f32) (x2 : FVec Ideal S2048x4896 .f32)

set_option maxHeartbeats 8000000

/-- Off the last of three axes a shortened index agrees with the index. -/
theorem off_axis {n0 n1 n2 n3 : ℕ} {b : Fin n0} {n : Fin n1} {q : Fin n2} {e : Fin n3} {d : Fin 3} (hd : d ≠ 2) :
    ((ix3 b n e) d).val = ((ix3 b n q) d).val := by
  match d, hd with
  | ⟨0, _⟩, _ => rfl
  | ⟨1, _⟩, _ => rfl
  | ⟨2, _⟩, h => exact absurd rfl h

theorem lat1 (b : Fin 4) (n : Fin 4096) (e : Fin 512) : val_main_v1 (F := Ideal) x0 x2 (ix3 b n e) = val_main_v0 (F := Ideal) x0 x2 (ix3 b n ⟨0 + e.val, by omega⟩) := by
  rw [val_main_v1_apply]
  exact congrArg _ (by blk_ext)

theorem lat4 (b : Fin 4) (n : Fin 4096) (e : Fin 384) : val_main_v4 (F := Ideal) x0 x2 (ix3 b n e) = val_main_v0 (F := Ideal) x0 x2 (ix3 b n ⟨768 + e.val, by omega⟩) := by
  rw [val_main_v4_apply]
  exact congrArg _ (by blk_ext)

theorem lat5 (b : Fin 4) (n : Fin 4096) (e : Fin 128) : val_main_v5 (F := Ideal) x0 x2 (ix3 b n e) = val_main_v0 (F := Ideal) x0 x2 (ix3 b n ⟨1152 + e.val, by omega⟩) := by
  rw [val_main_v5_apply]
  exact congrArg _ (by blk_ext)

theorem lat7 (b : Fin 4) (n : Fin 4096) (e : Fin 512) : val_main_v7 (F := Ideal) x0 x2 (ix3 b n e) = val_main_v0 (F := Ideal) x0 x2 (ix3 b n ⟨1312 + e.val, by omega⟩) := by
  rw [val_main_v7_apply]
  exact congrArg _ (by blk_ext)

theorem lat8 (b : Fin 4) (n : Fin 4096) (e : Fin 512) : val_main_v8 (F := Ideal) x0 x2 (ix3 b n e) = val_main_v0 (F := Ideal) x0 x2 (ix3 b n ⟨1824 + e.val, by omega⟩) := by
  rw [val_main_v8_apply]
  exact congrArg _ (by blk_ext)

theorem lat9 (b : Fin 4) (n : Fin 4096) (e : Fin 512) : val_main_v9 (F := Ideal) x0 x2 (ix3 b n e) = val_main_v0 (F := Ideal) x0 x2 (ix3 b n ⟨2336 + e.val, by omega⟩) := by
  rw [val_main_v9_apply]
  exact congrArg _ (by blk_ext)

theorem lat10 (b : Fin 4) (n : Fin 4096) (e : Fin 512) : val_main_v10 (F := Ideal) x0 x2 (ix3 b n e) = val_main_v0 (F := Ideal) x0 x2 (ix3 b n ⟨2848 + e.val, by omega⟩) := by
  rw [val_main_v10_apply]
  exact congrArg _ (by blk_ext)

theorem lat11 (b : Fin 4) (n : Fin 4096) (e : Fin 512) : val_main_v11 (F := Ideal) x0 x2 (ix3 b n e) = val_main_v0 (F := Ideal) x0 x2 (ix3 b n ⟨3360 + e.val, by omega⟩) := by
  rw [val_main_v11_apply]
  exact congrArg _ (by blk_ext)

theorem lat12 (b : Fin 4) (n : Fin 4096) (e : Fin 512) : val_main_v12 (F := Ideal) x0 x2 (ix3 b n e) = val_main_v0 (F := Ideal) x0 x2 (ix3 b n ⟨3872 + e.val, by omega⟩) := by
  rw [val_main_v12_apply]
  exact congrArg _ (by blk_ext)

theorem lat13 (b : Fin 4) (n : Fin 4096) (e : Fin 512) : val_main_v13 (F := Ideal) x0 x2 (ix3 b n e) = val_main_v0 (F := Ideal) x0 x2 (ix3 b n ⟨4384 + e.val, by omega⟩) := by
  rw [val_main_v13_apply]
  exact congrArg _ (by blk_ext)

theorem lat14 (b : Fin 4) (n : Fin 4096) (e : Fin 64) : val_main_v14 (F := Ideal) x0 x2 (ix3 b n e) = val_main_v0 (F := Ideal) x0 x2 (ix3 b n ⟨512 + e.val, by omega⟩) := by
  rw [val_main_v14_apply, val_main_v2_apply]
  exact congrArg _ (by blk_ext)

theorem lat15 (b : Fin 4) (n : Fin 4096) (e : Fin 64) : val_main_v15 (F := Ideal) x0 x2 (ix3 b n e) = val_main_v0 (F := Ideal) x0 x2 (ix3 b n ⟨576 + e.val, by omega⟩) := by
  rw [val_main_v15_apply, val_main_v2_apply]
  exact congrArg _ (by blk_ext)

theorem lat16 (b : Fin 4) (n : Fin 4096) (e : Fin 64) : val_main_v16 (F := Ideal) x0 x2 (ix3 b n e) = val_main_v0 (F := Ideal) x0 x2 (ix3 b n ⟨640 + e.val, by omega⟩) := by
  rw [val_main_v16_apply, val_main_v3_apply]
  exact congrArg _ (by blk_ext)

theorem lat17 (b : Fin 4) (n : Fin 4096) (e : Fin 64) : val_main_v17 (F := Ideal) x0 x2 (ix3 b n e) = val_main_v0 (F := Ideal) x0 x2 (ix3 b n ⟨704 + e.val, by omega⟩) := by
  rw [val_main_v17_apply, val_main_v3_apply]
  exact congrArg _ (by blk_ext)

theorem lat18 (b : Fin 4) (n : Fin 4096) (e : Fin 16) : val_main_v18 (F := Ideal) x0 x2 (ix3 b n e) = val_main_v0 (F := Ideal) x0 x2 (ix3 b n ⟨1280 + e.val, by omega⟩) := by
  rw [val_main_v18_apply, val_main_v6_apply]
  exact congrArg _ (by blk_ext)

theorem lat19 (b : Fin 4) (n : Fin 4096) (e : Fin 16) : val_main_v19 (F := Ideal) x0 x2 (ix3 b n e) = val_main_v0 (F := Ideal) x0 x2 (ix3 b n ⟨1296 + e.val, by omega⟩) := by
  rw [val_main_v19_apply, val_main_v6_apply]
  exact congrArg _ (by blk_ext)

theorem lat20 (b : Fin 4) (n : Fin 4096) (e : Fin 64) : val_main_v20 (F := Ideal) (ix3 b n e) = 0 := by
  pointwise [val_main_v20, val_main_cst]

theorem lat21 (b : Fin 4) (n : Fin 4096) (e : Fin 32) : val_main_v21 (F := Ideal) (ix3 b n e) = 0 := by
  pointwise [val_main_v21, val_main_cst_0]

theorem lat22 (b : Fin 4) (n : Fin 4096) (q : Fin 4608) : val_main_v22 (F := Ideal) x0 x2 (ix3 b n q)
    = pick (fun s => val_main_v0 (F := Ideal) x0 x2 (ix3 b n s)) (place (q.val)) := by
  have p1 := lat1 x0 x2 b n
  have p7 := lat7 x0 x2 b n
  have p8 := lat8 x0 x2 b n
  have p9 := lat9 x0 x2 b n
  have p10 := lat10 x0 x2 b n
  have p11 := lat11 x0 x2 b n
  have p12 := lat12 x0 x2 b n
  have p13 := lat13 x0 x2 b n
  have p14 := lat14 x0 x2 b n
  have p15 := lat15 x0 x2 b n
  have p16 := lat16 x0 x2 b n
  have p17 := lat17 x0 x2 b n
  unfold val_main_v22
  generalize val_main_v1 (F := Ideal) x0 x2 = y1 at p1 ⊢
  generalize val_main_v7 (F := Ideal) x0 x2 = y7 at p7 ⊢
  generalize val_main_v8 (F := Ideal) x0 x2 = y8 at p8 ⊢
  generalize val_main_v9 (F := Ideal) x0 x2 = y9 at p9 ⊢
  generalize val_main_v10 (F := Ideal) x0 x2 = y10 at p10 ⊢
  generalize val_main_v11 (F := Ideal) x0 x2 = y11 at p11 ⊢
  generalize val_main_v12 (F := Ideal) x0 x2 = y12 at p12 ⊢
  generalize val_main_v13 (F := Ideal) x0 x2 = y13 at p13 ⊢
  generalize val_main_v14 (F := Ideal) x0 x2 = y14 at p14 ⊢
  generalize val_main_v15 (F := Ideal) x0 x2 = y15 at p15 ⊢
  generalize val_main_v16 (F := Ideal) x0 x2 = y16 at p16 ⊢
  generalize val_main_v17 (F := Ideal) x0 x2 = y17 at p17 ⊢
  generalize val_main_v0 (F := Ideal) x0 x2 = y at *
  by_cases h0 : q.val < 512
  · refine Eq.trans (concatenate_apply_piece 2 _ _ (ix3 b n q) 0 (by exact (show 0 < 16 by decide)) S4x4096x512 y1 rfl rfl 0 (by simp) (ix3 b n (⟨q.val - 0, by omega⟩ : Fin 512))
      (fun d hd => off_axis hd) (Nat.add_sub_of_le (by omega))) ((p1 _).trans ?_)
    exact leaf0 (fun s => y (ix3 b n s)) _ (by omega) (by omega) ⟨_, _⟩ (by first | omega | (dsimp only; omega))
  by_cases h1 : q.val < 1024
  · refine Eq.trans (concatenate_apply_piece 2 _ _ (ix3 b n q) 1 (by exact (show 1 < 16 by decide)) S4x4096x512 y7 rfl rfl 512 (by simp) (ix3 b n (⟨q.val - 512, by omega⟩ : Fin 512))
      (fun d hd => off_axis hd) (Nat.add_sub_of_le (by omega))) ((p7 _).trans ?_)
    exact leaf1 (fun s => y (ix3 b n s)) _ (by omega) (by omega) ⟨_, _⟩ (by first | omega | (dsimp only; omega))
  by_cases h2 : q.val < 1536
  · refine Eq.trans (concatenate_apply_piece 2 _ _ (ix3 b n q) 2 (by exact (show 2 < 16 by decide)) S4x4096x512 y8 rfl rfl 1024 (by simp) (ix3 b n (⟨q.val - 1024, by omega⟩ : Fin 512))
      (fun d hd => off_axis hd) (Nat.add_sub_of_le (by omega))) ((p8 _).trans ?_)
    exact leaf1 (fun s => y (ix3 b n s)) _ (by omega) (by omega) ⟨_, _⟩ (by first | omega | (dsimp only; omega))
  by_cases h3 : q.val < 2048
  · refine Eq.trans (concatenate_apply_piece 2 _ _ (ix3 b n q) 3 (by exact (show 3 < 16 by decide)) S4x4096x512 y11 rfl rfl 1536 (by simp) (ix3 b n (⟨q.val - 1536, by omega⟩ : Fin 512))
      (fun d hd => off_axis hd) (Nat.add_sub_of_le (by omega))) ((p11 _).trans ?_)
    exact leaf2 (fun s => y (ix3 b n s)) _ (by omega) (by omega) ⟨_, _⟩ (by first | omega | (dsimp only; omega))
  by_cases h4 : q.val < 2560
  · refine Eq.trans (concatenate_apply_piece 2 _ _ (ix3 b n q) 4 (by exact (show 4 < 16 by decide)) S4x4096x512 y12 rfl rfl 2048 (by simp) (ix3 b n (⟨q.val - 2048, by omega⟩ : Fin 512))
      (fun d hd => off_axis hd) (Nat.add_sub_of_le (by omega))) ((p12 _).trans ?_)
    exact leaf2 (fun s => y (ix3 b n s)) _ (by omega) (by omega) ⟨_, _⟩ (by first | omega | (dsimp only; omega))
  by_cases h5 : q.val < 2624
  · refine Eq.trans (concatenate_apply_piece 2 _ _ (ix3 b n q) 5 (by exact (show 5 < 16 by decide)) S4x4096x64 y14 rfl rfl 2560 (by simp) (ix3 b n (⟨q.val - 2560, by omega⟩ : Fin 64))
      (fun d hd => off_axis hd) (Nat.add_sub_of_le (by omega))) ((p14 _).trans ?_)
    exact leaf3 (fun s => y (ix3 b n s)) _ (by omega) (by omega) ⟨_, _⟩ (by first | omega | (dsimp only; omega))
  by_cases h6 : q.val < 2688
  · refine Eq.trans (concatenate_apply_piece 2 _ _ (ix3 b n q) 6 (by exact (show 6 < 16 by decide)) S4x4096x64 y14 rfl rfl 2624 (by simp) (ix3 b n (⟨q.val - 2624, by omega⟩ : Fin 64))
      (fun d hd => off_axis hd) (Nat.add_sub_of_le (by omega))) ((p14 _).trans ?_)
    exact leaf4 (fun s => y (ix3 b n s)) _ (by omega) (by omega) ⟨_, _⟩ (by first | omega | (dsimp only; omega))
  by_cases h7 : q.val < 2752
  · refine Eq.trans (concatenate_apply_piece 2 _ _ (ix3 b n q) 7 (by exact (show 7 < 16 by decide)) S4x4096x64 y15 rfl rfl 2688 (by simp) (ix3 b n (⟨q.val - 2688, by omega⟩ : Fin 64))
      (fun d hd => off_axis hd) (Nat.add_sub_of_le (by omega))) ((p15 _).trans ?_)
    exact leaf4 (fun s => y (ix3 b n s)) _ (by omega) (by omega) ⟨_, _⟩ (by first | omega | (dsimp only; omega))
  by_cases h8 : q.val < 2816
  · refine Eq.trans (concatenate_apply_piece 2 _ _ (ix3 b n q) 8 (by exact (show 8 < 16 by decide)) S4x4096x64 y15 rfl rfl 2752 (by simp) (ix3 b n (⟨q.val - 2752, by omega⟩ : Fin 64))
      (fun d hd => off_axis hd) (Nat.add_sub_of_le (by omega))) ((p15 _).trans ?_)
    exact leaf5 (fun s => y (ix3 b n s)) _ (by omega) (by omega) ⟨_, _⟩ (by first | omega | (dsimp only; omega))
  by_cases h9 : q.val < 2880
  · refine Eq.trans (concatenate_apply_piece 2 _ _ (ix3 b n q) 9 (by exact (show 9 < 16 by decide)) S4x4096x64 y16 rfl rfl 2816 (by simp) (ix3 b n (⟨q.val - 2816, by omega⟩ : Fin 64))
      (fun d hd => off_axis hd) (Nat.add_sub_of_le (by omega))) ((p16 _).trans ?_)
    exact leaf5 (fun s => y (ix3 b n s)) _ (by omega) (by omega) ⟨_, _⟩ (by first | omega | (dsimp only; omega))
  by_cases h10 : q.val < 2944
  · refine Eq.trans (concatenate_apply_piece 2 _ _ (ix3 b n q) 10 (by exact (show 10 < 16 by decide)) S4x4096x64 y16 rfl rfl 2880 (by simp) (ix3 b n (⟨q.val - 2880, by omega⟩ : Fin 64))
      (fun d hd => off_axis hd) (Nat.add_sub_of_le (by omega))) ((p16 _).trans ?_)
    exact leaf6 (fun s => y (ix3 b n s)) _ (by omega) (by omega) ⟨_, _⟩ (by first | omega | (dsimp only; omega))
  by_cases h11 : q.val < 3008
  · refine Eq.trans (concatenate_apply_piece 2 _ _ (ix3 b n q) 11 (by exact (show 11 < 16 by decide)) S4x4096x64 y17 rfl rfl 2944 (by simp) (ix3 b n (⟨q.val - 2944, by omega⟩ : Fin 64))
      (fun d hd => off_axis hd) (Nat.add_sub_of_le (by omega))) ((p17 _).trans ?_)
    exact leaf6 (fun s => y (ix3 b n s)) _ (by omega) (by omega) ⟨_, _⟩ (by first | omega | (dsimp only; omega))
  by_cases h12 : q.val < 3072
  · refine Eq.trans (concatenate_apply_piece 2 _ _ (ix3 b n q) 12 (by exact (show 12 < 16 by decide)) S4x4096x64 y17 rfl rfl 3008 (by simp) (ix3 b n (⟨q.val - 3008, by omega⟩ : Fin 64))
      (fun d hd => off_axis hd) (Nat.add_sub_of_le (by omega))) ((p17 _).trans ?_)
    exact leaf7 (fun s => y (ix3 b n s)) _ (by omega) (by omega) ⟨_, _⟩ (by first | omega | (dsimp only; omega))
  by_cases h13 : q.val < 3584
  · refine Eq.trans (concatenate_apply_piece 2 _ _ (ix3 b n q) 13 (by exact (show 13 < 16 by decide)) S4x4096x512 y9 rfl rfl 3072 (by simp) (ix3 b n (⟨q.val - 3072, by omega⟩ : Fin 512))
      (fun d hd => off_axis hd) (Nat.add_sub_of_le (by omega))) ((p9 _).trans ?_)
    exact leaf8 (fun s => y (ix3 b n s)) _ (by omega) (by omega) ⟨_, _⟩ (by first | omega | (dsimp only; omega))
  by_cases h14 : q.val < 4096
  · refine Eq.trans (concatenate_apply_piece 2 _ _ (ix3 b n q) 14 (by exact (show 14 < 16 by decide)) S4x4096x512 y10 rfl rfl 3584 (by simp) (ix3 b n (⟨q.val - 3584, by omega⟩ : Fin 512))
      (fun d hd => off_axis hd) (Nat.add_sub_of_le (by omega))) ((p10 _).trans ?_)
    exact leaf8 (fun s => y (ix3 b n s)) _ (by omega) (by omega) ⟨_, _⟩ (by first | omega | (dsimp only; omega))
  refine Eq.trans (concatenate_apply_piece 2 _ _ (ix3 b n q) 15 (by exact (show 15 < 16 by decide)) S4x4096x512 y13 rfl rfl 4096 (by simp) (ix3 b n (⟨q.val - 4096, by omega⟩ : Fin 512))
    (fun d hd => off_axis hd) (Nat.add_sub_of_le (by omega))) ((p13 _).trans ?_)
  exact leaf9 (fun s => y (ix3 b n s)) _ (by omega) (by omega) ⟨_, _⟩ (by first | omega | (dsimp only; omega))

theorem lat23 (b : Fin 4) (n : Fin 4096) (q : Fin 768) : val_main_v23 (F := Ideal) x0 x2 (ix3 b n q)
    = pick (fun s => val_main_v0 (F := Ideal) x0 x2 (ix3 b n s)) (place (4608 + q.val)) := by
  have p4 := lat4 x0 x2 b n
  have p5 := lat5 x0 x2 b n
  have p18 := lat18 x0 x2 b n
  have p19 := lat19 x0 x2 b n
  have p20 := lat20 b n
  have p21 := lat21 b n
  unfold val_main_v23
  generalize val_main_v4 (F := Ideal) x0 x2 = y4 at p4 ⊢
  generalize val_main_v5 (F := Ideal) x0 x2 = y5 at p5 ⊢
  generalize val_main_v18 (F := Ideal) x0 x2 = y18 at p18 ⊢
  generalize val_main_v19 (F := Ideal) x0 x2 = y19 at p19 ⊢
  generalize val_main_v20 (F := Ideal) = y20 at p20 ⊢
  generalize val_main_v21 (F := Ideal) = y21 at p21 ⊢
  generalize val_main_v0 (F := Ideal) x0 x2 = y at *
  by_cases h0 : q.val < 384
  · refine Eq.trans (concatenate_apply_piece 2 _ _ (ix3 b n q) 0 (by exact (show 0 < 10 by decide)) S4x4096x384 y4 rfl rfl 0 (by simp) (ix3 b n (⟨q.val - 0, by omega⟩ : Fin 384))
      (fun d hd => off_axis hd) (Nat.add_sub_of_le (by omega))) ((p4 _).trans ?_)
    exact leaf10 (fun s => y (ix3 b n s)) _ (by omega) (by omega) ⟨_, _⟩ (by first | omega | (dsimp only; omega))
  by_cases h1 : q.val < 512
  · refine Eq.trans (concatenate_apply_piece 2 _ _ (ix3 b n q) 1 (by exact (show 1 < 10 by decide)) S4x4096x128 y5 rfl rfl 384 (by simp) (ix3 b n (⟨q.val - 384, by omega⟩ : Fin 128))
      (fun d hd => off_axis hd) (Nat.add_sub_of_le (by omega))) ((p5 _).trans ?_)
    exact leaf10 (fun s => y (ix3 b n s)) _ (by omega) (by omega) ⟨_, _⟩ (by first | omega | (dsimp only; omega))
  by_cases h2 : q.val < 576
  · refine Eq.trans (concatenate_apply_piece 2 _ _ (ix3 b n q) 2 (by exact (show 2 < 10 by decide)) S4x4096x64 y20 rfl rfl 512 (by simp) (ix3 b n (⟨q.val - 512, by omega⟩ : Fin 64))
      (fun d hd => off_axis hd) (Nat.add_sub_of_le (by omega))) ((p20 _).trans ?_)
    exact leaf11 _ _ (by omega) (by omega)
  by_cases h3 : q.val < 592
  · refine Eq.trans (concatenate_apply_piece 2 _ _ (ix3 b n q) 3 (by exact (show 3 < 10 by decide)) S4x4096x16 y18 rfl rfl 576 (by simp) (ix3 b n (⟨q.val - 576, by omega⟩ : Fin 16))
      (fun d hd => off_axis hd) (Nat.add_sub_of_le (by omega))) ((p18 _).trans ?_)
    exact leaf12 (fun s => y (ix3 b n s)) _ (by omega) (by omega) ⟨_, _⟩ (by first | omega | (dsimp only; omega))
  by_cases h4 : q.val < 608
  · refine Eq.trans (concatenate_apply_piece 2 _ _ (ix3 b n q) 4 (by exact (show 4 < 10 by decide)) S4x4096x16 y19 rfl rfl 592 (by simp) (ix3 b n (⟨q.val - 592, by omega⟩ : Fin 16))
      (fun d hd => off_axis hd) (Nat.add_sub_of_le (by omega))) ((p19 _).trans ?_)
    exact leaf12 (fun s => y (ix3 b n s)) _ (by omega) (by omega) ⟨_, _⟩ (by first | omega | (dsimp only; omega))
  by_cases h5 : q.val < 640
  · refine Eq.trans (concatenate_apply_piece 2 _ _ (ix3 b n q) 5 (by exact (show 5 < 10 by decide)) S4x4096x32 y21 rfl rfl 608 (by simp) (ix3 b n (⟨q.val - 608, by omega⟩ : Fin 32))
      (fun d hd => off_axis hd) (Nat.add_sub_of_le (by omega))) ((p21 _).trans ?_)
    exact leaf13 _ _ (by omega) (by omega)
  by_cases h6 : q.val < 704
  · refine Eq.trans (concatenate_apply_piece 2 _ _ (ix3 b n q) 6 (by exact (show 6 < 10 by decide)) S4x4096x64 y20 rfl rfl 640 (by simp) (ix3 b n (⟨q.val - 640, by omega⟩ : Fin 64))
      (fun d hd => off_axis hd) (Nat.add_sub_of_le (by omega))) ((p20 _).trans ?_)
    exact leaf13 _ _ (by omega) (by omega)
  by_cases h7 : q.val < 720
  · refine Eq.trans (concatenate_apply_piece 2 _ _ (ix3 b n q) 7 (by exact (show 7 < 10 by decide)) S4x4096x16 y19 rfl rfl 704 (by simp) (ix3 b n (⟨q.val - 704, by omega⟩ : Fin 16))
      (fun d hd => off_axis hd) (Nat.add_sub_of_le (by omega))) ((p19 _).trans ?_)
    exact leaf14 (fun s => y (ix3 b n s)) _ (by omega) (by omega) ⟨_, _⟩ (by first | omega | (dsimp only; omega))
  by_cases h8 : q.val < 736
  · refine Eq.trans (concatenate_apply_piece 2 _ _ (ix3 b n q) 8 (by exact (show 8 < 10 by decide)) S4x4096x16 y18 rfl rfl 720 (by simp) (ix3 b n (⟨q.val - 720, by omega⟩ : Fin 16))
      (fun d hd => off_axis hd) (Nat.add_sub_of_le (by omega))) ((p18 _).trans ?_)
    exact leaf15 (fun s => y (ix3 b n s)) _ (by omega) (by omega) ⟨_, _⟩ (by first | omega | (dsimp only; omega))
  refine Eq.trans (concatenate_apply_piece 2 _ _ (ix3 b n q) 9 (by exact (show 9 < 10 by decide)) S4x4096x32 y21 rfl rfl 736 (by simp) (ix3 b n (⟨q.val - 736, by omega⟩ : Fin 32))
    (fun d hd => off_axis hd) (Nat.add_sub_of_le (by omega))) ((p21 _).trans ?_)
  exact leaf16 _ _ (by omega) (by omega)

/-- The stored columns of the projections of one token. -/
theorem cols_lat (b : Fin 4) (n : Fin 4096) (q : Fin 5376) : val_main_v24 (F := Ideal) x0 x2 (ix3 b n q)
    = pick (fun s => val_main_v0 (F := Ideal) x0 x2 (ix3 b n s)) (place q.val) := by
  have p22 := lat22 x0 x2 b n
  have p23 := lat23 x0 x2 b n
  unfold val_main_v24
  generalize val_main_v22 (F := Ideal) x0 x2 = y22 at p22 ⊢
  generalize val_main_v23 (F := Ideal) x0 x2 = y23 at p23 ⊢
  generalize val_main_v0 (F := Ideal) x0 x2 = y at *
  by_cases h : q.val < 4608
  · exact Eq.trans (concatenate_apply_piece 2 _ _ (ix3 b n q) 0 (by exact (show 0 < 2 by decide)) S4x4096x4608 y22 rfl rfl 0 (by simp) (ix3 b n (⟨q.val, h⟩ : Fin 4608))
      (fun d hd => off_axis hd) (Nat.zero_add _)) (p22 _)
  · refine Eq.trans (concatenate_apply_piece 2 _ _ (ix3 b n q) 1 (by exact (show 1 < 2 by decide)) S4x4096x768 y23 rfl rfl 4608 (by simp) (ix3 b n (⟨q.val - 4608, by omega⟩ : Fin 768))
      (fun d hd => off_axis hd) (Nat.add_sub_of_le (by omega))) ((p23 _).trans ?_)
    exact congrArg (fun z => pick _ (place z)) (Nat.add_sub_of_le (by omega))

end Cert.ProjIn
-- ==== Proof.InCtx.lean ====
module

public import proofs.«01_k».proof.Proof.InRef
public import Idealize.ShloMosaic.Lib.Pipeline.ValueKit
public import proofs.«01_k».proof.Proof.Gen.Reference4Ideal.Read
public import proofs.«01_k».proof.Proof.InCols

@[expose] public section

set_option maxRecDepth 16384

noncomputable section

namespace Cert.ProjIn

open Cert.Reference4Ideal Cert.Reference4Ideal.Gen Cert.Reference4Ideal.Read Idealize.ShloMosaic Idealize.ShloMosaic.TcCoe Idealize.SL.Sem

variable (x0 : FVec Ideal S4x4096x2048 .f32) (x1 : FVec Ideal S4x256x2048 .f32) (x2 : FVec Ideal S2048x4896 .f32)

set_option maxHeartbeats 8000000

theorem ctx1 (b : Fin 4) (n : Fin 256) (e : Fin 512) : val_main_v27 (F := Ideal) x1 x2 (ix3 b n e) = val_main_v26 (F := Ideal) x1 x2 (ix3 b n ⟨0 + e.val, by omega⟩) := by
  rw [val_main_v27_apply]
  exact congrArg _ (by blk_ext)

theorem ctx4 (b : Fin 4) (n : Fin 256) (e : Fin 384) : val_main_v30 (F := Ideal) x1 x2 (ix3 b n e) = val_main_v26 (F := Ideal) x1 x2 (ix3 b n ⟨768 + e.val, by omega⟩) := by
  rw [val_main_v30_apply]
  exact congrArg _ (by blk_ext)

theorem ctx5 (b : Fin 4) (n : Fin 256) (e : Fin 128) : val_main_v31 (F := Ideal) x1 x2 (ix3 b n e) = val_main_v26 (F := Ideal) x1 x2 (ix3 b n ⟨1152 + e.val, by omega⟩) := by
  rw [val_main_v31_apply]
  exact congrArg _ (by blk_ext)

theorem ctx7 (b : Fin 4) (n : Fin 256) (e : Fin 512) : val_main_v33 (F := Ideal) x1 x2 (ix3 b n e) = val_main_v26 (F := Ideal) x1 x2 (ix3 b n ⟨1312 + e.val, by omega⟩) := by
  rw [val_main_v33_apply]
  exact congrArg _ (by blk_ext)

theorem ctx8 (b : Fin 4) (n : Fin 256) (e : Fin 512) : val_main_v34 (F := Ideal) x1 x2 (ix3 b n e) = val_main_v26 (F := Ideal) x1 x2 (ix3 b n ⟨1824 + e.val, by omega⟩) := by
  rw [val_main_v34_apply]
  exact congrArg _ (by blk_ext)

theorem ctx9 (b : Fin 4) (n : Fin 256) (e : Fin 512) : val_main_v35 (F := Ideal) x1 x2 (ix3 b n e) = val_main_v26 (F := Ideal) x1 x2 (ix3 b n ⟨2336 + e.val, by omega⟩) := by
  rw [val_main_v35_apply]
  exact congrArg _ (by blk_ext)

theorem ctx10 (b : Fin 4) (n : Fin 256) (e : Fin 512) : val_main_v36 (F := Ideal) x1 x2 (ix3 b n e) = val_main_v26 (F := Ideal) x1 x2 (ix3 b n ⟨2848 + e.val, by omega⟩) := by
  rw [val_main_v36_apply]
  exact congrArg _ (by blk_ext)

theorem ctx11 (b : Fin 4) (n : Fin 256) (e : Fin 512) : val_main_v37 (F := Ideal) x1 x2 (ix3 b n e) = val_main_v26 (F := Ideal) x1 x2 (ix3 b n ⟨3360 + e.val, by omega⟩) := by
  rw [val_main_v37_apply]
  exact congrArg _ (by blk_ext)

theorem ctx12 (b : Fin 4) (n : Fin 256) (e : Fin 512) : val_main_v38 (F := Ideal) x1 x2 (ix3 b n e) = val_main_v26 (F := Ideal) x1 x2 (ix3 b n ⟨3872 + e.val, by omega⟩) := by
  rw [val_main_v38_apply]
  exact congrArg _ (by blk_ext)

theorem ctx13 (b : Fin 4) (n : Fin 256) (e : Fin 512) : val_main_v39 (F := Ideal) x1 x2 (ix3 b n e) = val_main_v26 (F := Ideal) x1 x2 (ix3 b n ⟨4384 + e.val, by omega⟩) := by
  rw [val_main_v39_apply]
  exact congrArg _ (by blk_ext)

theorem ctx14 (b : Fin 4) (n : Fin 256) (e : Fin 64) : val_main_v40 (F := Ideal) x1 x2 (ix3 b n e) = val_main_v26 (F := Ideal) x1 x2 (ix3 b n ⟨512 + e.val, by omega⟩) := by
  rw [val_main_v40_apply, val_main_v28_apply]
  exact congrArg _ (by blk_ext)

theorem ctx15 (b : Fin 4) (n : Fin 256) (e : Fin 64) : val_main_v41 (F := Ideal) x1 x2 (ix3 b n e) = val_main_v26 (F := Ideal) x1 x2 (ix3 b n ⟨576 + e.val, by omega⟩) := by
  rw [val_main_v41_apply, val_main_v28_apply]
  exact congrArg _ (by blk_ext)

theorem ctx16 (b : Fin 4) (n : Fin 256) (e : Fin 64) : val_main_v42 (F := Ideal) x1 x2 (ix3 b n e) = val_main_v26 (F := Ideal) x1 x2 (ix3 b n ⟨640 + e.val, by omega⟩) := by
  rw [val_main_v42_apply, val_main_v29_apply]
  exact congrArg _ (by blk_ext)

theorem ctx17 (b : Fin 4) (n : Fin 256) (e : Fin 64) : val_main_v43 (F := Ideal) x1 x2 (ix3 b n e) = val_main_v26 (F := Ideal) x1 x2 (ix3 b n ⟨704 + e.val, by omega⟩) := by
  rw [val_main_v43_apply, val_main_v29_apply]
  exact congrArg _ (by blk_ext)

theorem ctx18 (b : Fin 4) (n : Fin 256) (e : Fin 16) : val_main_v44 (F := Ideal) x1 x2 (ix3 b n e) = val_main_v26 (F := Ideal) x1 x2 (ix3 b n ⟨1280 + e.val, by omega⟩) := by
  rw [val_main_v44_apply, val_main_v32_apply]
  exact congrArg _ (by blk_ext)

theorem ctx19 (b : Fin 4) (n : Fin 256) (e : Fin 16) : val_main_v45 (F := Ideal) x1 x2 (ix3 b n e) = val_main_v26 (F := Ideal) x1 x2 (ix3 b n ⟨1296 + e.val, by omega⟩) := by
  rw [val_main_v45_apply, val_main_v32_apply]
  exact congrArg _ (by blk_ext)

theorem ctx20 (b : Fin 4) (n : Fin 256) (e : Fin 64) : val_main_v46 (F := Ideal) (ix3 b n e) = 0 := by
  pointwise [val_main_v46, val_main_cst_1]

theorem ctx21 (b : Fin 4) (n : Fin 256) (e : Fin 32) : val_main_v47 (F := Ideal) (ix3 b n e) = 0 := by
  pointwise [val_main_v47, val_main_cst_2]

theorem ctx22 (b : Fin 4) (n : Fin 256) (q : Fin 4608) : val_main_v48 (F := Ideal) x1 x2 (ix3 b n q)
    = pick (fun s => val_main_v26 (F := Ideal) x1 x2 (ix3 b n s)) (place (q.val)) := by
  have p1 := ctx1 x1 x2 b n
  have p7 := ctx7 x1 x2 b n
  have p8 := ctx8 x1 x2 b n
  have p9 := ctx9 x1 x2 b n
  have p10 := ctx10 x1 x2 b n
  have p11 := ctx11 x1 x2 b n
  have p12 := ctx12 x1 x2 b n
  have p13 := ctx13 x1 x2 b n
  have p14 := ctx14 x1 x2 b n
  have p15 := ctx15 x1 x2 b n
  have p16 := ctx16 x1 x2 b n
  have p17 := ctx17 x1 x2 b n
  unfold val_main_v48
  generalize val_main_v27 (F := Ideal) x1 x2 = y1 at p1 ⊢
  generalize val_main_v33 (F := Ideal) x1 x2 = y7 at p7 ⊢
  generalize val_main_v34 (F := Ideal) x1 x2 = y8 at p8 ⊢
  generalize val_main_v35 (F := Ideal) x1 x2 = y9 at p9 ⊢
  generalize val_main_v36 (F := Ideal) x1 x2 = y10 at p10 ⊢
  generalize val_main_v37 (F := Ideal) x1 x2 = y11 at p11 ⊢
  generalize val_main_v38 (F := Ideal) x1 x2 = y12 at p12 ⊢
  generalize val_main_v39 (F := Ideal) x1 x2 = y13 at p13 ⊢
  generalize val_main_v40 (F := Ideal) x1 x2 = y14 at p14 ⊢
  generalize val_main_v41 (F := Ideal) x1 x2 = y15 at p15 ⊢
  generalize val_main_v42 (F := Ideal) x1 x2 = y16 at p16 ⊢
  generalize val_main_v43 (F := Ideal) x1 x2 = y17 at p17 ⊢
  generalize val_main_v26 (F := Ideal) x1 x2 = y at *
  by_cases h0 : q.val < 512
  · refine Eq.trans (concatenate_apply_piece 2 _ _ (ix3 b n q) 0 (by exact (show 0 < 16 by decide)) S4x256x512 y1 rfl rfl 0 (by simp) (ix3 b n (⟨q.val - 0, by omega⟩ : Fin 512))
      (fun d hd => off_axis hd) (Nat.add_sub_of_le (by omega))) ((p1 _).trans ?_)
    exact leaf0 (fun s => y (ix3 b n s)) _ (by omega) (by omega) ⟨_, _⟩ (by first | omega | (dsimp only; omega))
  by_cases h1 : q.val < 1024
  · refine Eq.trans (concatenate_apply_piece 2 _ _ (ix3 b n q) 1 (by exact (show 1 < 16 by decide)) S4x256x512 y7 rfl rfl 512 (by simp) (ix3 b n (⟨q.val - 512, by omega⟩ : Fin 512))
      (fun d hd => off_axis hd) (Nat.add_sub_of_le (by omega))) ((p7 _).trans ?_)
    exact leaf1 (fun s => y (ix3 b n s)) _ (by omega) (by omega) ⟨_, _⟩ (by first | omega | (dsimp only; omega))
  by_cases h2 : q.val < 1536
  · refine Eq.trans (concatenate_apply_piece 2 _ _ (ix3 b n q) 2 (by exact (show 2 < 16 by decide)) S4x256x512 y8 rfl rfl 1024 (by simp) (ix3 b n (⟨q.val - 1024, by omega⟩ : Fin 512))
      (fun d hd => off_axis hd) (Nat.add_sub_of_le (by omega))) ((p8 _).trans ?_)
    exact leaf1 (fun s => y (ix3 b n s)) _ (by omega) (by omega) ⟨_, _⟩ (by first | omega | (dsimp only; omega))
  by_cases h3 : q.val < 2048
  · refine Eq.trans (concatenate_apply_piece 2 _ _ (ix3 b n q) 3 (by exact (show 3 < 16 by decide)) S4x256x512 y11 rfl rfl 1536 (by simp) (ix3 b n (⟨q.val - 1536, by omega⟩ : Fin 512))
      (fun d hd => off_axis hd) (Nat.add_sub_of_le (by omega))) ((p11 _).trans ?_)
    exact leaf2 (fun s => y (ix3 b n s)) _ (by omega) (by omega) ⟨_, _⟩ (by first | omega | (dsimp only; omega))
  by_cases h4 : q.val < 2560
  · refine Eq.trans (concatenate_apply_piece 2 _ _ (ix3 b n q) 4 (by exact (show 4 < 16 by decide)) S4x256x512 y12 rfl rfl 2048 (by simp) (ix3 b n (⟨q.val - 2048, by omega⟩ : Fin 512))
      (fun d hd => off_axis hd) (Nat.add_sub_of_le (by omega))) ((p12 _).trans ?_)
    exact leaf2 (fun s => y (ix3 b n s)) _ (by omega) (by omega) ⟨_, _⟩ (by first | omega | (dsimp only; omega))
  by_cases h5 : q.val < 2624
  · refine Eq.trans (concatenate_apply_piece 2 _ _ (ix3 b n q) 5 (by exact (show 5 < 16 by decide)) S4x256x64 y14 rfl rfl 2560 (by simp) (ix3 b n (⟨q.val - 2560, by omega⟩ : Fin 64))
      (fun d hd => off_axis hd) (Nat.add_sub_of_le (by omega))) ((p14 _).trans ?_)
    exact leaf3 (fun s => y (ix3 b n s)) _ (by omega) (by omega) ⟨_, _⟩ (by first | omega | (dsimp only; omega))
  by_cases h6 : q.val < 2688
  · refine Eq.trans (concatenate_apply_piece 2 _ _ (ix3 b n q) 6 (by exact (show 6 < 16 by decide)) S4x256x64 y14 rfl rfl 2624 (by simp) (ix3 b n (⟨q.val - 2624, by omega⟩ : Fin 64))
      (fun d hd => off_axis hd) (Nat.add_sub_of_le (by omega))) ((p14 _).trans ?_)
    exact leaf4 (fun s => y (ix3 b n s)) _ (by omega) (by omega) ⟨_, _⟩ (by first | omega | (dsimp only; omega))
  by_cases h7 : q.val < 2752
  · refine Eq.trans (concatenate_apply_piece 2 _ _ (ix3 b n q) 7 (by exact (show 7 < 16 by decide)) S4x256x64 y15 rfl rfl 2688 (by simp) (ix3 b n (⟨q.val - 2688, by omega⟩ : Fin 64))
      (fun d hd => off_axis hd) (Nat.add_sub_of_le (by omega))) ((p15 _).trans ?_)
    exact leaf4 (fun s => y (ix3 b n s)) _ (by omega) (by omega) ⟨_, _⟩ (by first | omega | (dsimp only; omega))
  by_cases h8 : q.val < 2816
  · refine Eq.trans (concatenate_apply_piece 2 _ _ (ix3 b n q) 8 (by exact (show 8 < 16 by decide)) S4x256x64 y15 rfl rfl 2752 (by simp) (ix3 b n (⟨q.val - 2752, by omega⟩ : Fin 64))
      (fun d hd => off_axis hd) (Nat.add_sub_of_le (by omega))) ((p15 _).trans ?_)
    exact leaf5 (fun s => y (ix3 b n s)) _ (by omega) (by omega) ⟨_, _⟩ (by first | omega | (dsimp only; omega))
  by_cases h9 : q.val < 2880
  · refine Eq.trans (concatenate_apply_piece 2 _ _ (ix3 b n q) 9 (by exact (show 9 < 16 by decide)) S4x256x64 y16 rfl rfl 2816 (by simp) (ix3 b n (⟨q.val - 2816, by omega⟩ : Fin 64))
      (fun d hd => off_axis hd) (Nat.add_sub_of_le (by omega))) ((p16 _).trans ?_)
    exact leaf5 (fun s => y (ix3 b n s)) _ (by omega) (by omega) ⟨_, _⟩ (by first | omega | (dsimp only; omega))
  by_cases h10 : q.val < 2944
  · refine Eq.trans (concatenate_apply_piece 2 _ _ (ix3 b n q) 10 (by exact (show 10 < 16 by decide)) S4x256x64 y16 rfl rfl 2880 (by simp) (ix3 b n (⟨q.val - 2880, by omega⟩ : Fin 64))
      (fun d hd => off_axis hd) (Nat.add_sub_of_le (by omega))) ((p16 _).trans ?_)
    exact leaf6 (fun s => y (ix3 b n s)) _ (by omega) (by omega) ⟨_, _⟩ (by first | omega | (dsimp only; omega))
  by_cases h11 : q.val < 3008
  · refine Eq.trans (concatenate_apply_piece 2 _ _ (ix3 b n q) 11 (by exact (show 11 < 16 by decide)) S4x256x64 y17 rfl rfl 2944 (by simp) (ix3 b n (⟨q.val - 2944, by omega⟩ : Fin 64))
      (fun d hd => off_axis hd) (Nat.add_sub_of_le (by omega))) ((p17 _).trans ?_)
    exact leaf6 (fun s => y (ix3 b n s)) _ (by omega) (by omega) ⟨_, _⟩ (by first | omega | (dsimp only; omega))
  by_cases h12 : q.val < 3072
  · refine Eq.trans (concatenate_apply_piece 2 _ _ (ix3 b n q) 12 (by exact (show 12 < 16 by decide)) S4x256x64 y17 rfl rfl 3008 (by simp) (ix3 b n (⟨q.val - 3008, by omega⟩ : Fin 64))
      (fun d hd => off_axis hd) (Nat.add_sub_of_le (by omega))) ((p17 _).trans ?_)
    exact leaf7 (fun s => y (ix3 b n s)) _ (by omega) (by omega) ⟨_, _⟩ (by first | omega | (dsimp only; omega))
  by_cases h13 : q.val < 3584
  · refine Eq.trans (concatenate_apply_piece 2 _ _ (ix3 b n q) 13 (by exact (show 13 < 16 by decide)) S4x256x512 y9 rfl rfl 3072 (by simp) (ix3 b n (⟨q.val - 3072, by omega⟩ : Fin 512))
      (fun d hd => off_axis hd) (Nat.add_sub_of_le (by omega))) ((p9 _).trans ?_)
    exact leaf8 (fun s => y (ix3 b n s)) _ (by omega) (by omega) ⟨_, _⟩ (by first | omega | (dsimp only; omega))
  by_cases h14 : q.val < 4096
  · refine Eq.trans (concatenate_apply_piece 2 _ _ (ix3 b n q) 14 (by exact (show 14 < 16 by decide)) S4x256x512 y10 rfl rfl 3584 (by simp) (ix3 b n (⟨q.val - 3584, by omega⟩ : Fin 512))
      (fun d hd => off_axis hd) (Nat.add_sub_of_le (by omega))) ((p10 _).trans ?_)
    exact leaf8 (fun s => y (ix3 b n s)) _ (by omega) (by omega) ⟨_, _⟩ (by first | omega | (dsimp only; omega))
  refine Eq.trans (concatenate_apply_piece 2 _ _ (ix3 b n q) 15 (by exact (show 15 < 16 by decide)) S4x256x512 y13 rfl rfl 4096 (by simp) (ix3 b n (⟨q.val - 4096, by omega⟩ : Fin 512))
    (fun d hd => off_axis hd) (Nat.add_sub_of_le (by omega))) ((p13 _).trans ?_)
  exact leaf9 (fun s => y (ix3 b n s)) _ (by omega) (by omega) ⟨_, _⟩ (by first | omega | (dsimp only; omega))

theorem ctx23 (b : Fin 4) (n : Fin 256) (q : Fin 768) : val_main_v49 (F := Ideal) x1 x2 (ix3 b n q)
    = pick (fun s => val_main_v26 (F := Ideal) x1 x2 (ix3 b n s)) (place (4608 + q.val)) := by
  have p4 := ctx4 x1 x2 b n
  have p5 := ctx5 x1 x2 b n
  have p18 := ctx18 x1 x2 b n
  have p19 := ctx19 x1 x2 b n
  have p20 := ctx20 b n
  have p21 := ctx21 b n
  unfold val_main_v49
  generalize val_main_v30 (F := Ideal) x1 x2 = y4 at p4 ⊢
  generalize val_main_v31 (F := Ideal) x1 x2 = y5 at p5 ⊢
  generalize val_main_v44 (F := Ideal) x1 x2 = y18 at p18 ⊢
  generalize val_main_v45 (F := Ideal) x1 x2 = y19 at p19 ⊢
  generalize val_main_v46 (F := Ideal) = y20 at p20 ⊢
  generalize val_main_v47 (F := Ideal) = y21 at p21 ⊢
  generalize val_main_v26 (F := Ideal) x1 x2 = y at *
  by_cases h0 : q.val < 384
  · refine Eq.trans (concatenate_apply_piece 2 _ _ (ix3 b n q) 0 (by exact (show 0 < 10 by decide)) S4x256x384 y4 rfl rfl 0 (by simp) (ix3 b n (⟨q.val - 0, by omega⟩ : Fin 384))
      (fun d hd => off_axis hd) (Nat.add_sub_of_le (by omega))) ((p4 _).trans ?_)
    exact leaf10 (fun s => y (ix3 b n s)) _ (by omega) (by omega) ⟨_, _⟩ (by first | omega | (dsimp only; omega))
  by_cases h1 : q.val < 512
  · refine Eq.trans (concatenate_apply_piece 2 _ _ (ix3 b n q) 1 (by exact (show 1 < 10 by decide)) S4x256x128 y5 rfl rfl 384 (by simp) (ix3 b n (⟨q.val - 384, by omega⟩ : Fin 128))
      (fun d hd => off_axis hd) (Nat.add_sub_of_le (by omega))) ((p5 _).trans ?_)
    exact leaf10 (fun s => y (ix3 b n s)) _ (by omega) (by omega) ⟨_, _⟩ (by first | omega | (dsimp only; omega))
  by_cases h2 : q.val < 576
  · refine Eq.trans (concatenate_apply_piece 2 _ _ (ix3 b n q) 2 (by exact (show 2 < 10 by decide)) S4x256x64 y20 rfl rfl 512 (by simp) (ix3 b n (⟨q.val - 512, by omega⟩ : Fin 64))
      (fun d hd => off_axis hd) (Nat.add_sub_of_le (by omega))) ((p20 _).trans ?_)
    exact leaf11 _ _ (by omega) (by omega)
  by_cases h3 : q.val < 592
  · refine Eq.trans (concatenate_apply_piece 2 _ _ (ix3 b n q) 3 (by exact (show 3 < 10 by decide)) S4x256x16 y18 rfl rfl 576 (by simp) (ix3 b n (⟨q.val - 576, by omega⟩ : Fin 16))
      (fun d hd => off_axis hd) (Nat.add_sub_of_le (by omega))) ((p18 _).trans ?_)
    exact leaf12 (fun s => y (ix3 b n s)) _ (by omega) (by omega) ⟨_, _⟩ (by first | omega | (dsimp only; omega))
  by_cases h4 : q.val < 608
  · refine Eq.trans (concatenate_apply_piece 2 _ _ (ix3 b n q) 4 (by exact (show 4 < 10 by decide)) S4x256x16 y19 rfl rfl 592 (by simp) (ix3 b n (⟨q.val - 592, by omega⟩ : Fin 16))
      (fun d hd => off_axis hd) (Nat.add_sub_of_le (by omega))) ((p19 _).trans ?_)
    exact leaf12 (fun s => y (ix3 b n s)) _ (by omega) (by omega) ⟨_, _⟩ (by first | omega | (dsimp only; omega))
  by_cases h5 : q.val < 640
  · refine Eq.trans (concatenate_apply_piece 2 _ _ (ix3 b n q) 5 (by exact (show 5 < 10 by decide)) S4x256x32 y21 rfl rfl 608 (by simp) (ix3 b n (⟨q.val - 608, by omega⟩ : Fin 32))
      (fun d hd => off_axis hd) (Nat.add_sub_of_le (by omega))) ((p21 _).trans ?_)
    exact leaf13 _ _ (by omega) (by omega)
  by_cases h6 : q.val < 704
  · refine Eq.trans (concatenate_apply_piece 2 _ _ (ix3 b n q) 6 (by exact (show 6 < 10 by decide)) S4x256x64 y20 rfl rfl 640 (by simp) (ix3 b n (⟨q.val - 640, by omega⟩ : Fin 64))
      (fun d hd => off_axis hd) (Nat.add_sub_of_le (by omega))) ((p20 _).trans ?_)
    exact leaf13 _ _ (by omega) (by omega)
  by_cases h7 : q.val < 720
  · refine Eq.trans (concatenate_apply_piece 2 _ _ (ix3 b n q) 7 (by exact (show 7 < 10 by decide)) S4x256x16 y19 rfl rfl 704 (by simp) (ix3 b n (⟨q.val - 704, by omega⟩ : Fin 16))
      (fun d hd => off_axis hd) (Nat.add_sub_of_le (by omega))) ((p19 _).trans ?_)
    exact leaf14 (fun s => y (ix3 b n s)) _ (by omega) (by omega) ⟨_, _⟩ (by first | omega | (dsimp only; omega))
  by_cases h8 : q.val < 736
  · refine Eq.trans (concatenate_apply_piece 2 _ _ (ix3 b n q) 8 (by exact (show 8 < 10 by decide)) S4x256x16 y18 rfl rfl 720 (by simp) (ix3 b n (⟨q.val - 720, by omega⟩ : Fin 16))
      (fun d hd => off_axis hd) (Nat.add_sub_of_le (by omega))) ((p18 _).trans ?_)
    exact leaf15 (fun s => y (ix3 b n s)) _ (by omega) (by omega) ⟨_, _⟩ (by first | omega | (dsimp only; omega))
  refine Eq.trans (concatenate_apply_piece 2 _ _ (ix3 b n q) 9 (by exact (show 9 < 10 by decide)) S4x256x32 y21 rfl rfl 736 (by simp) (ix3 b n (⟨q.val - 736, by omega⟩ : Fin 32))
    (fun d hd => off_axis hd) (Nat.add_sub_of_le (by omega))) ((p21 _).trans ?_)
  exact leaf16 _ _ (by omega) (by omega)

/-- The stored columns of the projections of one token. -/
theorem cols_ctx (b : Fin 4) (n : Fin 256) (q : Fin 5376) : val_main_v50 (F := Ideal) x1 x2 (ix3 b n q)
    = pick (fun s => val_main_v26 (F := Ideal) x1 x2 (ix3 b n s)) (place q.val) := by
  have p22 := ctx22 x1 x2 b n
  have p23 := ctx23 x1 x2 b n
  unfold val_main_v50
  generalize val_main_v48 (F := Ideal) x1 x2 = y22 at p22 ⊢
  generalize val_main_v49 (F := Ideal) x1 x2 = y23 at p23 ⊢
  generalize val_main_v26 (F := Ideal) x1 x2 = y at *
  by_cases h : q.val < 4608
  · exact Eq.trans (concatenate_apply_piece 2 _ _ (ix3 b n q) 0 (by exact (show 0 < 2 by decide)) S4x256x4608 y22 rfl rfl 0 (by simp) (ix3 b n (⟨q.val, h⟩ : Fin 4608))
      (fun d hd => off_axis hd) (Nat.zero_add _)) (p22 _)
  · refine Eq.trans (concatenate_apply_piece 2 _ _ (ix3 b n q) 1 (by exact (show 1 < 2 by decide)) S4x256x768 y23 rfl rfl 4608 (by simp) (ix3 b n (⟨q.val - 4608, by omega⟩ : Fin 768))
      (fun d hd => off_axis hd) (Nat.add_sub_of_le (by omega))) ((p23 _).trans ?_)
    exact congrArg (fun z => pick _ (place z)) (Nat.add_sub_of_le (by omega))

end Cert.ProjIn
-- ==== Proof.InAt.lean ====
module

public import proofs.«01_k».proof.Proof.InCtx
public import proofs.«01_k».proof.Proof.InArr

@[expose] public section

set_option maxRecDepth 16384

noncomputable section

namespace Cert.ProjIn

open Cert.Reference4Ideal Cert.Reference4Ideal.Gen Cert.Reference4Ideal.Read Idealize.ShloMosaic Idealize.ShloMosaic.TcCoe Idealize.SL.Sem

variable (x0 : FVec Ideal S4x4096x2048 .f32) (x1 : FVec Ideal S4x256x2048 .f32) (x2 : FVec Ideal S2048x4896 .f32)

theorem dot_lat (b : Fin 4) (n : Fin 4096) (s : Fin 4896) : val_main_v0 (F := Ideal) x0 x2 (ix3 b n s)
    = ∑ k : Fin 2048, x0 (ix3 b n k) * x2 (ix2 k s) := by
  unfold val_main_v0
  pointwise

theorem dot_ctx (b : Fin 4) (n : Fin 256) (s : Fin 4896) : val_main_v26 (F := Ideal) x1 x2 (ix3 b n s)
    = ∑ k : Fin 2048, x1 (ix3 b n k) * x2 (ix2 k s) := by
  unfold val_main_v26
  pointwise

/-- The reference's result, row by row. -/
theorem ref_at (n : Fin 17408) (q : Fin 5376) : val_main_v53 (F := Ideal) x0 x1 x2 (ix2 n q)
    = ∑ k : Fin 2048, row x0 x1 n k * pick (fun s => x2 (ix2 k s)) (place q.val) := by
  have e : val_main_v53 (F := Ideal) x0 x1 x2 (ix2 n q)
      = if h : n.val < 16384 then val_main_v24 (F := Ideal) x0 x2 (ix3 ⟨n.val / 4096, by omega⟩ ⟨n.val % 4096, by omega⟩ q)
        else val_main_v50 (F := Ideal) x1 x2 (ix3 ⟨(n.val - 16384) / 256, by omega⟩ ⟨(n.val - 16384) % 256, by omega⟩ q) := by
    unfold val_main_v53 val_main_v52 val_main_v25 val_main_v51
    generalize val_main_v24 (F := Ideal) x0 x2 = y
    generalize val_main_v50 (F := Ideal) x1 x2 = z
    pointwise
  rw [e]
  refine Eq.trans ?_ (pick_sum (row x0 x1 n) (fun k s => x2 (ix2 k s)) (place q.val)).symm
  by_cases h : n.val < 16384
  · have r : row x0 x1 n = fun k => x0 (ix3 ⟨n.val / 4096, by omega⟩ ⟨n.val % 4096, by omega⟩ k) := funext fun k => by
      unfold row
      rw [dif_pos h]
    rw [dif_pos h, cols_lat, r]
    exact congrArg (fun f => pick f (place q.val)) (funext fun s => dot_lat x0 x2 _ _ s)
  · have r : row x0 x1 n = fun k => x1 (ix3 ⟨(n.val - 16384) / 256, by omega⟩ ⟨(n.val - 16384) % 256, by omega⟩ k) := funext fun k => by
      unfold row
      rw [dif_neg h]
    rw [dif_neg h, cols_ctx, r]
    exact congrArg (fun f => pick f (place q.val)) (funext fun s => dot_ctx x1 x2 _ _ s)

end Cert.ProjIn
-- ==== Proof.InClaim.lean ====
module

public import proofs.«01_k».proof.Defs
public import proofs.«01_k».proof.Proof.Gen.Kernel4Ideal
public import proofs.«01_k».proof.Proof.Gen.Kernel4Ideal.Frame
public import proofs.«01_k».proof.Proof.Gen.Reference4Ideal.Run
public import proofs.«01_k».proof.Proof.InArr
public import proofs.«01_k».proof.Proof.InAt
public import Idealize.ShloMosaic.Adequacy
public import Idealize.ShloMosaic.Init
public import Idealize.ShloMosaic.Lib.Claim

@[expose] public section

set_option maxRecDepth 16384

noncomputable section

namespace Cert.ProjIn

open Idealize.ShloMosaic Idealize.ShloMosaic.TcCoe Idealize.SL.Sem

section
open Cert.Kernel4Ideal Cert.Kernel4Ideal.Gen

/-- The reference's result is the kernel's. -/
theorem equal (m : (ℓ : Loc nD τ sig) → Buf (Elt Ideal) ℓ) (c : Dev nD) :
    Cert.Reference4Ideal.Read.val_main_v53 (F := Ideal) (m ((c : Thread nD τ).loc main_arg0)) (m ((c : Thread nD τ).loc main_arg1))
      (m ((c : Thread nD τ).loc main_arg2)) = resF m c := by
  funext x
  obtain ⟨n, q, ex⟩ : ∃ (n : Fin 17408) (q : Fin 5376), x = ix2 n q := ⟨x 0, x 1, by blk_ext⟩
  subst ex
  exact ref_at _ _ _ n q

end

/-- The reference ends with its arguments unchanged; it has no counters. -/
theorem reference_frame : Cert.quiescent_Reference4Ideal := by
  intro m ρ _
  exact (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference ends with its result read as a function of its arguments, which are unchanged. -/
theorem run_reference (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => ∀ c : Dev Cert.Reference4Ideal.nD,
      r.2.mem ((c.tc : Thread Cert.Reference4Ideal.nD Cert.Reference4Ideal.τ).loc Cert.Reference4Ideal.main_v53) = Cert.Reference4Ideal.Read.val_main_v53 (F := Ideal)
        (m ((c.tc : Thread Cert.Reference4Ideal.nD Cert.Reference4Ideal.τ).loc Cert.Reference4Ideal.main_arg0))
        (m ((c.tc : Thread Cert.Reference4Ideal.nD Cert.Reference4Ideal.τ).loc Cert.Reference4Ideal.main_arg1))
        (m ((c.tc : Thread Cert.Reference4Ideal.nD Cert.Reference4Ideal.τ).loc Cert.Reference4Ideal.main_arg2))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)) :=
  (θ_run (Cert.Reference4Ideal.defs (F := Ideal)) _ _).mono
    (fun r h c => ⟨(h c).1.trans (Cert.Reference4Ideal.Read.val_main_v53_eq (F := Ideal) m c), (h c).2⟩)
    (Cert.Reference4Ideal.Value.run (F := Ideal) m ρ)

/-- The reference's term is what the kernel's array ends holding, when the arguments agree. -/
theorem result (m : (ℓ : Loc Cert.Kernel4Ideal.nD Cert.Kernel4Ideal.τ Cert.Kernel4Ideal.sig) → Buf (Elt Ideal) ℓ) (c : Dev Cert.Kernel4Ideal.nD)
    (x0 : (⟨Cert.Reference4Ideal.S4x4096x2048, .f32⟩ : BufTy).Contents (Elt Ideal)) (x1 : (⟨Cert.Reference4Ideal.S4x256x2048, .f32⟩ : BufTy).Contents (Elt Ideal))
    (x2 : (⟨Cert.Reference4Ideal.S2048x4896, .f32⟩ : BufTy).Contents (Elt Ideal))
    (h : x0 = m ((c.tc : Thread Cert.Kernel4Ideal.nD Cert.Kernel4Ideal.τ).loc Cert.Kernel4Ideal.main_arg0) ∧ x1 = m ((c.tc : Thread Cert.Kernel4Ideal.nD Cert.Kernel4Ideal.τ).loc Cert.Kernel4Ideal.main_arg1) ∧ x2 = m ((c.tc : Thread Cert.Kernel4Ideal.nD Cert.Kernel4Ideal.τ).loc Cert.Kernel4Ideal.main_arg2)) :
    Cert.Reference4Ideal.Read.val_main_v53 (F := Ideal) x0 x1 x2 = (Cert.Kernel4Ideal.Gen.dats m 0 c).arrAt 2 (Cert.Kernel4Ideal.cfgs 0).N := by
  obtain ⟨rfl, rfl, rfl⟩ := h
  rw [arr2 m c, ← equal m c]

/-- The kernel's result is the reference's. -/
theorem values : Cert.algebraic_Kernel4Ideal_Reference4Ideal := by
  intro m g m' g' _ hagree
  refine ⟨fun c => (Cert.Kernel4Ideal.Gen.dats m 0 c).arrAt 2 (Cert.Kernel4Ideal.cfgs 0).N, Cert.Kernel4Ideal.Value.run_blocks m g, ?_⟩
  exact (θ_run (Cert.Reference4Ideal.defs (F := Ideal)) _ _).mono
    (fun r h c => ⟨(h c).1.trans (result m c _ _ _ (hagree c)), (h c).2⟩)
    (run_reference m' g')

end Cert.ProjIn
-- ==== Proof.OutArr.lean ====
module

public import Idealize.ShloMosaic.Lib.Pipeline.ValueKit
public import proofs.«01_k».proof.Proof.Gen.Kernel5Ideal.Value
public import Idealize.ShloMosaic.Lib.StableHlo.ReadAt
public import Idealize.ShloMosaic.Lib.Pipeline.ReadBack

@[expose] public section

set_option maxRecDepth 16384

noncomputable section

namespace Cert.ProjOut

open Cert.Kernel5Ideal Cert.Kernel5Ideal.Gen Idealize.ShloMosaic Idealize.ShloMosaic.TcCoe Idealize.SL.Sem

/-- Four rows side by side. -/
def side (a b c d : Fin 512 → EReal) (k : Fin 2048) : EReal :=
  if h : k.val < 512 then a ⟨k.val, h⟩
  else if h : k.val - 512 < 512 then b ⟨k.val - 512, h⟩
  else if h : k.val - 512 - 512 < 512 then c ⟨k.val - 512 - 512, h⟩
  else d ⟨k.val - 512 - 512 - 512, by omega⟩

/-- One entry of a block: a row of the four mixers, side by side, times a column of the weights. -/
theorem step (x0 x1 x2 x3 : FVec Ideal S1024x512 .bf16) (w : FVec Ideal S2048x2048 .bf16) (j : S1024x2048.Idx) :
    k0_pay1 (F := Ideal) x0 x1 x2 x3 w j
      = ∑ k : Fin 2048, side (fun e => x0 (ix2 (j 0) e)) (fun e => x1 (ix2 (j 0) e)) (fun e => x2 (ix2 (j 0) e)) (fun e => x3 (ix2 (j 0) e)) k
          * w (ix2 k (j 1)) := by
  pointwise [k0_pay1]
  rfl

variable (m : (ℓ : Loc nD τ sig) → Buf (Elt Ideal) ℓ)

/-- Row `n` of a mixer's latent tokens above its context tokens. -/
def row (lat : S4x4096x512.Idx → EReal) (ctx : S4x256x512.Idx → EReal) (n : Fin 17408) (k : Fin 512) : EReal :=
  if h : n.val < 16384 then lat (ix3 ⟨n.val / 4096, by omega⟩ ⟨n.val % 4096, by omega⟩ k)
  else ctx (ix3 ⟨(n.val - 16384) / 256, by omega⟩ ⟨(n.val - 16384) % 256, by omega⟩ k)

theorem rows0 (c : Dev nD) (n : Fin 17408) (k : Fin 512) : (V m c main_v3 : S17408x512.Idx → EReal) (ix2 n k)
    = row (m ((c : Thread nD τ).loc main_arg0)) (m ((c : Thread nD τ).loc main_arg4)) n k := by
  after_reads_at
  unfold row
  by_cases hn : n.val < 16384
  · rw [dif_pos hn, dif_pos hn]
    after_reads_at
  · rw [dif_neg hn, dif_neg hn]
    after_reads_at

theorem rows1 (c : Dev nD) (n : Fin 17408) (k : Fin 512) : (V m c main_v7 : S17408x512.Idx → EReal) (ix2 n k)
    = row (m ((c : Thread nD τ).loc main_arg1)) (m ((c : Thread nD τ).loc main_arg5)) n k := by
  after_reads_at
  unfold row
  by_cases hn : n.val < 16384
  · rw [dif_pos hn, dif_pos hn]
    after_reads_at
  · rw [dif_neg hn, dif_neg hn]
    after_reads_at

theorem rows2 (c : Dev nD) (n : Fin 17408) (k : Fin 512) : (V m c main_v11 : S17408x512.Idx → EReal) (ix2 n k)
    = row (m ((c : Thread nD τ).loc main_arg2)) (m ((c : Thread nD τ).loc main_arg6)) n k := by
  after_reads_at
  unfold row
  by_cases hn : n.val < 16384
  · rw [dif_pos hn, dif_pos hn]
    after_reads_at
  · rw [dif_neg hn, dif_neg hn]
    after_reads_at

theorem rows3 (c : Dev nD) (n : Fin 17408) (k : Fin 512) : (V m c main_v15 : S17408x512.Idx → EReal) (ix2 n k)
    = row (m ((c : Thread nD τ).loc main_arg3)) (m ((c : Thread nD τ).loc main_arg7)) n k := by
  after_reads_at
  unfold row
  by_cases hn : n.val < 16384
  · rw [dif_pos hn, dif_pos hn]
    after_reads_at
  · rw [dif_neg hn, dif_neg hn]
    after_reads_at

/-- The weights the call is given. -/
theorem weights (c : Dev nD) (k q : Fin 2048) : (V m c main_v16 : S2048x2048.Idx → EReal) (ix2 k q)
    = (m ((c : Thread nD τ).loc main_arg8) : S2048x2048.Idx → EReal) (ix2 k q) := by
  after_reads_at

theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![t.val, 0] :=
  (by decide +kernel : ∀ t : Fin grid0.N, _)

/-- What the kernel's array ends holding. -/
def resF (c : Dev nD) (x : S17408x2048.Idx) : EReal :=
  ∑ k : Fin 2048, side (row (m ((c : Thread nD τ).loc main_arg0)) (m ((c : Thread nD τ).loc main_arg4)) (x 0))
      (row (m ((c : Thread nD τ).loc main_arg1)) (m ((c : Thread nD τ).loc main_arg5)) (x 0))
      (row (m ((c : Thread nD τ).loc main_arg2)) (m ((c : Thread nD τ).loc main_arg6)) (x 0))
      (row (m ((c : Thread nD τ).loc main_arg3)) (m ((c : Thread nD τ).loc main_arg7)) (x 0)) k
    * (m ((c : Thread nD τ).loc main_arg8) : S2048x2048.Idx → EReal) (ix2 k (x 1))

/-- The block a grid point writes back. -/
theorem out_at (c : Dev nD) (t : Fin cfg0.N) (j : S1024x2048.Idx) (x : S17408x2048.Idx)
    (h0 : (x 0).val = t.val * 1024 + (j 0).val) (h1 : x 1 = j 1) :
    out0_5 (iblk m c 0 t) (iblk m c 1 t) (iblk m c 2 t) (iblk m c 3 t) (iblk m c 4 t) j = resF m c x := by
  obtain ⟨i0, i1, i2, i3, i4, -⟩ := idx t
  have e0 : ∀ k : Fin 512, (iblk m c 0 t : S1024x512.Idx → EReal) (ix2 (j 0) k)
      = row (m ((c : Thread nD τ).loc main_arg0)) (m ((c : Thread nD τ).loc main_arg4)) (x 0) k := fun k => by
    refine Eq.trans ?_ (rows0 m c (x 0) k)
    blk_ext [iblk, i0]
  have e1 : ∀ k : Fin 512, (iblk m c 1 t : S1024x512.Idx → EReal) (ix2 (j 0) k)
      = row (m ((c : Thread nD τ).loc main_arg1)) (m ((c : Thread nD τ).loc main_arg5)) (x 0) k := fun k => by
    refine Eq.trans ?_ (rows1 m c (x 0) k)
    blk_ext [iblk, i1]
  have e2 : ∀ k : Fin 512, (iblk m c 2 t : S1024x512.Idx → EReal) (ix2 (j 0) k)
      = row (m ((c : Thread nD τ).loc main_arg2)) (m ((c : Thread nD τ).loc main_arg6)) (x 0) k := fun k => by
    refine Eq.trans ?_ (rows2 m c (x 0) k)
    blk_ext [iblk, i2]
  have e3 : ∀ k : Fin 512, (iblk m c 3 t : S1024x512.Idx → EReal) (ix2 (j 0) k)
      = row (m ((c : Thread nD τ).loc main_arg3)) (m ((c : Thread nD τ).loc main_arg7)) (x 0) k := fun k => by
    refine Eq.trans ?_ (rows3 m c (x 0) k)
    blk_ext [iblk, i3]
  have e4 : ∀ k : Fin 2048, (iblk m c 4 t : S2048x2048.Idx → EReal) (ix2 k (j 1))
      = (m ((c : Thread nD τ).loc main_arg8) : S2048x2048.Idx → EReal) (ix2 k (x 1)) := fun k => by
    rw [h1]
    refine Eq.trans ?_ (weights m c k (j 1))
    blk_ext [iblk, i4]
  unfold out0_5
  frame_out
  rw [step]
  unfold resF
  refine Finset.sum_congr rfl fun k _ => ?_
  rw [funext e0, funext e1, funext e2, funext e3, e4]

theorem arr5 (c : Dev nD) : (dats m 0 c).arrAt 5 (cfgs 0).N = resF m c := by
  refine (dats m 0 c).arrAt_eq_of_covers 5 _ (by decide +kernel) fun t hf y => ?_
  blk_simp
  rw [after0_5]
  refine out_at m c t _ _ ?_ ?_
  · blk_simp [(idx t).2.2.2.2.2]
  · refine Fin.ext ?_
    blk_simp [(idx t).2.2.2.2.2]

end Cert.ProjOut
-- ==== Proof.OutRef.lean ====
module

public import proofs.«01_k».proof.Proof.Gen.Reference5Ideal.Read
public import proofs.«01_k».proof.Proof.OutArr

@[expose] public section

set_option maxRecDepth 16384

noncomputable section

namespace Cert.ProjOut

open Cert.Reference5Ideal Cert.Reference5Ideal.Gen Cert.Reference5Ideal.Read Idealize.ShloMosaic Idealize.ShloMosaic.TcCoe Idealize.SL.Sem

variable (x0 x1 x2 x3 : FVec Ideal S4x4096x512 .f32) (x4 x5 x6 x7 : FVec Ideal S4x256x512 .f32) (x8 : FVec Ideal S2048x2048 .f32)

theorem side_lat (b : Fin 4) (n : Fin 4096) (k : Fin 2048) : val_main_v0 (F := Ideal) x0 x1 x2 x3 (ix3 b n k)
    = side (fun e => x0 (ix3 b n e)) (fun e => x1 (ix3 b n e)) (fun e => x2 (ix3 b n e)) (fun e => x3 (ix3 b n e)) k := by
  pointwise [val_main_v0]
  rfl

theorem side_ctx (b : Fin 4) (n : Fin 256) (k : Fin 2048) : val_main_v2 (F := Ideal) x4 x5 x6 x7 (ix3 b n k)
    = side (fun e => x4 (ix3 b n e)) (fun e => x5 (ix3 b n e)) (fun e => x6 (ix3 b n e)) (fun e => x7 (ix3 b n e)) k := by
  pointwise [val_main_v2]
  rfl

theorem out_lat (b : Fin 4) (n : Fin 4096) (q : Fin 2048) : val_main_v1 (F := Ideal) x0 x1 x2 x3 x8 (ix3 b n q)
    = ∑ k : Fin 2048, side (fun e => x0 (ix3 b n e)) (fun e => x1 (ix3 b n e)) (fun e => x2 (ix3 b n e)) (fun e => x3 (ix3 b n e)) k
        * x8 (ix2 k q) := by
  have e : val_main_v1 (F := Ideal) x0 x1 x2 x3 x8 (ix3 b n q)
      = ∑ k : Fin 2048, val_main_v0 (F := Ideal) x0 x1 x2 x3 (ix3 b n k) * x8 (ix2 k q) := by
    unfold val_main_v1
    generalize val_main_v0 (F := Ideal) x0 x1 x2 x3 = y
    pointwise
  rw [e]
  exact Finset.sum_congr rfl fun k _ => by rw [side_lat]

theorem out_ctx (b : Fin 4) (n : Fin 256) (q : Fin 2048) : val_main_v3 (F := Ideal) x4 x5 x6 x7 x8 (ix3 b n q)
    = ∑ k : Fin 2048, side (fun e => x4 (ix3 b n e)) (fun e => x5 (ix3 b n e)) (fun e => x6 (ix3 b n e)) (fun e => x7 (ix3 b n e)) k
        * x8 (ix2 k q) := by
  have e : val_main_v3 (F := Ideal) x4 x5 x6 x7 x8 (ix3 b n q)
      = ∑ k : Fin 2048, val_main_v2 (F := Ideal) x4 x5 x6 x7 (ix3 b n k) * x8 (ix2 k q) := by
    unfold val_main_v3
    generalize val_main_v2 (F := Ideal) x4 x5 x6 x7 = y
    pointwise
  rw [e]
  exact Finset.sum_congr rfl fun k _ => by rw [side_ctx]

/-- The reference's result, row by row. -/
theorem ref_at (n : Fin 17408) (q : Fin 2048) : val_main_v7 (F := Ideal) x0 x1 x2 x3 x4 x5 x6 x7 x8 (ix2 n q)
    = ∑ k : Fin 2048, side (row x0 x4 n) (row x1 x5 n) (row x2 x6 n) (row x3 x7 n) k * x8 (ix2 k q) := by
  have e : val_main_v7 (F := Ideal) x0 x1 x2 x3 x4 x5 x6 x7 x8 (ix2 n q)
      = if h : n.val < 16384 then val_main_v1 (F := Ideal) x0 x1 x2 x3 x8 (ix3 ⟨n.val / 4096, by omega⟩ ⟨n.val % 4096, by omega⟩ q)
        else val_main_v3 (F := Ideal) x4 x5 x6 x7 x8 (ix3 ⟨(n.val - 16384) / 256, by omega⟩ ⟨(n.val - 16384) % 256, by omega⟩ q) := by
    unfold val_main_v7 val_main_v6 val_main_v4 val_main_v5
    generalize val_main_v1 (F := Ideal) x0 x1 x2 x3 x8 = y
    generalize val_main_v3 (F := Ideal) x4 x5 x6 x7 x8 = z
    pointwise
  rw [e]
  by_cases h : n.val < 16384
  · have r : ∀ (a : FVec Ideal S4x4096x512 .f32) (b : FVec Ideal S4x256x512 .f32),
        row a b n = fun k => a (ix3 ⟨n.val / 4096, by omega⟩ ⟨n.val % 4096, by omega⟩ k) := fun a b => funext fun k => by
      unfold row
      rw [dif_pos h]
    rw [dif_pos h, out_lat, r, r, r, r]
  · have r : ∀ (a : FVec Ideal S4x4096x512 .f32) (b : FVec Ideal S4x256x512 .f32),
        row a b n = fun k => b (ix3 ⟨(n.val - 16384) / 256, by omega⟩ ⟨(n.val - 16384) % 256, by omega⟩ k) := fun a b => funext fun k => by
      unfold row
      rw [dif_neg h]
    rw [dif_neg h, out_ctx, r, r, r, r]

end Cert.ProjOut
-- ==== Proof.OutClaim.lean ====
module

public import proofs.«01_k».proof.Defs
public import proofs.«01_k».proof.Proof.Gen.Kernel5Ideal
public import proofs.«01_k».proof.Proof.Gen.Kernel5Ideal.Frame
public import proofs.«01_k».proof.Proof.Gen.Reference5Ideal.Run
public import proofs.«01_k».proof.Proof.OutArr
public import proofs.«01_k».proof.Proof.OutRef
public import Idealize.ShloMosaic.Adequacy
public import Idealize.ShloMosaic.Init
public import Idealize.ShloMosaic.Lib.Claim

@[expose] public section

set_option maxRecDepth 16384

noncomputable section

namespace Cert.ProjOut

open Idealize.ShloMosaic Idealize.ShloMosaic.TcCoe Idealize.SL.Sem

section
open Cert.Kernel5Ideal Cert.Kernel5Ideal.Gen

/-- The reference's result is the kernel's. -/
theorem equal (m : (ℓ : Loc nD τ sig) → Buf (Elt Ideal) ℓ) (c : Dev nD) :
    Cert.Reference5Ideal.Read.val_main_v7 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = resF m c := by
  funext x
  obtain ⟨n, q, ex⟩ : ∃ (n : Fin 17408) (q : Fin 2048), x = ix2 n q := ⟨x 0, x 1, by blk_ext⟩
  subst ex
  exact ref_at _ _ _ _ _ _ _ _ _ n q

end

/-- The reference ends with its arguments unchanged; it has no counters. -/
theorem reference_frame : Cert.quiescent_Reference5Ideal := by
  intro m ρ _
  exact (θ_run Cert.Reference5Ideal.defs _ _).mono (fun r h => ⟨fun c => (h c).2, Idealize.ShloMosaic.sem_eq_zero_of_no_sems (by decide) r.2⟩)
    (Cert.Reference5Ideal.Value.run (F := Ideal) m ρ)

/-- The reference ends with its result read as a function of its arguments, which are unchanged. -/
theorem run_reference (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => ∀ c : Dev Cert.Reference5Ideal.nD,
      r.2.mem ((c.tc : Thread Cert.Reference5Ideal.nD Cert.Reference5Ideal.τ).loc Cert.Reference5Ideal.main_v7) = Cert.Reference5Ideal.Read.val_main_v7 (F := Ideal)
        (m ((c.tc : Thread Cert.Reference5Ideal.nD Cert.Reference5Ideal.τ).loc Cert.Reference5Ideal.main_arg0))
        (m ((c.tc : Thread Cert.Reference5Ideal.nD Cert.Reference5Ideal.τ).loc Cert.Reference5Ideal.main_arg1))
        (m ((c.tc : Thread Cert.Reference5Ideal.nD Cert.Reference5Ideal.τ).loc Cert.Reference5Ideal.main_arg2))
        (m ((c.tc : Thread Cert.Reference5Ideal.nD Cert.Reference5Ideal.τ).loc Cert.Reference5Ideal.main_arg3))
        (m ((c.tc : Thread Cert.Reference5Ideal.nD Cert.Reference5Ideal.τ).loc Cert.Reference5Ideal.main_arg4))
        (m ((c.tc : Thread Cert.Reference5Ideal.nD Cert.Reference5Ideal.τ).loc Cert.Reference5Ideal.main_arg5))
        (m ((c.tc : Thread Cert.Reference5Ideal.nD Cert.Reference5Ideal.τ).loc Cert.Reference5Ideal.main_arg6))
        (m ((c.tc : Thread Cert.Reference5Ideal.nD Cert.Reference5Ideal.τ).loc Cert.Reference5Ideal.main_arg7))
        (m ((c.tc : Thread Cert.Reference5Ideal.nD Cert.Reference5Ideal.τ).loc Cert.Reference5Ideal.main_arg8))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)) :=
  (θ_run (Cert.Reference5Ideal.defs (F := Ideal)) _ _).mono
    (fun r h c => ⟨(h c).1.trans (Cert.Reference5Ideal.Read.val_main_v7_eq (F := Ideal) _ _ _ _ _ _ _ _ _), (h c).2⟩)
    (Cert.Reference5Ideal.Value.run (F := Ideal) m ρ)

/-- The reference's term is what the kernel's array ends holding, when the arguments agree. -/
theorem result (m : (ℓ : Loc Cert.Kernel5Ideal.nD Cert.Kernel5Ideal.τ Cert.Kernel5Ideal.sig) → Buf (Elt Ideal) ℓ) (c : Dev Cert.Kernel5Ideal.nD)
    (x0 x1 x2 x3 : (⟨Cert.Reference5Ideal.S4x4096x512, .f32⟩ : BufTy).Contents (Elt Ideal)) (x4 x5 x6 x7 : (⟨Cert.Reference5Ideal.S4x256x512, .f32⟩ : BufTy).Contents (Elt Ideal))
    (x8 : (⟨Cert.Reference5Ideal.S2048x2048, .f32⟩ : BufTy).Contents (Elt Ideal))
    (h : x0 = m ((c.tc : Thread Cert.Kernel5Ideal.nD Cert.Kernel5Ideal.τ).loc Cert.Kernel5Ideal.main_arg0) ∧ x1 = m ((c.tc : Thread Cert.Kernel5Ideal.nD Cert.Kernel5Ideal.τ).loc Cert.Kernel5Ideal.main_arg1) ∧ x2 = m ((c.tc : Thread Cert.Kernel5Ideal.nD Cert.Kernel5Ideal.τ).loc Cert.Kernel5Ideal.main_arg2) ∧ x3 = m ((c.tc : Thread Cert.Kernel5Ideal.nD Cert.Kernel5Ideal.τ).loc Cert.Kernel5Ideal.main_arg3) ∧ x4 = m ((c.tc : Thread Cert.Kernel5Ideal.nD Cert.Kernel5Ideal.τ).loc Cert.Kernel5Ideal.main_arg4) ∧ x5 = m ((c.tc : Thread Cert.Kernel5Ideal.nD Cert.Kernel5Ideal.τ).loc Cert.Kernel5Ideal.main_arg5) ∧ x6 = m ((c.tc : Thread Cert.Kernel5Ideal.nD Cert.Kernel5Ideal.τ).loc Cert.Kernel5Ideal.main_arg6) ∧ x7 = m ((c.tc : Thread Cert.Kernel5Ideal.nD Cert.Kernel5Ideal.τ).loc Cert.Kernel5Ideal.main_arg7) ∧ x8 = m ((c.tc : Thread Cert.Kernel5Ideal.nD Cert.Kernel5Ideal.τ).loc Cert.Kernel5Ideal.main_arg8)) :
    Cert.Reference5Ideal.Read.val_main_v7 (F := Ideal) x0 x1 x2 x3 x4 x5 x6 x7 x8 = (Cert.Kernel5Ideal.Gen.dats m 0 c).arrAt 5 (Cert.Kernel5Ideal.cfgs 0).N := by
  obtain ⟨rfl, rfl, rfl, rfl, rfl, rfl, rfl, rfl, rfl⟩ := h
  rw [arr5 m c, ← equal m c]

/-- The kernel's result is the reference's. -/
theorem values : Cert.algebraic_Kernel5Ideal_Reference5Ideal := by
  intro m g m' g' _ hagree
  refine ⟨fun c => (Cert.Kernel5Ideal.Gen.dats m 0 c).arrAt 5 (Cert.Kernel5Ideal.cfgs 0).N, Cert.Kernel5Ideal.Value.run_blocks m g, ?_⟩
  exact (θ_run (Cert.Reference5Ideal.defs (F := Ideal)) _ _).mono
    (fun r h c => ⟨(h c).1.trans (result m c _ _ _ _ _ _ _ _ _ (hagree c)), (h c).2⟩)
    (run_reference m' g')

end Cert.ProjOut
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_experts
public import proofs.«01_k».proof.Proof.Gen.Pre_finite
public import proofs.«01_k».proof.Proof.Finite
public import proofs.«01_k».proof.Proof.Equal
public import proofs.«01_k».proof.Proof.DenseClaim
public import proofs.«01_k».proof.Proof.ExpertClaim
public import proofs.«01_k».proof.Proof.InClaim
public import proofs.«01_k».proof.Proof.OutClaim
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The shape facts the precondition's text states. -/
theorem finite_facts : Cert.Pre_finite.Facts where
  bcast_S_S4x4096x8x64 := by decide
  reducesTo_S4x4096x8x64_S_d0_1_2_3 := by decide
  h_S_ := by decide
  bcast_S_S4x256x8x64 := by decide
  reducesTo_S4x256x8x64_S_d0_1_2_3 := by decide

attribute [local instance] finite_facts

/-- The reference ends with its arguments unchanged; it has no counters. -/
theorem reference_frame : Cert.quiescent_ReferenceIdeal := by
  intro m ρ _
  exact (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- Result 0: the reference's term is what the kernel's array ends holding. -/
theorem result0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v40 m' c = (Cert.KernelIdeal.Gen.dats m 0 c).arrAt 7 (Cert.KernelIdeal.cfgs 0).N := by
  obtain ⟨a0, a1, a2, a3, a4, a5, a6⟩ := h
  have e := Cert.Retention.equal0 m c (Cert.Retention.real6 m hpre c)
  rw [Cert.Retention.arr7 m c (Cert.Retention.real6 m hpre c), ← e]
  refine (Cert.ReferenceIdeal.Read.val_main_v40_eq (F := Ideal) m' c).trans ?_
  erw [a0, a1, a2, a3, a4, a5, a6]

/-- Result 1: the reference's term is what the kernel's array ends holding. -/
theorem result1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v83 m' c = (Cert.KernelIdeal.Gen.dats m 0 c).arrAt 8 (Cert.KernelIdeal.cfgs 0).N := by
  obtain ⟨a0, a1, a2, a3, a4, a5, a6⟩ := h
  have e := Cert.Retention.equal1 m c (Cert.Retention.real6 m hpre c)
  rw [Cert.Retention.arr8 m c (Cert.Retention.real6 m hpre c), ← e]
  refine (Cert.ReferenceIdeal.Read.val_main_v83_eq (F := Ideal) m' c).trans ?_
  erw [a0, a1, a2, a3, a4, a5, a6]

/-- The kernel's two results are the reference's. -/
theorem values : Cert.algebraic_KernelIdeal_ReferenceIdeal_pre_finite := by
  pair_intro
  · run_from Cert.KernelIdeal.Gen.run_main m g
  · run_from Cert.ReferenceIdeal.Value.run m' g'
    · exact result0 m m' hpre c (hagree c)
    · exact result1 m m' hpre c (hagree c)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, finite_facts, Cert.Pre_experts.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ h => Cert.Kernel2.Gen.frame m ρ (Cert.Experts.ok_bits m h), fun m ρ h => Cert.Kernel2Ideal.Gen.frame m ρ (Cert.Experts.ok_ideal m h),
  Cert.Experts.reference_frame, fun m ρ _ => Cert.Experts.reference_frame m ρ trivial,
  fun m ρ _ => Cert.Kernel3.Gen.frame m ρ, fun m ρ _ => Cert.Kernel3Ideal.Gen.frame m ρ, Cert.Dense.reference_frame,
  fun m ρ _ => Cert.Kernel4.Gen.frame m ρ, fun m ρ _ => Cert.Kernel4Ideal.Gen.frame m ρ, Cert.ProjIn.reference_frame,
  fun m ρ _ => Cert.Kernel5.Gen.frame m ρ, fun m ρ _ => Cert.Kernel5Ideal.Gen.frame m ρ, Cert.ProjOut.reference_frame,
  trivial, values, trivial, Cert.Experts.values, trivial, Cert.Dense.values,
  trivial, Cert.ProjIn.values, trivial, Cert.ProjOut.values⟩

end Cert.Proof

end
